-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S128x2048 : Shape := ⟨2, ![128, 2048]⟩
abbrev S128x4096 : Shape := ⟨2, ![128, 4096]⟩
abbrev S32x128 : Shape := ⟨2, ![32, 128]⟩
abbrev S6x512x2048 : Shape := ⟨3, ![6, 512, 2048]⟩
abbrev S32 : Shape := ⟨1, ![32]⟩
abbrev S6 : Shape := ⟨1, ![6]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S128x128 : Shape := ⟨2, ![128, 128]⟩
abbrev S128x512 : Shape := ⟨2, ![128, 512]⟩
abbrev S1x128x2048 : Shape := ⟨3, ![1, 128, 2048]⟩
abbrev S1x1x1 : Shape := ⟨3, ![1, 1, 1]⟩
abbrev S1x128 : Shape := ⟨2, ![1, 128]⟩
abbrev S1x32x128 : Shape := ⟨3, ![1, 32, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S4096x128, .bf16⟩
  | .local _ .vmem, ⟨3, _⟩ => ⟨S128x4096, .bf16⟩
  | .local _ .vmem, ⟨4, _⟩ => ⟨S32x128, .f32⟩
  | .local _ .vmem, ⟨5, _⟩ => ⟨S6x512x2048, .f32⟩
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 2 → Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_148 : BitVec 32 := 128#32
  let v155 : BitVec 32 := Scalar.muli v2 c128_i32_148
  ![0, v155.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v154 : BitVec 32 := Scalar.muli v2 c128_i32
  let c0_i32_150 : BitVec 32 := 0#32
  ![v154.toNat, 0]
def k0_off4 (d0 : Dev nD) (c1_i32_152 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v160 : BitVec 32 := Scalar.addi v2 c1_i32_152
  let c32_i32_153 : BitVec 32 := 32#32
  let v161 : BitVec 32 := Scalar.remsi v160 c32_i32_153
  let c128_i32_154 : BitVec 32 := 128#32
  let v162 : BitVec 32 := Scalar.muli v161 c128_i32_154
  let c0_i32_160 : BitVec 32 := 0#32
  ![v162.toNat, 0]
def k0_dev32 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_152 : BitVec 32 := 1#32
  let v160 : BitVec 32 := Scalar.addi v2 c1_i32_152
  let c32_i32_153 : BitVec 32 := 32#32
  let v161 : BitVec 32 := Scalar.remsi v160 c32_i32_153
  let c1_i32_157 : BitVec 32 := 1#32
  let v164 : BitVec 32 := Scalar.muli v161 c1_i32_157
  let v165 : BitVec 32 := Scalar.addi c0_i32_158 v164
  v165.toNat
def k0_dev33 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_161 : BitVec 32 := 2#32
  let v172 : BitVec 32 := Scalar.addi v2 c2_i32_161
  let c32_i32_162 : BitVec 32 := 32#32
  let v173 : BitVec 32 := Scalar.remsi v172 c32_i32_162
  let c1_i32_166 : BitVec 32 := 1#32
  let v176 : BitVec 32 := Scalar.muli v173 c1_i32_166
  let v177 : BitVec 32 := Scalar.addi c0_i32_167 v176
  v177.toNat
def k0_dev34 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_170 : BitVec 32 := 3#32
  let v184 : BitVec 32 := Scalar.addi v2 c3_i32_170
  let c32_i32_171 : BitVec 32 := 32#32
  let v185 : BitVec 32 := Scalar.remsi v184 c32_i32_171
  let c1_i32_175 : BitVec 32 := 1#32
  let v188 : BitVec 32 := Scalar.muli v185 c1_i32_175
  let v189 : BitVec 32 := Scalar.addi c0_i32_176 v188
  v189.toNat
def k0_dev35 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_179 : BitVec 32 := 4#32
  let v196 : BitVec 32 := Scalar.addi v2 c4_i32_179
  let c32_i32_180 : BitVec 32 := 32#32
  let v197 : BitVec 32 := Scalar.remsi v196 c32_i32_180
  let c1_i32_184 : BitVec 32 := 1#32
  let v200 : BitVec 32 := Scalar.muli v197 c1_i32_184
  let v201 : BitVec 32 := Scalar.addi c0_i32_185 v200
  v201.toNat
def k0_dev36 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_188 : BitVec 32 := 5#32
  let v208 : BitVec 32 := Scalar.addi v2 c5_i32_188
  let c32_i32_189 : BitVec 32 := 32#32
  let v209 : BitVec 32 := Scalar.remsi v208 c32_i32_189
  let c1_i32_193 : BitVec 32 := 1#32
  let v212 : BitVec 32 := Scalar.muli v209 c1_i32_193
  let v213 : BitVec 32 := Scalar.addi c0_i32_194 v212
  v213.toNat
def k0_dev37 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_197 : BitVec 32 := 6#32
  let v220 : BitVec 32 := Scalar.addi v2 c6_i32_197
  let c32_i32_198 : BitVec 32 := 32#32
  let v221 : BitVec 32 := Scalar.remsi v220 c32_i32_198
  let c1_i32_202 : BitVec 32 := 1#32
  let v224 : BitVec 32 := Scalar.muli v221 c1_i32_202
  let v225 : BitVec 32 := Scalar.addi c0_i32_203 v224
  v225.toNat
def k0_dev38 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_206 : BitVec 32 := 7#32
  let v232 : BitVec 32 := Scalar.addi v2 c7_i32_206
  let c32_i32_207 : BitVec 32 := 32#32
  let v233 : BitVec 32 := Scalar.remsi v232 c32_i32_207
  let c1_i32_211 : BitVec 32 := 1#32
  let v236 : BitVec 32 := Scalar.muli v233 c1_i32_211
  let v237 : BitVec 32 := Scalar.addi c0_i32_212 v236
  v237.toNat
def k0_dev39 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_215 : BitVec 32 := 8#32
  let v244 : BitVec 32 := Scalar.addi v2 c8_i32_215
  let c32_i32_216 : BitVec 32 := 32#32
  let v245 : BitVec 32 := Scalar.remsi v244 c32_i32_216
  let c1_i32_220 : BitVec 32 := 1#32
  let v248 : BitVec 32 := Scalar.muli v245 c1_i32_220
  let v249 : BitVec 32 := Scalar.addi c0_i32_221 v248
  v249.toNat
def k0_dev40 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_224 : BitVec 32 := 9#32
  let v256 : BitVec 32 := Scalar.addi v2 c9_i32_224
  let c32_i32_225 : BitVec 32 := 32#32
  let v257 : BitVec 32 := Scalar.remsi v256 c32_i32_225
  let c1_i32_229 : BitVec 32 := 1#32
  let v260 : BitVec 32 := Scalar.muli v257 c1_i32_229
  let v261 : BitVec 32 := Scalar.addi c0_i32_230 v260
  v261.toNat
def k0_dev41 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_233 : BitVec 32 := 10#32
  let v268 : BitVec 32 := Scalar.addi v2 c10_i32_233
  let c32_i32_234 : BitVec 32 := 32#32
  let v269 : BitVec 32 := Scalar.remsi v268 c32_i32_234
  let c1_i32_238 : BitVec 32 := 1#32
  let v272 : BitVec 32 := Scalar.muli v269 c1_i32_238
  let v273 : BitVec 32 := Scalar.addi c0_i32_239 v272
  v273.toNat
def k0_dev42 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_242 : BitVec 32 := 11#32
  let v280 : BitVec 32 := Scalar.addi v2 c11_i32_242
  let c32_i32_243 : BitVec 32 := 32#32
  let v281 : BitVec 32 := Scalar.remsi v280 c32_i32_243
  let c1_i32_247 : BitVec 32 := 1#32
  let v284 : BitVec 32 := Scalar.muli v281 c1_i32_247
  let v285 : BitVec 32 := Scalar.addi c0_i32_248 v284
  v285.toNat
def k0_dev43 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_251 : BitVec 32 := 12#32
  let v292 : BitVec 32 := Scalar.addi v2 c12_i32_251
  let c32_i32_252 : BitVec 32 := 32#32
  let v293 : BitVec 32 := Scalar.remsi v292 c32_i32_252
  let c1_i32_256 : BitVec 32 := 1#32
  let v296 : BitVec 32 := Scalar.muli v293 c1_i32_256
  let v297 : BitVec 32 := Scalar.addi c0_i32_257 v296
  v297.toNat
def k0_dev44 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_260 : BitVec 32 := 13#32
  let v304 : BitVec 32 := Scalar.addi v2 c13_i32_260
  let c32_i32_261 : BitVec 32 := 32#32
  let v305 : BitVec 32 := Scalar.remsi v304 c32_i32_261
  let c1_i32_265 : BitVec 32 := 1#32
  let v308 : BitVec 32 := Scalar.muli v305 c1_i32_265
  let v309 : BitVec 32 := Scalar.addi c0_i32_266 v308
  v309.toNat
def k0_dev45 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_269 : BitVec 32 := 14#32
  let v316 : BitVec 32 := Scalar.addi v2 c14_i32_269
  let c32_i32_270 : BitVec 32 := 32#32
  let v317 : BitVec 32 := Scalar.remsi v316 c32_i32_270
  let c1_i32_274 : BitVec 32 := 1#32
  let v320 : BitVec 32 := Scalar.muli v317 c1_i32_274
  let v321 : BitVec 32 := Scalar.addi c0_i32_275 v320
  v321.toNat
def k0_dev46 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_278 : BitVec 32 := 15#32
  let v328 : BitVec 32 := Scalar.addi v2 c15_i32_278
  let c32_i32_279 : BitVec 32 := 32#32
  let v329 : BitVec 32 := Scalar.remsi v328 c32_i32_279
  let c1_i32_283 : BitVec 32 := 1#32
  let v332 : BitVec 32 := Scalar.muli v329 c1_i32_283
  let v333 : BitVec 32 := Scalar.addi c0_i32_284 v332
  v333.toNat
def k0_dev47 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_287 : BitVec 32 := 16#32
  let v340 : BitVec 32 := Scalar.addi v2 c16_i32_287
  let c32_i32_288 : BitVec 32 := 32#32
  let v341 : BitVec 32 := Scalar.remsi v340 c32_i32_288
  let c1_i32_292 : BitVec 32 := 1#32
  let v344 : BitVec 32 := Scalar.muli v341 c1_i32_292
  let v345 : BitVec 32 := Scalar.addi c0_i32_293 v344
  v345.toNat
def k0_dev48 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_296 : BitVec 32 := 17#32
  let v352 : BitVec 32 := Scalar.addi v2 c17_i32_296
  let c32_i32_297 : BitVec 32 := 32#32
  let v353 : BitVec 32 := Scalar.remsi v352 c32_i32_297
  let c1_i32_301 : BitVec 32 := 1#32
  let v356 : BitVec 32 := Scalar.muli v353 c1_i32_301
  let v357 : BitVec 32 := Scalar.addi c0_i32_302 v356
  v357.toNat
def k0_dev49 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_305 : BitVec 32 := 18#32
  let v364 : BitVec 32 := Scalar.addi v2 c18_i32_305
  let c32_i32_306 : BitVec 32 := 32#32
  let v365 : BitVec 32 := Scalar.remsi v364 c32_i32_306
  let c1_i32_310 : BitVec 32 := 1#32
  let v368 : BitVec 32 := Scalar.muli v365 c1_i32_310
  let v369 : BitVec 32 := Scalar.addi c0_i32_311 v368
  v369.toNat
def k0_dev50 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_314 : BitVec 32 := 19#32
  let v376 : BitVec 32 := Scalar.addi v2 c19_i32_314
  let c32_i32_315 : BitVec 32 := 32#32
  let v377 : BitVec 32 := Scalar.remsi v376 c32_i32_315
  let c1_i32_319 : BitVec 32 := 1#32
  let v380 : BitVec 32 := Scalar.muli v377 c1_i32_319
  let v381 : BitVec 32 := Scalar.addi c0_i32_320 v380
  v381.toNat
def k0_dev51 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_323 : BitVec 32 := 20#32
  let v388 : BitVec 32 := Scalar.addi v2 c20_i32_323
  let c32_i32_324 : BitVec 32 := 32#32
  let v389 : BitVec 32 := Scalar.remsi v388 c32_i32_324
  let c1_i32_328 : BitVec 32 := 1#32
  let v392 : BitVec 32 := Scalar.muli v389 c1_i32_328
  let v393 : BitVec 32 := Scalar.addi c0_i32_329 v392
  v393.toNat
def k0_dev52 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_332 : BitVec 32 := 21#32
  let v400 : BitVec 32 := Scalar.addi v2 c21_i32_332
  let c32_i32_333 : BitVec 32 := 32#32
  let v401 : BitVec 32 := Scalar.remsi v400 c32_i32_333
  let c1_i32_337 : BitVec 32 := 1#32
  let v404 : BitVec 32 := Scalar.muli v401 c1_i32_337
  let v405 : BitVec 32 := Scalar.addi c0_i32_338 v404
  v405.toNat
def k0_dev53 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_341 : BitVec 32 := 22#32
  let v412 : BitVec 32 := Scalar.addi v2 c22_i32_341
  let c32_i32_342 : BitVec 32 := 32#32
  let v413 : BitVec 32 := Scalar.remsi v412 c32_i32_342
  let c1_i32_346 : BitVec 32 := 1#32
  let v416 : BitVec 32 := Scalar.muli v413 c1_i32_346
  let v417 : BitVec 32 := Scalar.addi c0_i32_347 v416
  v417.toNat
def k0_dev54 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_350 : BitVec 32 := 23#32
  let v424 : BitVec 32 := Scalar.addi v2 c23_i32_350
  let c32_i32_351 : BitVec 32 := 32#32
  let v425 : BitVec 32 := Scalar.remsi v424 c32_i32_351
  let c1_i32_355 : BitVec 32 := 1#32
  let v428 : BitVec 32 := Scalar.muli v425 c1_i32_355
  let v429 : BitVec 32 := Scalar.addi c0_i32_356 v428
  v429.toNat
def k0_dev55 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_359 : BitVec 32 := 24#32
  let v436 : BitVec 32 := Scalar.addi v2 c24_i32_359
  let c32_i32_360 : BitVec 32 := 32#32
  let v437 : BitVec 32 := Scalar.remsi v436 c32_i32_360
  let c1_i32_364 : BitVec 32 := 1#32
  let v440 : BitVec 32 := Scalar.muli v437 c1_i32_364
  let v441 : BitVec 32 := Scalar.addi c0_i32_365 v440
  v441.toNat
def k0_dev56 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_368 : BitVec 32 := 25#32
  let v448 : BitVec 32 := Scalar.addi v2 c25_i32_368
  let c32_i32_369 : BitVec 32 := 32#32
  let v449 : BitVec 32 := Scalar.remsi v448 c32_i32_369
  let c1_i32_373 : BitVec 32 := 1#32
  let v452 : BitVec 32 := Scalar.muli v449 c1_i32_373
  let v453 : BitVec 32 := Scalar.addi c0_i32_374 v452
  v453.toNat
def k0_dev57 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_377 : BitVec 32 := 26#32
  let v460 : BitVec 32 := Scalar.addi v2 c26_i32_377
  let c32_i32_378 : BitVec 32 := 32#32
  let v461 : BitVec 32 := Scalar.remsi v460 c32_i32_378
  let c1_i32_382 : BitVec 32 := 1#32
  let v464 : BitVec 32 := Scalar.muli v461 c1_i32_382
  let v465 : BitVec 32 := Scalar.addi c0_i32_383 v464
  v465.toNat
def k0_dev58 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_386 : BitVec 32 := 27#32
  let v472 : BitVec 32 := Scalar.addi v2 c27_i32_386
  let c32_i32_387 : BitVec 32 := 32#32
  let v473 : BitVec 32 := Scalar.remsi v472 c32_i32_387
  let c1_i32_391 : BitVec 32 := 1#32
  let v476 : BitVec 32 := Scalar.muli v473 c1_i32_391
  let v477 : BitVec 32 := Scalar.addi c0_i32_392 v476
  v477.toNat
def k0_dev59 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_395 : BitVec 32 := 28#32
  let v484 : BitVec 32 := Scalar.addi v2 c28_i32_395
  let c32_i32_396 : BitVec 32 := 32#32
  let v485 : BitVec 32 := Scalar.remsi v484 c32_i32_396
  let c1_i32_400 : BitVec 32 := 1#32
  let v488 : BitVec 32 := Scalar.muli v485 c1_i32_400
  let v489 : BitVec 32 := Scalar.addi c0_i32_401 v488
  v489.toNat
def k0_dev60 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_404 : BitVec 32 := 29#32
  let v496 : BitVec 32 := Scalar.addi v2 c29_i32_404
  let c32_i32_405 : BitVec 32 := 32#32
  let v497 : BitVec 32 := Scalar.remsi v496 c32_i32_405
  let c1_i32_409 : BitVec 32 := 1#32
  let v500 : BitVec 32 := Scalar.muli v497 c1_i32_409
  let v501 : BitVec 32 := Scalar.addi c0_i32_410 v500
  v501.toNat
def k0_dev61 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_413 : BitVec 32 := 30#32
  let v508 : BitVec 32 := Scalar.addi v2 c30_i32_413
  let c32_i32_414 : BitVec 32 := 32#32
  let v509 : BitVec 32 := Scalar.remsi v508 c32_i32_414
  let c1_i32_418 : BitVec 32 := 1#32
  let v512 : BitVec 32 := Scalar.muli v509 c1_i32_418
  let v513 : BitVec 32 := Scalar.addi c0_i32_419 v512
  v513.toNat
def k0_dev62 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_422 : BitVec 32 := 31#32
  let v520 : BitVec 32 := Scalar.addi v2 c31_i32_422
  let c32_i32_423 : BitVec 32 := 32#32
  let v521 : BitVec 32 := Scalar.remsi v520 c32_i32_423
  let c1_i32_427 : BitVec 32 := 1#32
  let v524 : BitVec 32 := Scalar.muli v521 c1_i32_427
  let v525 : BitVec 32 := Scalar.addi c0_i32_428 v524
  v525.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v837 : Index := Scalar.indexCast v2
  let c0_801 : Index := 0#32
  ![v837.toNat, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_807 : BitVec 32 := 0#32
  ![v2.toNat, 0]
def k0_dev63 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_802 : BitVec 32 := 1#32
  let v841 : BitVec 32 := Scalar.addi v2 c1_i32_802
  let c32_i32_803 : BitVec 32 := 32#32
  let v842 : BitVec 32 := Scalar.remsi v841 c32_i32_803
  let c1_i32_805 : BitVec 32 := 1#32
  let v843 : BitVec 32 := Scalar.muli v842 c1_i32_805
  let v844 : BitVec 32 := Scalar.addi c0_i32_806 v843
  v844.toNat
def k0_dev64 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_809 : BitVec 32 := 2#32
  let v851 : BitVec 32 := Scalar.addi v2 c2_i32_809
  let c32_i32_810 : BitVec 32 := 32#32
  let v852 : BitVec 32 := Scalar.remsi v851 c32_i32_810
  let c1_i32_812 : BitVec 32 := 1#32
  let v853 : BitVec 32 := Scalar.muli v852 c1_i32_812
  let v854 : BitVec 32 := Scalar.addi c0_i32_813 v853
  v854.toNat
def k0_dev65 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_816 : BitVec 32 := 3#32
  let v861 : BitVec 32 := Scalar.addi v2 c3_i32_816
  let c32_i32_817 : BitVec 32 := 32#32
  let v862 : BitVec 32 := Scalar.remsi v861 c32_i32_817
  let c1_i32_819 : BitVec 32 := 1#32
  let v863 : BitVec 32 := Scalar.muli v862 c1_i32_819
  let v864 : BitVec 32 := Scalar.addi c0_i32_820 v863
  v864.toNat
def k0_dev66 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_823 : BitVec 32 := 4#32
  let v871 : BitVec 32 := Scalar.addi v2 c4_i32_823
  let c32_i32_824 : BitVec 32 := 32#32
  let v872 : BitVec 32 := Scalar.remsi v871 c32_i32_824
  let c1_i32_826 : BitVec 32 := 1#32
  let v873 : BitVec 32 := Scalar.muli v872 c1_i32_826
  let v874 : BitVec 32 := Scalar.addi c0_i32_827 v873
  v874.toNat
def k0_dev67 (d0 : Dev nD) : Nat :=
  let c0_i32_834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_830 : BitVec 32 := 5#32
  let v881 : BitVec 32 := Scalar.addi v2 c5_i32_830
  let c32_i32_831 : BitVec 32 := 32#32
  let v882 : BitVec 32 := Scalar.remsi v881 c32_i32_831
  let c1_i32_833 : BitVec 32 := 1#32
  let v883 : BitVec 32 := Scalar.muli v882 c1_i32_833
  let v884 : BitVec 32 := Scalar.addi c0_i32_834 v883
  v884.toNat
def k0_dev68 (d0 : Dev nD) : Nat :=
  let c0_i32_841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_837 : BitVec 32 := 6#32
  let v891 : BitVec 32 := Scalar.addi v2 c6_i32_837
  let c32_i32_838 : BitVec 32 := 32#32
  let v892 : BitVec 32 := Scalar.remsi v891 c32_i32_838
  let c1_i32_840 : BitVec 32 := 1#32
  let v893 : BitVec 32 := Scalar.muli v892 c1_i32_840
  let v894 : BitVec 32 := Scalar.addi c0_i32_841 v893
  v894.toNat
def k0_dev69 (d0 : Dev nD) : Nat :=
  let c0_i32_848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_844 : BitVec 32 := 7#32
  let v901 : BitVec 32 := Scalar.addi v2 c7_i32_844
  let c32_i32_845 : BitVec 32 := 32#32
  let v902 : BitVec 32 := Scalar.remsi v901 c32_i32_845
  let c1_i32_847 : BitVec 32 := 1#32
  let v903 : BitVec 32 := Scalar.muli v902 c1_i32_847
  let v904 : BitVec 32 := Scalar.addi c0_i32_848 v903
  v904.toNat
def k0_dev70 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_851 : BitVec 32 := 8#32
  let v911 : BitVec 32 := Scalar.addi v2 c8_i32_851
  let c32_i32_852 : BitVec 32 := 32#32
  let v912 : BitVec 32 := Scalar.remsi v911 c32_i32_852
  let c1_i32_854 : BitVec 32 := 1#32
  let v913 : BitVec 32 := Scalar.muli v912 c1_i32_854
  let v914 : BitVec 32 := Scalar.addi c0_i32_855 v913
  v914.toNat
def k0_dev71 (d0 : Dev nD) : Nat :=
  let c0_i32_862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_858 : BitVec 32 := 9#32
  let v921 : BitVec 32 := Scalar.addi v2 c9_i32_858
  let c32_i32_859 : BitVec 32 := 32#32
  let v922 : BitVec 32 := Scalar.remsi v921 c32_i32_859
  let c1_i32_861 : BitVec 32 := 1#32
  let v923 : BitVec 32 := Scalar.muli v922 c1_i32_861
  let v924 : BitVec 32 := Scalar.addi c0_i32_862 v923
  v924.toNat
def k0_dev72 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_865 : BitVec 32 := 10#32
  let v931 : BitVec 32 := Scalar.addi v2 c10_i32_865
  let c32_i32_866 : BitVec 32 := 32#32
  let v932 : BitVec 32 := Scalar.remsi v931 c32_i32_866
  let c1_i32_868 : BitVec 32 := 1#32
  let v933 : BitVec 32 := Scalar.muli v932 c1_i32_868
  let v934 : BitVec 32 := Scalar.addi c0_i32_869 v933
  v934.toNat
def k0_dev73 (d0 : Dev nD) : Nat :=
  let c0_i32_876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_872 : BitVec 32 := 11#32
  let v941 : BitVec 32 := Scalar.addi v2 c11_i32_872
  let c32_i32_873 : BitVec 32 := 32#32
  let v942 : BitVec 32 := Scalar.remsi v941 c32_i32_873
  let c1_i32_875 : BitVec 32 := 1#32
  let v943 : BitVec 32 := Scalar.muli v942 c1_i32_875
  let v944 : BitVec 32 := Scalar.addi c0_i32_876 v943
  v944.toNat
def k0_dev74 (d0 : Dev nD) : Nat :=
  let c0_i32_883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_879 : BitVec 32 := 12#32
  let v951 : BitVec 32 := Scalar.addi v2 c12_i32_879
  let c32_i32_880 : BitVec 32 := 32#32
  let v952 : BitVec 32 := Scalar.remsi v951 c32_i32_880
  let c1_i32_882 : BitVec 32 := 1#32
  let v953 : BitVec 32 := Scalar.muli v952 c1_i32_882
  let v954 : BitVec 32 := Scalar.addi c0_i32_883 v953
  v954.toNat
def k0_dev75 (d0 : Dev nD) : Nat :=
  let c0_i32_890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_886 : BitVec 32 := 13#32
  let v961 : BitVec 32 := Scalar.addi v2 c13_i32_886
  let c32_i32_887 : BitVec 32 := 32#32
  let v962 : BitVec 32 := Scalar.remsi v961 c32_i32_887
  let c1_i32_889 : BitVec 32 := 1#32
  let v963 : BitVec 32 := Scalar.muli v962 c1_i32_889
  let v964 : BitVec 32 := Scalar.addi c0_i32_890 v963
  v964.toNat
def k0_dev76 (d0 : Dev nD) : Nat :=
  let c0_i32_897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_893 : BitVec 32 := 14#32
  let v971 : BitVec 32 := Scalar.addi v2 c14_i32_893
  let c32_i32_894 : BitVec 32 := 32#32
  let v972 : BitVec 32 := Scalar.remsi v971 c32_i32_894
  let c1_i32_896 : BitVec 32 := 1#32
  let v973 : BitVec 32 := Scalar.muli v972 c1_i32_896
  let v974 : BitVec 32 := Scalar.addi c0_i32_897 v973
  v974.toNat
def k0_dev77 (d0 : Dev nD) : Nat :=
  let c0_i32_904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_900 : BitVec 32 := 15#32
  let v981 : BitVec 32 := Scalar.addi v2 c15_i32_900
  let c32_i32_901 : BitVec 32 := 32#32
  let v982 : BitVec 32 := Scalar.remsi v981 c32_i32_901
  let c1_i32_903 : BitVec 32 := 1#32
  let v983 : BitVec 32 := Scalar.muli v982 c1_i32_903
  let v984 : BitVec 32 := Scalar.addi c0_i32_904 v983
  v984.toNat
def k0_dev78 (d0 : Dev nD) : Nat :=
  let c0_i32_911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_907 : BitVec 32 := 16#32
  let v991 : BitVec 32 := Scalar.addi v2 c16_i32_907
  let c32_i32_908 : BitVec 32 := 32#32
  let v992 : BitVec 32 := Scalar.remsi v991 c32_i32_908
  let c1_i32_910 : BitVec 32 := 1#32
  let v993 : BitVec 32 := Scalar.muli v992 c1_i32_910
  let v994 : BitVec 32 := Scalar.addi c0_i32_911 v993
  v994.toNat
def k0_dev79 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_914 : BitVec 32 := 17#32
  let v1001 : BitVec 32 := Scalar.addi v2 c17_i32_914
  let c32_i32_915 : BitVec 32 := 32#32
  let v1002 : BitVec 32 := Scalar.remsi v1001 c32_i32_915
  let c1_i32_917 : BitVec 32 := 1#32
  let v1003 : BitVec 32 := Scalar.muli v1002 c1_i32_917
  let v1004 : BitVec 32 := Scalar.addi c0_i32_918 v1003
  v1004.toNat
def k0_dev80 (d0 : Dev nD) : Nat :=
  let c0_i32_925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_921 : BitVec 32 := 18#32
  let v1011 : BitVec 32 := Scalar.addi v2 c18_i32_921
  let c32_i32_922 : BitVec 32 := 32#32
  let v1012 : BitVec 32 := Scalar.remsi v1011 c32_i32_922
  let c1_i32_924 : BitVec 32 := 1#32
  let v1013 : BitVec 32 := Scalar.muli v1012 c1_i32_924
  let v1014 : BitVec 32 := Scalar.addi c0_i32_925 v1013
  v1014.toNat
def k0_dev81 (d0 : Dev nD) : Nat :=
  let c0_i32_932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_928 : BitVec 32 := 19#32
  let v1021 : BitVec 32 := Scalar.addi v2 c19_i32_928
  let c32_i32_929 : BitVec 32 := 32#32
  let v1022 : BitVec 32 := Scalar.remsi v1021 c32_i32_929
  let c1_i32_931 : BitVec 32 := 1#32
  let v1023 : BitVec 32 := Scalar.muli v1022 c1_i32_931
  let v1024 : BitVec 32 := Scalar.addi c0_i32_932 v1023
  v1024.toNat
def k0_dev82 (d0 : Dev nD) : Nat :=
  let c0_i32_939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_935 : BitVec 32 := 20#32
  let v1031 : BitVec 32 := Scalar.addi v2 c20_i32_935
  let c32_i32_936 : BitVec 32 := 32#32
  let v1032 : BitVec 32 := Scalar.remsi v1031 c32_i32_936
  let c1_i32_938 : BitVec 32 := 1#32
  let v1033 : BitVec 32 := Scalar.muli v1032 c1_i32_938
  let v1034 : BitVec 32 := Scalar.addi c0_i32_939 v1033
  v1034.toNat
def k0_dev83 (d0 : Dev nD) : Nat :=
  let c0_i32_946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_942 : BitVec 32 := 21#32
  let v1041 : BitVec 32 := Scalar.addi v2 c21_i32_942
  let c32_i32_943 : BitVec 32 := 32#32
  let v1042 : BitVec 32 := Scalar.remsi v1041 c32_i32_943
  let c1_i32_945 : BitVec 32 := 1#32
  let v1043 : BitVec 32 := Scalar.muli v1042 c1_i32_945
  let v1044 : BitVec 32 := Scalar.addi c0_i32_946 v1043
  v1044.toNat
def k0_dev84 (d0 : Dev nD) : Nat :=
  let c0_i32_953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_949 : BitVec 32 := 22#32
  let v1051 : BitVec 32 := Scalar.addi v2 c22_i32_949
  let c32_i32_950 : BitVec 32 := 32#32
  let v1052 : BitVec 32 := Scalar.remsi v1051 c32_i32_950
  let c1_i32_952 : BitVec 32 := 1#32
  let v1053 : BitVec 32 := Scalar.muli v1052 c1_i32_952
  let v1054 : BitVec 32 := Scalar.addi c0_i32_953 v1053
  v1054.toNat
def k0_dev85 (d0 : Dev nD) : Nat :=
  let c0_i32_960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_956 : BitVec 32 := 23#32
  let v1061 : BitVec 32 := Scalar.addi v2 c23_i32_956
  let c32_i32_957 : BitVec 32 := 32#32
  let v1062 : BitVec 32 := Scalar.remsi v1061 c32_i32_957
  let c1_i32_959 : BitVec 32 := 1#32
  let v1063 : BitVec 32 := Scalar.muli v1062 c1_i32_959
  let v1064 : BitVec 32 := Scalar.addi c0_i32_960 v1063
  v1064.toNat
def k0_dev86 (d0 : Dev nD) : Nat :=
  let c0_i32_967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_963 : BitVec 32 := 24#32
  let v1071 : BitVec 32 := Scalar.addi v2 c24_i32_963
  let c32_i32_964 : BitVec 32 := 32#32
  let v1072 : BitVec 32 := Scalar.remsi v1071 c32_i32_964
  let c1_i32_966 : BitVec 32 := 1#32
  let v1073 : BitVec 32 := Scalar.muli v1072 c1_i32_966
  let v1074 : BitVec 32 := Scalar.addi c0_i32_967 v1073
  v1074.toNat
def k0_dev87 (d0 : Dev nD) : Nat :=
  let c0_i32_974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_970 : BitVec 32 := 25#32
  let v1081 : BitVec 32 := Scalar.addi v2 c25_i32_970
  let c32_i32_971 : BitVec 32 := 32#32
  let v1082 : BitVec 32 := Scalar.remsi v1081 c32_i32_971
  let c1_i32_973 : BitVec 32 := 1#32
  let v1083 : BitVec 32 := Scalar.muli v1082 c1_i32_973
  let v1084 : BitVec 32 := Scalar.addi c0_i32_974 v1083
  v1084.toNat
def k0_dev88 (d0 : Dev nD) : Nat :=
  let c0_i32_981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_977 : BitVec 32 := 26#32
  let v1091 : BitVec 32 := Scalar.addi v2 c26_i32_977
  let c32_i32_978 : BitVec 32 := 32#32
  let v1092 : BitVec 32 := Scalar.remsi v1091 c32_i32_978
  let c1_i32_980 : BitVec 32 := 1#32
  let v1093 : BitVec 32 := Scalar.muli v1092 c1_i32_980
  let v1094 : BitVec 32 := Scalar.addi c0_i32_981 v1093
  v1094.toNat
def k0_dev89 (d0 : Dev nD) : Nat :=
  let c0_i32_988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_984 : BitVec 32 := 27#32
  let v1101 : BitVec 32 := Scalar.addi v2 c27_i32_984
  let c32_i32_985 : BitVec 32 := 32#32
  let v1102 : BitVec 32 := Scalar.remsi v1101 c32_i32_985
  let c1_i32_987 : BitVec 32 := 1#32
  let v1103 : BitVec 32 := Scalar.muli v1102 c1_i32_987
  let v1104 : BitVec 32 := Scalar.addi c0_i32_988 v1103
  v1104.toNat
def k0_dev90 (d0 : Dev nD) : Nat :=
  let c0_i32_995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_991 : BitVec 32 := 28#32
  let v1111 : BitVec 32 := Scalar.addi v2 c28_i32_991
  let c32_i32_992 : BitVec 32 := 32#32
  let v1112 : BitVec 32 := Scalar.remsi v1111 c32_i32_992
  let c1_i32_994 : BitVec 32 := 1#32
  let v1113 : BitVec 32 := Scalar.muli v1112 c1_i32_994
  let v1114 : BitVec 32 := Scalar.addi c0_i32_995 v1113
  v1114.toNat
def k0_dev91 (d0 : Dev nD) : Nat :=
  let c0_i32_1002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_998 : BitVec 32 := 29#32
  let v1121 : BitVec 32 := Scalar.addi v2 c29_i32_998
  let c32_i32_999 : BitVec 32 := 32#32
  let v1122 : BitVec 32 := Scalar.remsi v1121 c32_i32_999
  let c1_i32_1001 : BitVec 32 := 1#32
  let v1123 : BitVec 32 := Scalar.muli v1122 c1_i32_1001
  let v1124 : BitVec 32 := Scalar.addi c0_i32_1002 v1123
  v1124.toNat
def k0_dev92 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1005 : BitVec 32 := 30#32
  let v1131 : BitVec 32 := Scalar.addi v2 c30_i32_1005
  let c32_i32_1006 : BitVec 32 := 32#32
  let v1132 : BitVec 32 := Scalar.remsi v1131 c32_i32_1006
  let c1_i32_1008 : BitVec 32 := 1#32
  let v1133 : BitVec 32 := Scalar.muli v1132 c1_i32_1008
  let v1134 : BitVec 32 := Scalar.addi c0_i32_1009 v1133
  v1134.toNat
def k0_dev93 (d0 : Dev nD) : Nat :=
  let c0_i32_1016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1012 : BitVec 32 := 31#32
  let v1141 : BitVec 32 := Scalar.addi v2 c31_i32_1012
  let c32_i32_1013 : BitVec 32 := 32#32
  let v1142 : BitVec 32 := Scalar.remsi v1141 c32_i32_1013
  let c1_i32_1015 : BitVec 32 := 1#32
  let v1143 : BitVec 32 := Scalar.muli v1142 c1_i32_1015
  let v1144 : BitVec 32 := Scalar.addi c0_i32_1016 v1143
  v1144.toNat
def k0_off7 (d0 : Dev nD) (c1_i32_1020 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1153 : BitVec 32 := Scalar.addi v2 c1_i32_1020
  let c32_i32_1021 : BitVec 32 := 32#32
  let v1154 : BitVec 32 := Scalar.remsi v1153 c32_i32_1021
  ![v1154.toNat]
def k0_off8 (d0 : Dev nD) (c1_i32_1020 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1153 : BitVec 32 := Scalar.addi v2 c1_i32_1020
  let c32_i32_1021 : BitVec 32 := 32#32
  let v1154 : BitVec 32 := Scalar.remsi v1153 c32_i32_1021
  let c0_i32_1026 : BitVec 32 := 0#32
  ![v1154.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Proto.lean ====
/-
# The exchange protocol of the kernel: its cells, what their units carry, and who owes what

Thirty-two devices, each holding a column block of `x`. Every device transposes the sharding by sending row block `p`
of its (narrowed) `x` to device `p`, multiplies the rows it then holds by `w`, and exchanges one row of absolute maxima.
A device's semaphores, as this proof names them:

* `barCell c` — the runtime's barrier semaphore: one unit from every other device `p`, carrying the column block of
  `p`'s gathering buffer and the row of `p`'s maxima buffer that `c` is going to write;
* `sndCell c d` — completion of `c`'s send to the device `d` places on; gives the row block sent back;
* `rcvCell c s` — arrival of device `s`'s row block at `c` (device `c`'s own: its local copy);
* `asndCell c d`, `arcvCell c s` — the same for the row of maxima;
* `wCell c k` — arrival of a chunk of `w` in slot `k` of the ring; slots 0 and 1 are used twice.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of devices -/

/-- The device `d` places on from `c`. -/
def tgt (c : Dev nD) (d : ℕ) : Dev nD := ⟨(c.val + d) % 32, Nat.mod_lt _ (by decide)⟩

theorem tgt_val (c : Dev nD) (d : ℕ) : (tgt c d).val = (c.val + d) % 32 := rfl

theorem tgt_zero (c : Dev nD) : tgt c 0 = c := Fin.ext (Nat.mod_eq_of_lt c.isLt)

/-- A device fewer than 32 and at least one place on is another device. -/
theorem tgt_ne (c : Dev nD) {d : ℕ} (h0 : 1 ≤ d) (h1 : d < 32) : tgt c d ≠ c := by
  intro h
  have := congrArg Fin.val h
  rw [tgt_val] at this
  have := c.isLt
  change c.val < 32 at this
  omega

/-- Distinct distances below 32 reach distinct devices. -/
theorem tgt_inj (c : Dev nD) {d e : ℕ} (hd : d < 32) (he : e < 32) (h : tgt c d = tgt c e) : d = e := by
  have := congrArg Fin.val h
  rw [tgt_val, tgt_val] at this
  have := c.isLt
  change c.val < 32 at this
  omega

/-- The distance from `c` to `s`. -/
def dist (c s : Dev nD) : ℕ := (s.val + 32 - c.val) % 32

theorem dist_lt (c s : Dev nD) : dist c s < 32 := Nat.mod_lt _ (by decide)

theorem tgt_dist (c s : Dev nD) : tgt c (dist c s) = s := by
  apply Fin.ext
  rw [tgt_val, dist]
  have h1 := c.isLt; have h2 := s.isLt
  change c.val < 32 at h1; change s.val < 32 at h2
  omega

/-- Going round the ring from `c` meets every device once: the distances below 32 enumerate the devices. -/
def ring (c : Dev nD) : Fin 32 ≃ Dev nD where
  toFun d := tgt c d.val
  invFun s := ⟨dist c s, dist_lt c s⟩
  left_inv d := Fin.ext (tgt_inj c (dist_lt _ _) d.isLt (tgt_dist c _))
  right_inv s := tgt_dist c s

/-! ## Semaphores and cells -/

/-- The runtime's barrier semaphore. -/
abbrev barS : Sem sig := (SemArray.scalar (sig.barrier 0 rfl) : Sems sig S_).sem

abbrev barCell (c : Dev nD) : GSem nD τ sig := ((c : Thread nD τ), .reg barS)

/-- The DMA semaphore of index `i`; indices 0 and 1 are the staging transfers'. -/
abbrev dmaS (i : ℕ) (h : i < 136) : DmaSem sig := (⟨i, h⟩ : Fin 136)

abbrev sndS (d : Dev nD) : DmaSem sig := dmaS (2 + d.val) (by have := d.isLt; change d.val < 32 at this; omega)
abbrev rcvS (s : Dev nD) : DmaSem sig := dmaS (34 + s.val) (by have := s.isLt; change s.val < 32 at this; omega)
abbrev asndS (d : Dev nD) : DmaSem sig := dmaS (66 + d.val) (by have := d.isLt; change d.val < 32 at this; omega)
abbrev arcvS (s : Dev nD) : DmaSem sig := dmaS (98 + s.val) (by have := s.isLt; change s.val < 32 at this; omega)
abbrev wS (k : Fin 6) : DmaSem sig := dmaS (130 + k.val) (by have := k.isLt; omega)

abbrev dcell (c : Dev nD) (q : DmaSem sig) : GSem nD τ sig := ((c : Thread nD τ), .dma q)

/-- What a DMA semaphore is for. -/
inductive Role where
  | stage
  | snd (d : Dev nD)
  | rcv (s : Dev nD)
  | asnd (d : Dev nD)
  | arcv (s : Dev nD)
  | w (k : Fin 6)

/-- The role of each DMA semaphore, by the block of indices it lies in. -/
def role (q : Fin 136) : Role :=
  if q.val < 2 then .stage
  else if q.val < 34 then .snd (tgt 0 (q.val - 2))
  else if q.val < 66 then .rcv (tgt 0 (q.val - 34))
  else if q.val < 98 then .asnd (tgt 0 (q.val - 66))
  else if q.val < 130 then .arcv (tgt 0 (q.val - 98))
  else .w ⟨(q.val - 130) % 6, Nat.mod_lt _ (by decide)⟩

theorem tgt_zero_left (d : Dev nD) (i b : ℕ) (h : i = b + d.val) : tgt 0 (i - b) = d := by
  subst h
  apply Fin.ext
  rw [tgt_val, Nat.add_sub_cancel_left]
  show (0 + d.val) % 32 = d.val
  rw [Nat.zero_add]
  exact Nat.mod_eq_of_lt d.isLt

section
variable (q : Fin 136)
theorem role_of_snd (h : 2 ≤ q.val) (h' : q.val < 34) : role q = .snd (tgt 0 (q.val - 2)) := by
  unfold role; rw [if_neg (by omega), if_pos h']
theorem role_of_rcv (h : 34 ≤ q.val) (h' : q.val < 66) : role q = .rcv (tgt 0 (q.val - 34)) := by
  unfold role; rw [if_neg (by omega), if_neg (by omega), if_pos h']
theorem role_of_asnd (h : 66 ≤ q.val) (h' : q.val < 98) : role q = .asnd (tgt 0 (q.val - 66)) := by
  unfold role; rw [if_neg (by omega), if_neg (by omega), if_neg (by omega), if_pos h']
theorem role_of_arcv (h : 98 ≤ q.val) (h' : q.val < 130) : role q = .arcv (tgt 0 (q.val - 98)) := by
  unfold role; rw [if_neg (by omega), if_neg (by omega), if_neg (by omega), if_neg (by omega), if_pos h']
theorem role_of_w (h : 130 ≤ q.val) : role q = .w ⟨(q.val - 130) % 6, Nat.mod_lt _ (by decide)⟩ := by
  unfold role; rw [if_neg (by omega), if_neg (by omega), if_neg (by omega), if_neg (by omega), if_neg (by omega)]
end

theorem dev_lt (d : Dev nD) : d.val < 32 := d.isLt

theorem role_snd (d : Dev nD) : role (sndS d) = .snd d :=
  (role_of_snd _ (Nat.le_add_right _ _) (Nat.add_lt_add_left (dev_lt d) 2)).trans (congrArg _ (tgt_zero_left d _ _ rfl))
theorem role_rcv (d : Dev nD) : role (rcvS d) = .rcv d :=
  (role_of_rcv _ (Nat.le_add_right _ _) (Nat.add_lt_add_left (dev_lt d) 34)).trans (congrArg _ (tgt_zero_left d _ _ rfl))
theorem role_asnd (d : Dev nD) : role (asndS d) = .asnd d :=
  (role_of_asnd _ (Nat.le_add_right _ _) (Nat.add_lt_add_left (dev_lt d) 66)).trans (congrArg _ (tgt_zero_left d _ _ rfl))
theorem role_arcv (d : Dev nD) : role (arcvS d) = .arcv d :=
  (role_of_arcv _ (Nat.le_add_right _ _) (Nat.add_lt_add_left (dev_lt d) 98)).trans (congrArg _ (tgt_zero_left d _ _ rfl))
theorem role_w (k : Fin 6) : role (wS k) = .w k :=
  (role_of_w _ (Nat.le_add_right _ _)).trans (congrArg Role.w (Fin.ext (by
    show (130 + k.val - 130) % 6 = k.val
    rw [Nat.add_sub_cancel_left]; exact Nat.mod_eq_of_lt k.isLt)))

/-- One element of a rank-one array of consecutive semaphores, named by a one-element slice squeezed to rank zero. -/
theorem sem_at {n base : ℕ} {b : Fin 1 → ℕ} (hb : base + (⟨1, b⟩ : Shape).numel ≤ n) {off : Fin 1 → ℕ} (inb)
    (hsq : (Rect.unit (s := ⟨1, b⟩) off S1.size inb).shape.Squeezes S_) :
    (((SemArray.consecutive base ⟨1, b⟩ hb).slice (Rect.unit off S1.size inb)).squeeze S_ hsq).sem.val = base + off 0 := by
  show base + (Shape.rowMajor ⟨1, b⟩ _).val = base + off 0
  congr 1
  rw [Shape.rowMajor_val_one]
  show off 0 + 1 * (_ : Fin 1).val = off 0
  omega

/-! ## Locations, contents, regions -/

abbrev xbfL (c : Dev nD) : Loc nD τ sig := (c : Thread nD τ).loc cc0_scratch0
abbrev xgL (c : Dev nD) : Loc nD τ sig := (c : Thread nD τ).loc cc0_scratch1
abbrev amL (c : Dev nD) : Loc nD τ sig := (c : Thread nD τ).loc cc0_scratch2
abbrev wbL (c : Dev nD) : Loc nD τ sig := (c : Thread nD τ).loc cc0_scratch3
abbrev wL (c : Dev nD) : Loc nD τ sig := (c : Thread nD τ).loc main_arg1
abbrev xinL (c : Dev nD) : Loc nD τ sig := (c : Thread nD τ).loc cc0_stg0_0
abbrev outL (c : Dev nD) : Loc nD τ sig := (c : Thread nD τ).loc cc0_stg1_0

/-- Device `c`'s column block of `x`, as staged. -/
def xin (c : Dev nD) : Vec F S4096x128 .f32 :=
  (win0_0.blk (0 : Fin 1)).view.read (Elt F) ((s₀ m ρ).mem ((c : Thread nD τ).loc main_arg0))
/-- Its copy of `w`. -/
def wv (c : Dev nD) : Vec F S4096x2048 .f32 := m (wL c)
/-- The narrowed block. -/
def xbf (c : Dev nD) : FVec F S4096x128 .bf16 := k0_pay1 (xin m ρ c)
/-- The rows of `x` that device `c` gathers: column block `s` comes from device `s`. -/
def xgF (c : Dev nD) : Vec F S128x4096 .bf16 := fun i =>
  xbf m ρ (tgt 0 ((i 1).val / 128))
    (Shape.pair (⟨(c.val * 128 + (i 0).val) % 4096, Nat.mod_lt _ (by decide)⟩ : Fin 4096)
      (⟨(i 1).val % 128, Nat.mod_lt _ (by decide)⟩ : Fin 128))
/-- The ring's buffer with chunk `k` of `w` in the slot looked at. -/
def wbF (c : Dev nD) (k : ℕ) : Vec F S6x512x2048 .f32 := fun i =>
  wv m c (Shape.pair (⟨(k * 512 + (i 1).val) % 4096, Nat.mod_lt _ (by decide)⟩ : Fin 4096) (i 2 : Fin 2048))
/-- Columns `512 k …` of the gathered rows, as loaded. -/
def xgCh (c : Dev nD) (k : ℕ) : Vec F S128x512 .bf16 := fun j =>
  xgF m ρ c (Shape.pair (j 0 : Fin 128) (⟨(k * 512 + (j 1).val) % 4096, Nat.mod_lt _ (by decide)⟩ : Fin 4096))
/-- Chunk `k` of `w`, as loaded. -/
def wCh (c : Dev nD) (k : ℕ) : Vec F S1x512x2048 .f32 := fun j =>
  wv m c (Shape.pair (⟨(k * 512 + (j 1).val) % 4096, Nat.mod_lt _ (by decide)⟩ : Fin 4096) (j 2 : Fin 2048))

/-- The running sum after each chunk. -/
def y0 (c : Dev nD) : FVec F S128x2048 .f32 := k0_pay2 (xgCh m ρ c 0) (wCh m c 0)
def y1 (c : Dev nD) : FVec F S128x2048 .f32 := k0_pay3 (y0 m ρ c) (xgCh m ρ c 1) (wCh m c 1)
def y2 (c : Dev nD) : FVec F S128x2048 .f32 := k0_pay4 (y1 m ρ c) (xgCh m ρ c 2) (wCh m c 2)
def y3 (c : Dev nD) : FVec F S128x2048 .f32 := k0_pay5 (y2 m ρ c) (xgCh m ρ c 3) (wCh m c 3)
def y4 (c : Dev nD) : FVec F S128x2048 .f32 := k0_pay6 (y3 m ρ c) (xgCh m ρ c 4) (wCh m c 4)
def y5 (c : Dev nD) : FVec F S128x2048 .f32 := k0_pay7 (y4 m ρ c) (xgCh m ρ c 5) (wCh m c 5)
def y6 (c : Dev nD) : FVec F S128x2048 .f32 := k0_pay8 (y5 m ρ c) (xgCh m ρ c 6) (wCh m c 6)
def y7 (c : Dev nD) : FVec F S128x2048 .f32 := k0_pay9 (y6 m ρ c) (xgCh m ρ c 7) (wCh m c 7)
/-- Device `c`'s row of maxima. -/
def amRowOf (c : Dev nD) : FVec F S1x128 .f32 := k0_pay10 (y6 m ρ c) (xgCh m ρ c 7) (wCh m c 7)
/-- The maxima buffer once every row has arrived: the same on all devices. -/
def amF : Vec F S32x128 .f32 := fun i => amRowOf m ρ (tgt 0 (i 0).val) (Shape.pair (0 : Fin 1) (i 1 : Fin 128))
/-- Device `c`'s rows of the result. -/
def outAt (c : Dev nD) : FVec F S128x2048 .f32 := k0_pay12 (k0_pay11 (y7 m ρ c)) (amF m ρ)

/-- The regions the buffers are cut into. -/
def xbfRows (s : ℕ) : Finset S4096x128.Idx := Finset.univ.filter fun i => (i 0).val / 128 = s
def xgCols (s : ℕ) : Finset S128x4096.Idx := Finset.univ.filter fun i => (i 1).val / 128 = s
def amRow (s : ℕ) : Finset S32x128.Idx := Finset.univ.filter fun i => (i 0).val = s
def wbSlot (k : ℕ) : Finset S6x512x2048.Idx := Finset.univ.filter fun i => (i 0).val = k
def wRows (k : ℕ) : Finset S4096x2048.Idx := Finset.univ.filter fun i => (i 0).val / 512 = k

/-- Leaf `d` of thirty-two of the full share. -/
def leafQ (d : ℕ) : PosShare TreeShare := ShareLeaves.leaf 5 fullShare ⟨d % 2 ^ 5, Nat.mod_lt _ (by decide)⟩

def xbfPt (c : Dev nD) (s : ℕ) : sProp 𝕄 := xbfL c ↦[xbfRows s]{fullShare} xbf m ρ c
def xgPt (c : Dev nD) (s : ℕ) (f : Vec F S128x4096 .bf16) : sProp 𝕄 := xgL c ↦[xgCols s]{fullShare} f
def amPt (c : Dev nD) (s : ℕ) (q : PosShare TreeShare) (f : Vec F S32x128 .f32) : sProp 𝕄 := amL c ↦[amRow s]{q} f
def wbPt (c : Dev nD) (k : ℕ) (f : Vec F S6x512x2048 .f32) : sProp 𝕄 := wbL c ↦[wbSlot k]{fullShare} f
def wPt (c : Dev nD) (k : ℕ) : sProp 𝕄 := wL c ↦[wRows k]{fullShare} wv m c

section
omit [FloatOps F]
variable (c : Dev nD) (s : ℕ)
instance xgPt_storable (f) : BI.Storable (upEmb : UEmb _ 𝕄) (xgPt (F := F) c s f) := by unfold xgPt; infer_instance
instance amPt_storable (q f) : BI.Storable (upEmb : UEmb _ 𝕄) (amPt (F := F) c s q f) := by unfold amPt; infer_instance
instance wbPt_storable (f) : BI.Storable (upEmb : UEmb _ 𝕄) (wbPt (F := F) c s f) := by unfold wbPt; infer_instance
instance wPt_storable : BI.Storable (upEmb : UEmb _ 𝕄) (wPt (F := F) m c s) := by unfold wPt; infer_instance
end
instance xbfPt_storable (c : Dev nD) (s : ℕ) : BI.Storable (upEmb : UEmb _ 𝕄) (xbfPt (F := F) m ρ c s) := by
  unfold xbfPt; infer_instance

/-! ## The schedule -/

/-- The credit of a block, of a row of maxima, of a chunk of `w`. -/
def NX : ℕ := (cc0_scratch1 : Ref sig .tc).dmaCredit S128x128 .bf16
def NA : ℕ := (cc0_scratch2 : Ref sig .tc).dmaCredit S1x128 .f32
def NW : ℕ := (cc0_scratch3 : Ref sig .tc).dmaCredit S512x2048 .f32

theorem NX_pos : 0 < NX := sig.dmaCredit_pos _ _ _ _ _ (by decide)
theorem NA_pos : 0 < NA := sig.dmaCredit_pos _ _ _ _ _ (by decide)
theorem NW_pos : 0 < NW := sig.dmaCredit_pos _ _ _ _ _ (by decide)

/-- What device `p`'s unit on the barrier of `c` carries: where `c` will write on `p`. -/
def barPay (c p : Dev nD) : sProp 𝕄 := iprop((∃ f, xgPt (F := F) p c.val f) ∗ ∃ f, amPt (F := F) p c.val fullShare f)
/-- What the arrival of `s`'s block at `c` carries: the block, and, for the local copy, its source back. -/
def rcvPay (c s : Dev nD) : sProp 𝕄 :=
  iprop(xgPt c s.val (xgF m ρ c) ∗ if s = c then xbfPt m ρ c c.val else emp)
/-- What the arrival of chunk `k` carries: the slot holding it, and its source back. -/
def wPay (c : Dev nD) (k : ℕ) : sProp 𝕄 := iprop(wbPt c (k % 6) (wbF m c k) ∗ wPt m c k)

def rolePay (c : Dev nD) (r : ℕ) : Role → sProp 𝕄
  | .stage => iprop(emp)
  | .snd d => xbfPt m ρ c (tgt c d.val).val
  | .rcv s => rcvPay m ρ c s
  | .asnd d => amPt c c.val (leafQ d.val) (amF m ρ)
  | .arcv s => amPt c s.val fullShare (amF m ρ)
  | .w k => wPay m c (r * 6 + k.val)

def roleDuties (c : Dev nD) (r : ℕ) : Role → Finset (Dev nD)
  | .stage => ∅
  | .snd d => if r = 0 ∧ d ≠ 0 then {0} else ∅
  | .rcv s => if r = 0 then {0} else ∅
  | .asnd d => if r = 0 ∧ d ≠ 0 then {0} else ∅
  | .arcv s => if r = 0 ∧ s ≠ c then {0} else ∅
  | .w k => if r * 6 + k.val < 8 then {0} else ∅

def roleAmount : Role → ℕ
  | .stage => 1
  | .snd _ => NX
  | .rcv _ => NX
  | .asnd _ => NA
  | .arcv _ => NA
  | .w _ => NW

theorem roleAmount_pos (o : Role) : 0 < roleAmount o := by
  cases o <;> simp only [roleAmount, NX_pos, NA_pos, NW_pos, Nat.one_pos]

/-- The schedule of all cells. -/
def rd : Rounds.Schedule (GSem nD τ sig) (Dev nD) 𝕄 where
  duties g r := match g.2 with
    | .reg _ => if r = 0 then Finset.univ.erase g.1.1 else ∅
    | .dma q => roleDuties g.1.1 r (role q)
  unitless _ := False
  amount g _ _ := match g.2 with
    | .reg _ => 1
    | .dma q => roleAmount (role q)
  payload g r d := match g.2 with
    | .reg _ => barPay g.1.1 d
    | .dma q => rolePay m ρ g.1.1 r (role q)
  amount_pos g _ _ _ := by
    rcases g with ⟨t, sm | q⟩
    · exact Nat.one_pos
    · exact roleAmount_pos (role q)

instance rd_payload_storable (g : GSem nD τ sig) (r : ℕ) (d : Dev nD) :
    BI.Storable (upEmb : UEmb _ 𝕄) ((rd (F := F) m ρ).payload g r d) := by
  rcases g with ⟨t, sm | q⟩
  · show BI.Storable upEmb (barPay t.1 d)
    unfold barPay; infer_instance
  · show BI.Storable upEmb (rolePay m ρ t.1 r (role q))
    cases role q <;> dsimp only [rolePay]
    · infer_instance
    · infer_instance
    · unfold rcvPay; split <;> infer_instance
    · infer_instance
    · infer_instance
    · unfold wPay; infer_instance

section Sched
variable (c : Dev nD)

theorem dcell_duties {q : DmaSem sig} {o : Role} (h : role q = o) (r : ℕ) :
    (rd (F := F) m ρ).duties (dcell c q) r = roleDuties c r o := by subst h; rfl
theorem dcell_amount {q : DmaSem sig} {o : Role} (h : role q = o) (r : ℕ) (d : Dev nD) :
    (rd (F := F) m ρ).amount (dcell c q) r d = roleAmount o := by subst h; rfl
theorem dcell_payload {q : DmaSem sig} {o : Role} (h : role q = o) (r : ℕ) (d : Dev nD) :
    (rd (F := F) m ρ).payload (dcell c q) r d = rolePay m ρ c r o := by subst h; rfl

/-- A DMA cell whose round has the one duty: what the round expects. -/
theorem dcell_expect {q : DmaSem sig} {o : Role} (h : role q = o) {r : ℕ} (hd : roleDuties c r o = {0}) :
    (rd (F := F) m ρ).expect (dcell c q) r = roleAmount o := by
  unfold Schedule.expect Schedule.amountOf
  rw [dcell_duties m ρ c h, hd, Finset.sum_singleton, dcell_amount m ρ c h]
/-- …and what taking the round gives. -/
theorem dcell_rest {q : DmaSem sig} {o : Role} (h : role q = o) {r : ℕ} (hd : roleDuties c r o = {0}) :
    bigSep ((rd (F := F) m ρ).duties (dcell c q) r \ ∅) (fun d => (rd (F := F) m ρ).payload (dcell c q) r d) = rolePay m ρ c r o := by
  rw [Finset.sdiff_empty, dcell_duties m ρ c h, hd, bigSep_singleton, dcell_payload m ρ c h]

theorem bar_duties (r : ℕ) : (rd (F := F) m ρ).duties (barCell c) r = if r = 0 then Finset.univ.erase c else ∅ := rfl
theorem bar_amount (r : ℕ) (d : Dev nD) : (rd (F := F) m ρ).amount (barCell c) r d = 1 := rfl
theorem bar_payload (r : ℕ) (d : Dev nD) : (rd (F := F) m ρ).payload (barCell c) r d = barPay c d := rfl
theorem bar_expect : (rd (F := F) m ρ).expect (barCell c) 0 = 31 := by
  unfold Schedule.expect Schedule.amountOf
  rw [Finset.sum_congr rfl fun d _ => bar_amount m ρ c 0 d, bar_duties, if_pos rfl, Finset.sum_const, smul_eq_mul, mul_one,
    Finset.card_erase_of_mem (Finset.mem_univ _), Finset.card_univ]
  rfl

/-- No duties past round 1. -/
theorem duties_late (g : GSem nD τ sig) (r : ℕ) (hr : 2 ≤ r) : (rd (F := F) m ρ).duties g r = ∅ := by
  rcases g with ⟨t, sm | q⟩
  · exact if_neg (by omega)
  · show roleDuties t.1 r (role q) = ∅
    cases role q <;> dsimp only [roleDuties]
    · exact if_neg (by omega)
    · exact if_neg (by omega)
    · exact if_neg (by omega)
    · exact if_neg (by omega)
    · exact if_neg (by omega)

end Sched

/-! ## What each device owes, and the levels -/

/-- Device `c` before its signal `b`, its block send `r` and its row send `a`: everything from those on. -/
def owed (c : Dev nD) (b r a : ℕ) : CellTallies nD τ sig Unit :=
  (∑ d ∈ Finset.Ico a 32, tallyAt (dcell (tgt c d) (arcvS c)) () NA)
    + (∑ d ∈ Finset.Ico r 32, tallyAt (dcell (tgt c d) (rcvS c)) () NX)
    + ∑ d ∈ Finset.Ico b 32, tallyAt (barCell (tgt c d)) () 1

theorem ico_succ {a n : ℕ} (h : a < n) : Finset.Ico a n = insert a (Finset.Ico (a + 1) n) := by
  ext x; rw [Finset.mem_insert, Finset.mem_Ico, Finset.mem_Ico]; omega
theorem ico_fresh (a n : ℕ) : a ∉ Finset.Ico (a + 1) n := by rw [Finset.mem_Ico]; omega

theorem owed_bar (c : Dev nD) (b r a : ℕ) (h : b < 32) : owed c b r a = owed c (b + 1) r a + tallyAt (barCell (tgt c b)) () 1 := by
  unfold owed
  rw [ico_succ h, Finset.sum_insert (ico_fresh _ _), add_comm (tallyAt (barCell (tgt c b)) () 1), ← add_assoc]
theorem owed_rcv (c : Dev nD) (b r a : ℕ) (h : r < 32) : owed c b r a = owed c b (r + 1) a + tallyAt (dcell (tgt c r) (rcvS c)) () NX := by
  unfold owed
  rw [ico_succ h, Finset.sum_insert (ico_fresh _ _), add_comm (tallyAt (dcell (tgt c r) (rcvS c)) () NX), ← add_assoc, add_right_comm]
theorem owed_arcv (c : Dev nD) (b r a : ℕ) (h : a < 32) : owed c b r a = owed c b r (a + 1) + tallyAt (dcell (tgt c a) (arcvS c)) () NA := by
  unfold owed
  rw [ico_succ h, Finset.sum_insert (ico_fresh _ _), add_comm (tallyAt (dcell (tgt c a) (arcvS c)) () NA), add_right_comm (∑ d ∈ Finset.Ico (a + 1) 32, _), add_right_comm _ (tallyAt (dcell (tgt c a) (arcvS c)) () NA)]
theorem owed_done (c : Dev nD) : owed c 32 32 32 = 0 := by
  unfold owed; rw [Finset.Ico_self, Finset.sum_empty, Finset.sum_empty, Finset.sum_empty, add_zero, add_zero]

theorem sum_tally_pos {s : Finset ℕ} {k : ℕ → GSem nD τ sig} {n : ℕ} {g : GSem nD τ sig} {u : Unit}
    (h : 0 < (∑ d ∈ s, tallyAt (k d) () n : CellTallies nD τ sig Unit) g u) : ∃ d ∈ s, g = k d := by
  classical
  induction s using Finset.induction_on with
  | empty => exact absurd h (Nat.lt_irrefl 0)
  | insert a s ha ih =>
    rw [Finset.sum_insert ha, Pi.add_apply, Finsupp.add_apply, tallyAt_apply] at h
    by_cases hg : g = k a
    · exact ⟨a, Finset.mem_insert_self _ _, hg⟩
    · rw [if_neg fun h' => hg h'.1, Nat.zero_add] at h
      obtain ⟨d, hd, e⟩ := ih h
      exact ⟨d, Finset.mem_insert_of_mem hd, e⟩

theorem owed_pos {c : Dev nD} {b r a : ℕ} {g : GSem nD τ sig} {u : Unit} (h : 0 < owed c b r a g u) :
    (∃ d ∈ Finset.Ico a 32, g = dcell (tgt c d) (arcvS c)) ∨ (∃ d ∈ Finset.Ico r 32, g = dcell (tgt c d) (rcvS c))
      ∨ ∃ d ∈ Finset.Ico b 32, g = barCell (tgt c d) := by
  unfold owed at h
  rw [Pi.add_apply, Finsupp.add_apply, Pi.add_apply, Finsupp.add_apply] at h
  rcases Nat.eq_zero_or_pos ((∑ d ∈ Finset.Ico a 32, tallyAt (dcell (tgt c d) (arcvS c)) () NA : CellTallies nD τ sig Unit) g u) with h1 | h1
  · rcases Nat.eq_zero_or_pos ((∑ d ∈ Finset.Ico r 32, tallyAt (dcell (tgt c d) (rcvS c)) () NX : CellTallies nD τ sig Unit) g u) with h2 | h2
    · rw [h1, h2] at h
      exact .inr (.inr (sum_tally_pos (u := u) (by simpa only [Nat.zero_add] using h)))
    · exact .inr (.inl (sum_tally_pos h2))
  · exact .inl (sum_tally_pos h1)

def L (g : GSem nD τ sig) : Finset Unit := if g.1.2 = .tc then {()} else ∅
def roleLv : Role → ℕ
  | .rcv _ => 2
  | .arcv _ => 3
  | _ => 0
/-- Barriers below block arrivals below row arrivals; every other cell at the bottom. -/
def lv (g : GSem nD τ sig) (_ : Unit) : ℕ := match g.2 with | .reg _ => 1 | .dma q => roleLv (role q)

theorem L_of_ne (g : GSem nD τ sig) (h : g.1.2 ≠ .tc) : L g = ∅ := if_neg h
theorem L_tc (c : Dev nD) (sm : SemLoc sig) : L ((c : Thread nD τ), sm) = {()} := if_pos rfl

theorem lv_dma (c : Dev nD) {q : DmaSem sig} {o : Role} (h : role q = o) : lv (dcell c q) () = roleLv o := by subst h; rfl

/-- A wait on a cell of device `c` below everything it owes. -/
theorem mayWait_of (c : Dev nD) (sm : SemLoc sig) (O : CellTallies nD τ sig Unit)
    (hO : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by show u ∈ L g; unfold L; rw [if_pos (hO g u hg).1]; exact Finset.mem_singleton_self _)
    (fun p hp => by rw [Finset.mem_singleton.mp hp])
    (fun g u hg => (hO g u hg).2)

/-- A wait on a DMA cell at level 0 may be made whatever of its tallies the device still owes. -/
theorem mayWait_low (c : Dev nD) (q : DmaSem sig) (h : roleLv (role q) = 0) (b r a : ℕ) :
    (levAts L lv : sProp 𝕄) ⊢ MayWait (c : Thread nD τ) (.dma q) () (owed c b r a) :=
  mayWait_of c _ _ fun g u hg => by
    rcases owed_pos hg with ⟨d, _, rfl⟩ | ⟨d, _, rfl⟩ | ⟨d, _, rfl⟩
    · refine ⟨rfl, ?_⟩
      rw [lv_dma c (o := role q) rfl, h]
      exact lt_of_lt_of_eq (Nat.lt_of_lt_of_le (by decide) (Nat.le_refl 3)) (lv_dma _ (role_arcv c)).symm
    · refine ⟨rfl, ?_⟩
      rw [lv_dma c (o := role q) rfl, h]
      exact lt_of_lt_of_eq (Nat.lt_of_lt_of_le (by decide) (Nat.le_refl 2)) (lv_dma _ (role_rcv c)).symm
    · refine ⟨rfl, ?_⟩
      rw [lv_dma c (o := role q) rfl, h]
      exact Nat.one_pos

/-- The barrier wait, every signal made. -/
theorem mayWait_bar (c : Dev nD) (r a : ℕ) :
    (levAts L lv : sProp 𝕄) ⊢ MayWait (c : Thread nD τ) (.reg barS) () (owed c 32 r a) :=
  mayWait_of c _ _ fun g u hg => by
    rcases owed_pos hg with ⟨d, _, rfl⟩ | ⟨d, _, rfl⟩ | ⟨d, hd, rfl⟩
    · refine ⟨rfl, ?_⟩
      show 1 < lv _ _
      exact lt_of_lt_of_eq (Nat.lt_of_lt_of_le (by decide) (Nat.le_refl 3)) (lv_dma _ (role_arcv c)).symm
    · refine ⟨rfl, ?_⟩
      show 1 < lv _ _
      exact lt_of_lt_of_eq (Nat.lt_of_lt_of_le (by decide) (Nat.le_refl 2)) (lv_dma _ (role_rcv c)).symm
    · have := Finset.mem_Ico.mp hd; omega

/-- A wait for a block, every block send made. -/
theorem mayWait_rcv (c s : Dev nD) (a : ℕ) :
    (levAts L lv : sProp 𝕄) ⊢ MayWait (c : Thread nD τ) (.dma (rcvS s)) () (owed c 32 32 a) :=
  mayWait_of c _ _ fun g u hg => by
    rcases owed_pos hg with ⟨d, _, rfl⟩ | ⟨d, hd, rfl⟩ | ⟨d, hd, rfl⟩
    · refine ⟨rfl, ?_⟩
      rw [lv_dma c (role_rcv s)]
      exact lt_of_lt_of_eq (show 2 < 3 by decide) (lv_dma _ (role_arcv c)).symm
    · have := Finset.mem_Ico.mp hd; omega
    · have := Finset.mem_Ico.mp hd; omega

/-- Any wait, nothing owed. -/
theorem mayWait_done (c : Dev nD) (sm : SemLoc sig) :
    (levAts L lv : sProp 𝕄) ⊢ MayWait (c : Thread nD τ) sm () (owed c 32 32 32) := by
  rw [owed_done, MayWait_zero]; iintro -; iempintro

/-! ## What every device knows -/

/-- A cell's invariant, under some name, and that its round 0 is reached. -/
def inv (g : GSem nD τ sig) : sProp 𝕄 := iprop((∃ κ, cellInv ER (rd m ρ) κ g) ∗ reached ER g 0)
instance inv_persistent (g : GSem nD τ sig) : BI.Persistent (inv (F := F) m ρ g) := by unfold inv; infer_instance

/-- The kernel's semaphores: the barrier, then the 134 DMA semaphores past the staging ones. -/
def csem : Fin 135 → SemLoc sig := fun i => if h : i.val = 0 then .reg barS else .dma (dmaS (i.val + 1) (by omega))

/-- What every device knows throughout: all cells, and the levels. -/
def know : sProp 𝕄 :=
  iprop((bigSep (Finset.univ : Finset (Dev nD × Fin 135)) fun x => inv m ρ ((x.1 : Thread nD τ), csem x.2)) ∗ levAts L lv)
instance know_persistent : BI.Persistent (know (F := F) m ρ) := by unfold know; infer_instance

theorem know_lev : know (F := F) m ρ ⊢ levAts L lv := by unfold know; iintro ⟨-, H⟩; iexact H
theorem know_all : know (F := F) m ρ ⊢ bigSep (Finset.univ : Finset (Dev nD × Fin 135)) fun x => inv m ρ ((x.1 : Thread nD τ), csem x.2) := by
  unfold know; iintro ⟨H, -⟩; iexact H
theorem know_bar (c : Dev nD) : know (F := F) m ρ ⊢ inv m ρ (barCell c) := by
  exact (know_all m ρ).trans
    (bigSep_elim (Φ := fun x : Dev nD × Fin 135 => inv m ρ ((x.1 : Thread nD τ), csem x.2)) (i := (c, (0 : Fin 135))) (Finset.mem_univ _))
theorem know_dma (c : Dev nD) (i : ℕ) (hi : i < 136) (h2 : 2 ≤ i) : know (F := F) m ρ ⊢ inv m ρ (dcell c (dmaS i hi)) := by
  have e : csem ⟨i - 1, by omega⟩ = .dma (dmaS i hi) := by
    unfold csem
    rw [dif_neg (show ¬ i - 1 = 0 by omega)]
    exact congrArg SemLoc.dma (Fin.ext (show i - 1 + 1 = i by omega))
  have h := bigSep_elim (Φ := fun x : Dev nD × Fin 135 => inv (F := F) m ρ ((x.1 : Thread nD τ), csem x.2))
    (i := (c, (⟨i - 1, by omega⟩ : Fin 135))) (Finset.mem_univ _)
  rw [e] at h
  exact (know_all m ρ).trans h

end Cert.KProof
-- ==== Proof.Regions.lean ====
/-
# Regions of the buffers, and what the copies leave in them

The buffers are cut into blocks along one axis; each printed slice covers one block, and a copy into a block leaves
there what the protocol promises.
-/
module

public import proofs.«01_k».proof.Proof.Proto

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cutting a buffer along a block number -/

omit [FloatOps F] in
/-- The blocks below `n` of a region-numbering `g`, held one by one, are their union held at once. -/
theorem blocks_join {ℓ : Loc nD τ sig} (g : Idx ℓ → ℕ) (S : Finset ℕ) (q : PosShare TreeShare) (f : Buf (Elt F) ℓ) :
    (bigSep S fun s => (ℓ ↦[Finset.univ.filter fun i => g i = s]{q} f : sProp 𝕄))
      = ℓ ↦[Finset.univ.filter fun i => g i ∈ S]{q} f := by
  rw [← pointsTo_biUnion S (fun s => Finset.univ.filter fun i => g i = s)
    (fun t _ t' _ h => Finset.disjoint_filter.mpr fun i _ h1 h2 => h (h1.symm.trans h2))]
  congr 1
  ext i
  rw [Finset.mem_biUnion, Finset.mem_filter]
  constructor
  · rintro ⟨s, hs, hi⟩
    exact ⟨Finset.mem_univ _, (Finset.mem_filter.mp hi).2 ▸ hs⟩
  · rintro ⟨_, hi⟩
    exact ⟨_, hi, Finset.mem_filter.mpr ⟨Finset.mem_univ _, rfl⟩⟩

omit [FloatOps F] in
/-- A whole buffer is its blocks, every element lying in one of the first `n`. -/
theorem blocks_whole {ℓ : Loc nD τ sig} (g : Idx ℓ → ℕ) (n : ℕ) (hg : ∀ i, g i < n) (q : PosShare TreeShare) (f : Buf (Elt F) ℓ) :
    (ℓ ↦{q} f : sProp 𝕄) = bigSep (Finset.range n) fun s => ℓ ↦[Finset.univ.filter fun i => g i = s]{q} f := by
  rw [blocks_join g]
  congr 1
  ext i
  simp [hg i]

theorem xbf_blocks (c : Dev nD) (f : Buf (Elt F) (xbfL c)) :
    (xbfL c ↦{fullShare} f : sProp 𝕄) = bigSep (Finset.range 32) fun s => xbfL c ↦[xbfRows s]{fullShare} f :=
  blocks_whole (ℓ := xbfL c) (fun i : S4096x128.Idx => (i 0).val / 128) 32 (fun i => by
    have h : (i 0).val < 4096 := (i 0).isLt
    show (i 0).val / 128 < 32; omega) _ _
theorem xg_blocks (c : Dev nD) (f : Buf (Elt F) (xgL c)) :
    (xgL c ↦{fullShare} f : sProp 𝕄) = bigSep (Finset.range 32) fun s => xgPt c s f :=
  blocks_whole (ℓ := xgL c) (fun i : S128x4096.Idx => (i 1).val / 128) 32 (fun i => by
    have h : (i 1).val < 4096 := (i 1).isLt
    show (i 1).val / 128 < 32; omega) _ _
theorem am_blocks (c : Dev nD) (q : PosShare TreeShare) (f : Buf (Elt F) (amL c)) :
    (amL c ↦{q} f : sProp 𝕄) = bigSep (Finset.range 32) fun s => amPt c s q f :=
  blocks_whole (ℓ := amL c) (fun i : S32x128.Idx => (i 0).val) 32 (fun i => (i 0).isLt) _ _
theorem wb_blocks (c : Dev nD) (f : Buf (Elt F) (wbL c)) :
    (wbL c ↦{fullShare} f : sProp 𝕄) = bigSep (Finset.range 6) fun s => wbPt c s f :=
  blocks_whole (ℓ := wbL c) (fun i : S6x512x2048.Idx => (i 0).val) 6 (fun i => (i 0).isLt) _ _
theorem w_blocks (c : Dev nD) :
    (wL c ↦{fullShare} wv m c : sProp 𝕄) = bigSep (Finset.range 8) fun s => wPt m c s :=
  blocks_whole (ℓ := wL c) (fun i : S4096x2048.Idx => (i 0).val / 512) 8 (fun i => by
    have h : (i 0).val < 4096 := (i 0).isLt
    show (i 0).val / 512 < 8; omega) _ _

/-! ## The printed slices cover the blocks -/

theorem xbf_set {off : Fin 2 → ℕ} {s : ℕ} (h0 : off 0 = 128 * s) (h1 : off 1 = 0) (inb) (hr) :
    ((Memref.whole cc0_scratch0).slice (Rect.unit (s := S4096x128) off S128x128.size inb) hr).view.set = xbfRows s := by
  show ((View.whole cc0_scratch0).slice (Rect.unit (s := S4096x128) off S128x128.size inb)).set = xbfRows s
  rw [View.set_slice_whole]
  ext i
  rw [Rect.mem_set_unit]
  unfold xbfRows
  rw [Finset.mem_filter]
  have hi : (i 1).val < 128 := (i 1).isLt
  constructor
  · intro h
    have := h 0; rw [h0] at this
    change 128 * s ≤ (i 0).val ∧ (i 0).val < 128 * s + 128 at this
    exact ⟨Finset.mem_univ _, by omega⟩
  · rintro ⟨_, h⟩ a
    match a with
    | 0 => rw [h0]; show 128 * s ≤ (i 0).val ∧ (i 0).val < 128 * s + 128; omega
    | 1 => rw [h1]; show 0 ≤ (i 1).val ∧ (i 1).val < 0 + 128; omega

theorem xg_set {off : Fin 2 → ℕ} {s : ℕ} (h0 : off 0 = 0) (h1 : off 1 = 128 * s) (inb) (hr) :
    ((Memref.whole cc0_scratch1).slice (Rect.unit (s := S128x4096) off S128x128.size inb) hr).view.set = xgCols s := by
  show ((View.whole cc0_scratch1).slice (Rect.unit (s := S128x4096) off S128x128.size inb)).set = xgCols s
  rw [View.set_slice_whole]
  ext i
  rw [Rect.mem_set_unit]
  unfold xgCols
  rw [Finset.mem_filter]
  have hi : (i 0).val < 128 := (i 0).isLt
  constructor
  · intro h
    have := h 1; rw [h1] at this
    change 128 * s ≤ (i 1).val ∧ (i 1).val < 128 * s + 128 at this
    exact ⟨Finset.mem_univ _, by omega⟩
  · rintro ⟨_, h⟩ a
    match a with
    | 0 => rw [h0]; show 0 ≤ (i 0).val ∧ (i 0).val < 0 + 128; omega
    | 1 => rw [h1]; show 128 * s ≤ (i 1).val ∧ (i 1).val < 128 * s + 128; omega

theorem am_rect {off : Fin 2 → ℕ} {s : ℕ} (h0 : off 0 = s) (h1 : off 1 = 0) (inb) :
    (Rect.unit (s := S32x128) off S1x128.size inb).set = amRow s := by
  ext i
  rw [Rect.mem_set_unit]
  unfold amRow
  rw [Finset.mem_filter]
  have hi : (i 1).val < 128 := (i 1).isLt
  constructor
  · intro h
    have := h 0; rw [h0] at this
    change s ≤ (i 0).val ∧ (i 0).val < s + 1 at this
    exact ⟨Finset.mem_univ _, by omega⟩
  · rintro ⟨_, h⟩ a
    match a with
    | 0 => rw [h0]; show s ≤ (i 0).val ∧ (i 0).val < s + 1; omega
    | 1 => rw [h1]; show 0 ≤ (i 1).val ∧ (i 1).val < 0 + 128; omega

theorem am_set {off : Fin 2 → ℕ} {s : ℕ} (h0 : off 0 = s) (h1 : off 1 = 0) (inb) (hr) :
    ((Memref.whole cc0_scratch2).slice (Rect.unit (s := S32x128) off S1x128.size inb) hr).view.set = amRow s := by
  show ((View.whole cc0_scratch2).slice (Rect.unit (s := S32x128) off S1x128.size inb)).set = amRow s
  rw [View.set_slice_whole, am_rect h0 h1]

theorem wb_rect {off : Fin 3 → ℕ} {k : ℕ} (h0 : off 0 = k) (h1 : off 1 = 0) (h2 : off 2 = 0) (inb) :
    (Rect.unit (s := S6x512x2048) off S1x512x2048.size inb).set = wbSlot k := by
  ext i
  rw [Rect.mem_set_unit]
  unfold wbSlot
  rw [Finset.mem_filter]
  have hi : (i 1).val < 512 := (i 1).isLt
  have hj : (i 2).val < 2048 := (i 2).isLt
  constructor
  · intro h
    have := h 0; rw [h0] at this
    change k ≤ (i 0).val ∧ (i 0).val < k + 1 at this
    exact ⟨Finset.mem_univ _, by omega⟩
  · rintro ⟨_, h⟩ a
    match a with
    | 0 => rw [h0]; show k ≤ (i 0).val ∧ (i 0).val < k + 1; omega
    | 1 => rw [h1]; show 0 ≤ (i 1).val ∧ (i 1).val < 0 + 512; omega
    | 2 => rw [h2]; show 0 ≤ (i 2).val ∧ (i 2).val < 0 + 2048; omega

theorem wb_set {off : Fin 3 → ℕ} {k : ℕ} (h0 : off 0 = k) (h1 : off 1 = 0) (h2 : off 2 = 0) (inb) (hr) (hsq) :
    (((Memref.whole cc0_scratch3).slice (Rect.unit (s := S6x512x2048) off S1x512x2048.size inb) hr).squeeze S512x2048 hsq).view.set = wbSlot k := by
  show (((View.whole cc0_scratch3).slice (Rect.unit (s := S6x512x2048) off S1x512x2048.size inb)).reshape S512x2048 hsq.numel_eq).set = wbSlot k
  rw [View.set_reshape, View.set_slice_whole, wb_rect h0 h1 h2]

theorem w_set {off : Fin 2 → ℕ} {k : ℕ} (h0 : off 0 = 512 * k) (h1 : off 1 = 0) (inb) (hr) :
    ((Memref.whole main_arg1).slice (Rect.unit (s := S4096x2048) off S512x2048.size inb) hr).view.set = wRows k := by
  show ((View.whole main_arg1).slice (Rect.unit (s := S4096x2048) off S512x2048.size inb)).set = wRows k
  rw [View.set_slice_whole]
  ext i
  rw [Rect.mem_set_unit]
  unfold wRows
  rw [Finset.mem_filter]
  have hi : (i 1).val < 2048 := (i 1).isLt
  constructor
  · intro h
    have := h 0; rw [h0] at this
    change 512 * k ≤ (i 0).val ∧ (i 0).val < 512 * k + 512 at this
    exact ⟨Finset.mem_univ _, by omega⟩
  · rintro ⟨_, h⟩ a
    match a with
    | 0 => rw [h0]; show 512 * k ≤ (i 0).val ∧ (i 0).val < 512 * k + 512; omega
    | 1 => rw [h1]; show 0 ≤ (i 1).val ∧ (i 1).val < 0 + 2048; omega

/-! ## What a copy leaves -/

omit [FloatOps F] in
/-- Writing `w` through a view over its whole shape leaves `g` on the view's elements, when `w` is what `g` reads there. -/
theorem write_on {κ : Kind} {sp : Space} {s : Shape} {e : EltTy} (v : View sig κ sp s e) (f g : v.ty.Contents (Elt F)) (w : s.Idx → Elt F e)
    (h : ∀ x, w x = v.read (Elt F) g x) : ∀ i ∈ v.set, v.write (Elt F) f w Finset.univ i = g i := by
  intro i hi
  obtain ⟨x, -, rfl⟩ := Finset.mem_map.mp hi
  rw [View.write_emb_of_mem _ _ (Finset.mem_univ x), h x, View.read_apply, cast_cast, cast_eq]

/-- Row block `p` of device `c`'s narrowed `x`, copied into column block `c` of `p`'s gathering buffer. -/
theorem block_lands {offs offd : Fin 2 → ℕ} {c p : Dev nD} (hs0 : offs 0 = 128 * p.val) (hs1 : offs 1 = 0)
    (hd0 : offd 0 = 0) (hd1 : offd 1 = 128 * c.val) (inbs) (hrs) (inbd) (hrd) (fd) :
    ∀ i ∈ ((Memref.whole cc0_scratch1).slice (Rect.unit (s := S128x4096) offd S128x128.size inbd) hrd).view.set,
      ((Memref.whole cc0_scratch1).slice (Rect.unit (s := S128x4096) offd S128x128.size inbd) hrd).view.write (Elt F) fd
        (((Memref.whole cc0_scratch0).slice (Rect.unit (s := S4096x128) offs S128x128.size inbs) hrs).view.read (Elt F) (xbf m ρ c)) Finset.univ i
        = xgF m ρ p i := by
  refine write_on _ _ _ _ fun x => ?_
  have hx0 : (x 0).val < 128 := (x 0).isLt
  have hx1 : (x 1).val < 128 := (x 1).isLt
  have hc := dev_lt c
  have hp := dev_lt p
  show xbf m ρ c _ = xgF m ρ p _
  unfold xgF
  have e : tgt 0 ((offd 1 + 1 * (x 1).val) / 128) = c := by
    apply Fin.ext
    show (0 + (offd 1 + 1 * (x 1).val) / 128) % 32 = c.val
    rw [hd1]; omega
  show _ = xbf m ρ (tgt 0 ((offd 1 + 1 * (x 1).val) / 128)) _
  rw [e]
  congr 1
  funext a
  match a with
  | 0 =>
    apply Fin.ext
    show offs 0 + 1 * (x 0).val = (p.val * 128 + (offd 0 + 1 * (x 0).val)) % 4096
    rw [hs0, hd0]; omega
  | 1 =>
    apply Fin.ext
    show offs 1 + 1 * (x 1).val = (offd 1 + 1 * (x 1).val) % 128
    rw [hs1, hd1]; omega

/-- A row of maxima copied to the same row of another device's buffer. -/
theorem row_lands {off : Fin 2 → ℕ} (inb) (hr) (fd) :
    ∀ i ∈ ((Memref.whole cc0_scratch2).slice (Rect.unit (s := S32x128) off S1x128.size inb) hr).view.set,
      ((Memref.whole cc0_scratch2).slice (Rect.unit (s := S32x128) off S1x128.size inb) hr).view.write (Elt F) fd
        (((Memref.whole cc0_scratch2).slice (Rect.unit (s := S32x128) off S1x128.size inb) hr).view.read (Elt F) (amF m ρ)) Finset.univ i
        = amF m ρ i :=
  write_on _ _ _ _ fun x => rfl

/-- A chunk's index inside a slot: the same row and column under the slot's unit axis. -/
theorem squeeze_idx (h : S512x2048.numel = S1x512x2048.numel) (x : S512x2048.Idx) :
    Shape.reshapeEquiv h x = fun a => match a with
      | 0 => (0 : Fin 1) | 1 => (x 0 : Fin 512) | 2 => (x 1 : Fin 2048) := by
  apply Shape.reshapeEquiv_eq_of_rowMajor
  rw [Shape.rowMajor_val_three, Shape.rowMajor_val_two]
  show (0 * 512 + (x 0).val) * 2048 + (x 1).val = _
  rw [Nat.zero_mul, Nat.zero_add]
  rfl

/-- Chunk `k` of `w` copied into a slot of the ring. -/
theorem chunk_lands {offs : Fin 2 → ℕ} {offd : Fin 3 → ℕ} {c : Dev nD} {k : ℕ} (hk : k < 8) (hs0 : offs 0 = 512 * k) (hs1 : offs 1 = 0)
    (hd1 : offd 1 = 0) (hd2 : offd 2 = 0) (inbs) (hrs) (inbd) (hrd) (hsq) (fd) :
    ∀ i ∈ (((Memref.whole cc0_scratch3).slice (Rect.unit (s := S6x512x2048) offd S1x512x2048.size inbd) hrd).squeeze S512x2048 hsq).view.set,
      (((Memref.whole cc0_scratch3).slice (Rect.unit (s := S6x512x2048) offd S1x512x2048.size inbd) hrd).squeeze S512x2048 hsq).view.write (Elt F) fd
        (((Memref.whole main_arg1).slice (Rect.unit (s := S4096x2048) offs S512x2048.size inbs) hrs).view.read (Elt F) (wv m c)) Finset.univ i
        = wbF m c k i := by
  refine write_on _ _ _ _ fun x => ?_
  have hx0 : (x 0).val < 512 := (x 0).isLt
  have hx1 : (x 1).val < 2048 := (x 1).isLt
  show wv m c _ = wbF m c k ((Rect.unit (s := S6x512x2048) offd S1x512x2048.size inbd).emb (Shape.reshapeEquiv hsq.numel_eq x))
  have e := squeeze_idx hsq.numel_eq x
  unfold wbF
  congr 1
  funext a
  match a with
  | 0 =>
    apply Fin.ext
    show offs 0 + 1 * (x 0).val = (k * 512 + (offd 1 + 1 * (Shape.reshapeEquiv (s := S1x512x2048) (s' := S512x2048) hsq.numel_eq x 1).val)) % 4096
    rw [hs0, hd1, e]
    show 512 * k + 1 * (x 0).val = (k * 512 + (0 + 1 * (x 0).val)) % 4096
    omega
  | 1 =>
    apply Fin.ext
    show offs 1 + 1 * (x 1).val = offd 2 + 1 * (Shape.reshapeEquiv (s := S1x512x2048) (s' := S512x2048) hsq.numel_eq x 2).val
    rw [hs1, hd2, e]

/-! ## What the loads read -/

theorem xg_load {off : Fin 2 → ℕ} {c : Dev nD} {k : ℕ} (hk : k < 8) (h0 : off 0 = 0) (h1 : off 1 = 512 * k) (inb) :
    (Memref.whole cc0_scratch1).view.readAt (Elt F) (Rect.unit (s := S128x4096) off S128x512.size inb).toLoadRect (xgF m ρ c) = xgCh m ρ c k := by
  funext x
  have hx0 : (x 0).val < 128 := (x 0).isLt
  have hx1 : (x 1).val < 512 := (x 1).isLt
  show xgF m ρ c _ = xgF m ρ c _
  congr 1
  funext a
  match a with
  | 0 =>
    apply Fin.ext
    show off 0 + 1 * (x 0).val = (x 0).val
    rw [h0]; omega
  | 1 =>
    apply Fin.ext
    show off 1 + 1 * (x 1).val = (k * 512 + (x 1).val) % 4096
    rw [h1]; omega

theorem wb_load {off : Fin 3 → ℕ} {c : Dev nD} {k : ℕ} (h1 : off 1 = 0) (h2 : off 2 = 0) (inb) :
    (Memref.whole cc0_scratch3).view.readAt (Elt F) (Rect.unit (s := S6x512x2048) off S1x512x2048.size inb).toLoadRect (wbF m c k) = wCh m c k := by
  funext x
  have hx1 : (x 1).val < 512 := (x 1).isLt
  have hx2 : (x 2).val < 2048 := (x 2).isLt
  show wv m c _ = wv m c _
  congr 1
  funext a
  match a with
  | 0 =>
    apply Fin.ext
    show (k * 512 + (off 1 + 1 * (x 1).val)) % 4096 = (k * 512 + (x 1).val) % 4096
    rw [h1]; omega
  | 1 =>
    apply Fin.ext
    show off 2 + 1 * (x 2).val = (x 2).val
    rw [h2]; omega

/-- The columns a chunk's load reads are among the first `n` blocks. -/
theorem xg_load_sub {off : Fin 2 → ℕ} {n : ℕ} (h1 : off 1 + 512 ≤ 128 * n) (inb) :
    (Memref.whole cc0_scratch1).view.setOn (Rect.unit (s := S128x4096) off S128x512.size inb).toLoadRect.set
      ⊆ Finset.univ.filter fun i : S128x4096.Idx => (i 1).val / 128 ∈ Finset.range n := by
  intro i hi
  obtain ⟨x, hx, rfl⟩ := Finset.mem_map.mp hi
  have h := Rect.mem_set_unit.mp hx 1
  change off 1 ≤ (x 1).val ∧ (x 1).val < off 1 + 512 at h
  rw [Finset.mem_filter, Finset.mem_range]
  refine ⟨Finset.mem_univ _, ?_⟩
  show (x 1).val / 128 < n
  omega

theorem wb_load_sub {off : Fin 3 → ℕ} {k : ℕ} (h0 : off 0 = k) (h1 : off 1 = 0) (h2 : off 2 = 0) (inb) :
    (Memref.whole cc0_scratch3).view.setOn (Rect.unit (s := S6x512x2048) off S1x512x2048.size inb).toLoadRect.set ⊆ wbSlot k := by
  intro i hi
  obtain ⟨x, hx, rfl⟩ := Finset.mem_map.mp hi
  rw [← wb_rect h0 h1 h2 inb]
  exact hx

end Cert.KProof
-- ==== Proof.Steps.lean ====
/-
# One step of the body

Between any two effects a device holds: what everybody knows, what it still owes, the ring of `w` chunks, the current
phase's progress, and the rest. Each lemma here moves that state past one effect.
-/
module

public import proofs.«01_k».proof.Proof.Regions

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program run by device `c`, to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Progress through a numbered list of like steps -/

/-- Steps `lo … hi-1`, those below `n` made. -/
def prg (lo hi : ℕ) (pre post : ℕ → sProp 𝕄) (n : ℕ) : sProp 𝕄 :=
  iprop((bigSep (Finset.Ico lo n) post) ∗ bigSep (Finset.Ico n hi) pre)

theorem bigSep_ico_first {a n : ℕ} (h : a < n) (Φ : ℕ → sProp 𝕄) :
    bigSep (Finset.Ico a n) Φ = iprop(Φ a ∗ bigSep (Finset.Ico (a + 1) n) Φ) := by
  rw [ico_succ h, bigSep_insert (ico_fresh a n)]; rfl
theorem bigSep_ico_last {a n : ℕ} (h : a ≤ n) (Φ : ℕ → sProp 𝕄) :
    bigSep (Finset.Ico a (n + 1)) Φ = iprop(Φ n ∗ bigSep (Finset.Ico a n) Φ) := by
  have e : Finset.Ico a (n + 1) = insert n (Finset.Ico a n) := by
    ext x; rw [Finset.mem_insert, Finset.mem_Ico, Finset.mem_Ico]; omega
  rw [e, bigSep_insert (by rw [Finset.mem_Ico]; omega)]; rfl

/-- Step `n` is at hand, and once made moves the progress on. -/
theorem prg_take {lo hi n : ℕ} (hlo : lo ≤ n) (hn : n < hi) (pre post : ℕ → sProp 𝕄) :
    prg lo hi pre post n ⊢ iprop(pre n ∗ (post n -∗ prg lo hi pre post (n + 1))) := by
  unfold prg
  rw [bigSep_ico_first hn, bigSep_ico_last hlo]
  iintro ⟨H1, H2, H3⟩
  isplitl [H2]; · iexact H2
  iintro H
  isplitl [H H1]
  · isplitl [H]; · iexact H
    iexact H1
  iexact H3

theorem prg_start (lo hi : ℕ) (pre post : ℕ → sProp 𝕄) : bigSep (Finset.Ico lo hi) pre ⊢ prg lo hi pre post lo := by
  unfold prg
  rw [Finset.Ico_self, bigSep_empty]
  iintro H
  isplitr; · iempintro
  iexact H
theorem prg_end (lo hi : ℕ) (pre post : ℕ → sProp 𝕄) : prg lo hi pre post hi ⊢ bigSep (Finset.Ico lo hi) post := by
  unfold prg
  iintro ⟨H, -⟩
  iexact H

/-! ## The state -/

/-- What device `c` still owes. -/
def OW (c : Dev nD) (b r a : ℕ) : sProp 𝕄 := iprop(∃ W, owes (c : Thread nD τ) (owed c b r a) W)

/-- The state between effects. -/
def St (c : Dev nD) (b r a : ℕ) (Y X R : sProp 𝕄) : sProp 𝕄 := iprop(know m ρ ∗ OW c b r a ∗ Y ∗ X ∗ R)

/-- The device `d` places on from device 0: the index `d` of a semaphore array. -/
abbrev dv (d : ℕ) : Dev nD := tgt 0 d

theorem dv_val {d : ℕ} (h : d < 32) : (dv d).val = d := by
  show (0 + d) % 32 = d
  omega

/-! ## Signals -/

/-- What a device gives away with its signal to the device `d` places on. -/
def sigPre (c : Dev nD) (d : ℕ) : sProp 𝕄 :=
  iprop(dutyTok ER (barCell (tgt c d)) 0 c ∗ (∃ f, xgPt (F := F) c (tgt c d).val f) ∗ ∃ f, amPt (F := F) c (tgt c d).val fullShare f)
def nothing : ℕ → sProp 𝕄 := fun _ => iprop(emp)

/-- The signal to the device `d` places on. -/
theorem step_signal {c : Dev nD} {r a d : ℕ} {Y R : sProp 𝕄} {α : Type} {k : PUnit → Prog (TpuEff nD τ sig (Elt F) Λ₀ .tc) α} {Q : α → sProp 𝕄}
    {n : Dev nD} {w : ℤ} (hn : n.val = (c.val + d) % 32)
    (h : St m ρ c (d + 1) r a Y (prg 1 32 (sigPre c) nothing (d + 1)) R ⊢ WP c (k ⟨⟩) Q)
    (hw : w = ((1 : ℕ) : ℤ) := by rfl) (h1 : 1 ≤ d := by decide) (h2 : d < 32 := by decide) :
    St m ρ c d r a Y (prg 1 32 (sigPre c) nothing d) R ⊢ WP c (.op (.semSignal (n, Proc.tc) barS w) k) Q := by
  have hn' : n = tgt c d := Fin.ext hn
  subst hn' hw
  unfold St OW
  rw [owed_bar c d r a h2]
  iintro ⟨#Hk, ⟨%W, HO⟩, HY, HX, HR⟩
  ihave HX' := (prg_take h1 h2 _ _) $$ HX
  icases HX' with ⟨Hpre, Hnext⟩
  unfold sigPre
  icases Hpre with ⟨Htok, Hf, Hg⟩
  ihave Hinv := (know_bar m ρ (tgt c d)) $$ Hk
  unfold inv
  icases Hinv with ⟨⟨%κ, #HI⟩, #Hr⟩
  iapply (Rounds.wp_signal 𝒱₀ ER (rd m ρ) (c : Thread nD τ) none (dst := (tgt c d : Thread nD τ)) (κ := κ) (r := 0)
      (d := c) (by rw [bar_duties, if_pos rfl]; exact Finset.mem_erase.mpr ⟨(tgt_ne c h1 h2).symm, Finset.mem_univ _⟩)
      (bar_amount m ρ (tgt c d) 0 c) () (owed c (d + 1) r a) rfl)
    $$ [HO Htok Hf Hg]
  · isplitr; · iexact HI
    isplitl [HO]; · iexact HO
    isplitl [Htok]; · iexact Htok
    isplitl [Hf Hg]
    · rw [bar_payload]; unfold barPay
      isplitl [Hf]; · iexact Hf
      iexact Hg
    iexact Hr
  iintro HO
  ihave HX := Hnext $$ []
  · unfold nothing; iempintro
  iapply h
  unfold St OW sigPre
  isplitr; · iexact Hk
  isplitl [HO]; · iexists W; iexact HO
  isplitl [HY]; · iexact HY
  isplitl [HX]; · iexact HX
  iexact HR

/-! ## Waits -/

theorem know_q (c : Dev nD) (q : DmaSem sig) (h2 : 2 ≤ q.val) : know (F := F) m ρ ⊢ inv m ρ (dcell c q) :=
  match q, h2 with | ⟨i, hi⟩, h2 => know_dma m ρ c i hi h2

/-- A wait on one of the device's own DMA cells for a round of one duty: credits and position for the next position and
    the round's payload. -/
theorem wait_core {c : Dev nD} {b r a : ℕ} {Y Z R : sProp 𝕄} {α : Type} {k : PUnit → Prog (TpuEff nD τ sig (Elt F) Λ₀ .tc) α} {Q : α → sProp 𝕄}
    {q : DmaSem sig} {o : Role} {N t : ℕ} (hq : role q = o) (h2 : 2 ≤ q.val) (hd : roleDuties c t o = {0}) (hN : roleAmount o = N)
    (hm : (levAts L lv : sProp 𝕄) ⊢ MayWait (c : Thread nD τ) (.dma q) () (owed c b r a))
    {sp sp' : Space} {s s' : Shape} {e e' : EltTy} {src : Memref sig .tc sp' s' e'} {dst : Memref sig .tc sp s e}
    {h1 : src.view.WordExact} {h1' : dst.view.WordExact} (hcr : dst.view.dmaCredit = N)
    (h : St m ρ c b r a Y iprop((atPos ER (dcell c q) (t + 1) ∅ 0 ∗ reached ER (dcell c q) (t + 1) ∗ rolePay m ρ c t o) ∗ Z) R ⊢ WP c (k ⟨⟩) Q) :
    St m ρ c b r a Y iprop((cred (tallyAt (dcell c q) () N) ∗ atPos ER (dcell c q) t ∅ 0) ∗ Z) R
      ⊢ WP c (.op (.waitDma2 q src dst h1 h1') k) Q := by
  subst hcr
  have hm' : know (F := F) m ρ ⊢ MayWait (c : Thread nD τ) (.dma q) () (owed c b r a) := by
    unfold know; iintro ⟨-, H⟩; iapply hm; iexact H
  unfold St OW
  iintro ⟨#Hk, ⟨%W, HO⟩, HY, ⟨⟨Hc, Hat⟩, HZ⟩, HR⟩
  ihave Hinv := (know_q m ρ c q h2) $$ Hk
  unfold inv
  icases Hinv with ⟨⟨%κ, #HI⟩, -⟩
  iapply (Rounds.wp_wait_rest_token 𝒱₀ ER (rd m ρ) (c : Thread nD τ) none (κ := κ) (sm := .dma q)
      (wpE_waitDma2_eq 𝒱₀ (c : Thread nD τ) none Set.univ) (Set.mem_univ _) () (O := owed c b r a) (W := W) (R := t) (m := 0) (T := ∅)
      (by rw [Nat.zero_add, dcell_expect m ρ c hq hd, hN])) $$ [Hc HO Hat]
  · isplitr; · iexact HI
    isplitl [Hc]; · iexact Hc
    isplitl [HO]; · iexact HO
    isplitr
    · iapply hm'
      iexact Hk
    iexact Hat
  rw [dcell_rest m ρ c hq hd]
  iintro ⟨HO, Hat, Hr, Hpay⟩
  iapply h
  unfold St OW
  isplitr; · iexact Hk
  isplitl [HO]; · iexists _; iexact HO
  isplitl [HY]; · iexact HY
  isplitl [Hat Hr Hpay HZ]
  · isplitl [Hat Hr Hpay]
    · isplitl [Hat]; · iexact Hat
      isplitl [Hr]; · iexact Hr
      iexact Hpay
    iexact HZ
  iexact HR

/-- Before and after a wait of round 0 on cell `q d`. -/
def wtPre (c : Dev nD) (q : ℕ → DmaSem sig) (N : ℕ) (d : ℕ) : sProp 𝕄 :=
  iprop(cred (tallyAt (dcell c (q d)) () N) ∗ atPos ER (dcell c (q d)) 0 ∅ 0)
def wtPost (c : Dev nD) (q : ℕ → DmaSem sig) (o : ℕ → Role) (d : ℕ) : sProp 𝕄 :=
  iprop(rolePay m ρ c 0 (o d) ∗ atPos ER (dcell c (q d)) 1 ∅ 0)

/-- The next of a list of waits. -/
theorem step_wait {c : Dev nD} {b r a lo hi d : ℕ} {Y R : sProp 𝕄} {α : Type} {k : PUnit → Prog (TpuEff nD τ sig (Elt F) Λ₀ .tc) α} {Q : α → sProp 𝕄}
    {q : ℕ → DmaSem sig} {o : ℕ → Role} {N : ℕ} {q' : DmaSem sig} (hq' : q' = q d) (hq : role (q d) = o d) (h2 : 2 ≤ (q d).val)
    (hd : roleDuties c 0 (o d) = {0}) (hN : roleAmount (o d) = N)
    (hm : (levAts L lv : sProp 𝕄) ⊢ MayWait (c : Thread nD τ) (.dma (q d)) () (owed c b r a))
    {sp sp' : Space} {s s' : Shape} {e e' : EltTy} {src : Memref sig .tc sp' s' e'} {dst : Memref sig .tc sp s e}
    {h1 : src.view.WordExact} {h1' : dst.view.WordExact} (hcr : dst.view.dmaCredit = N) (hlo : lo ≤ d) (hhi : d < hi)
    (h : St m ρ c b r a Y (prg lo hi (wtPre c q N) (wtPost m ρ c q o) (d + 1)) R ⊢ WP c (k ⟨⟩) Q) :
    St m ρ c b r a Y (prg lo hi (wtPre c q N) (wtPost m ρ c q o) d) R ⊢ WP c (.op (.waitDma2 q' src dst h1 h1') k) Q := by
  subst hq'
  refine .trans ?_ (wait_core m ρ (Y := Y) (R := R) (k := k) (Q := Q) (Z := iprop(wtPost m ρ c q o d -∗ prg lo hi (wtPre c q N) (wtPost m ρ c q o) (d + 1))) hq h2 hd hN hm hcr (.trans ?_ h))
  · unfold St
    iintro ⟨Hk, HO, HY, HX, HR⟩
    ihave HX' := (prg_take hlo hhi _ _) $$ HX
    isplitl [Hk]; · iexact Hk
    isplitl [HO]; · iexact HO
    isplitl [HY]; · iexact HY
    isplitl [HX']; · unfold wtPre; iexact HX'
    iexact HR
  · unfold St
    iintro ⟨Hk, HO, HY, ⟨⟨Hat, -, Hpay⟩, Hnext⟩, HR⟩
    isplitl [Hk]; · iexact Hk
    isplitl [HO]; · iexact HO
    isplitl [HY]; · iexact HY
    isplitr [HR]
    · iapply Hnext
      unfold wtPost
      isplitl [Hpay]; · iexact Hpay
      iexact Hat
    iexact HR

end Cert.KProof
-- ==== Proof.Moves.lean ====
/-
# The kernel's moves

The steps of `Steps` at the kernel's own copies, waits, loads and stores.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The printed semaphores -/

section Sems
variable {off : Fin 1 → ℕ} {i : ℕ}

theorem sem_snd (inb) (hsq) (h : off 0 = i) (hi : i < 32) :
    ((cc0_scratch4.slice (Rect.unit (s := S32) off S1.size inb)).squeeze S_ hsq).sem = sndS (dv i) :=
  Fin.ext ((sem_at (base := 2) _ inb hsq).trans (by rw [h]; exact congrArg (2 + ·) (dv_val hi).symm))
theorem sem_rcv (inb) (hsq) (h : off 0 = i) (hi : i < 32) :
    ((cc0_scratch5.slice (Rect.unit (s := S32) off S1.size inb)).squeeze S_ hsq).sem = rcvS (dv i) :=
  Fin.ext ((sem_at (base := 34) _ inb hsq).trans (by rw [h]; exact congrArg (34 + ·) (dv_val hi).symm))
theorem sem_asnd (inb) (hsq) (h : off 0 = i) (hi : i < 32) :
    ((cc0_scratch6.slice (Rect.unit (s := S32) off S1.size inb)).squeeze S_ hsq).sem = asndS (dv i) :=
  Fin.ext ((sem_at (base := 66) _ inb hsq).trans (by rw [h]; exact congrArg (66 + ·) (dv_val hi).symm))
theorem sem_arcv (inb) (hsq) (h : off 0 = i) (hi : i < 32) :
    ((cc0_scratch7.slice (Rect.unit (s := S32) off S1.size inb)).squeeze S_ hsq).sem = arcvS (dv i) :=
  Fin.ext ((sem_at (base := 98) _ inb hsq).trans (by rw [h]; exact congrArg (98 + ·) (dv_val hi).symm))

/-- The ring's semaphore for chunk `k`. -/
def wq (k : ℕ) : DmaSem sig := wS ⟨k % 6, Nat.mod_lt _ (by decide)⟩
theorem sem_w {k : ℕ} (inb) (hsq) (h : off 0 = k % 6) :
    ((cc0_scratch8.slice (Rect.unit (s := S6) off S1.size inb)).squeeze S_ hsq).sem = wq k :=
  Fin.ext ((sem_at (base := 130) _ inb hsq).trans (by rw [h]; rfl))
theorem role_wq (k : ℕ) : role (wq k) = .w ⟨k % 6, Nat.mod_lt _ (by decide)⟩ := role_w _

theorem dv_self (c : Dev nD) : dv c.val = c := Fin.ext (dv_val (dev_lt c))
end Sems

/-! ## The credit of a copy -/

/-- A copy's credit is its shape's and its element type's alone. -/
theorem credit_ref {sp : Space} {s : Shape} {e : EltTy} (v : Memref sig .tc sp s e) (b : Ref sig .tc) : v.view.dmaCredit = b.dmaCredit s e := rfl

theorem credit_xg {off inb hr} : ((Memref.whole cc0_scratch1).slice (Rect.unit (s := S128x4096) off S128x128.size inb) hr).view.dmaCredit = NX := by
  unfold NX
  exact credit_ref (s := S128x128) (e := .bf16) _ cc0_scratch1
theorem credit_xbf {off inb hr} : ((Memref.whole cc0_scratch0).slice (Rect.unit (s := S4096x128) off S128x128.size inb) hr).view.dmaCredit = NX := by
  unfold NX
  exact credit_ref (s := S128x128) (e := .bf16) _ cc0_scratch1
theorem credit_am {off inb hr} : ((Memref.whole cc0_scratch2).slice (Rect.unit (s := S32x128) off S1x128.size inb) hr).view.dmaCredit = NA := by
  unfold NA
  exact credit_ref (s := S1x128) (e := .f32) _ cc0_scratch2
theorem credit_wb {off inb hr hsq} : (((Memref.whole cc0_scratch3).slice (Rect.unit (s := S6x512x2048) off S1x512x2048.size inb) hr).squeeze
    S512x2048 hsq).view.dmaCredit = NW := by
  unfold NW
  exact credit_ref (s := S512x2048) (e := .f32) _ cc0_scratch3

/-! ## The waits of round 0 -/

abbrev rq (s : ℕ) : DmaSem sig := rcvS (dv s)
abbrev ro (s : ℕ) : Role := .rcv (dv s)
abbrev sq (d : ℕ) : DmaSem sig := sndS (dv d)
abbrev so (d : ℕ) : Role := .snd (dv d)
abbrev asq (d : ℕ) : DmaSem sig := asndS (dv d)
abbrev aso (d : ℕ) : Role := .asnd (dv d)
abbrev arq (c : Dev nD) (d : ℕ) : DmaSem sig := arcvS (tgt c d)
abbrev aro (c : Dev nD) (d : ℕ) : Role := .arcv (tgt c d)

theorem dv_ne {d : ℕ} (h1 : 1 ≤ d) (h2 : d < 32) : dv d ≠ 0 := tgt_ne 0 h1 h2

theorem dut_rcv (c s : Dev nD) : roleDuties c 0 (.rcv s) = {0} := by unfold roleDuties; exact if_pos rfl
theorem dut_snd (c : Dev nD) {d : ℕ} (h1 : 1 ≤ d) (h2 : d < 32) : roleDuties c 0 (.snd (dv d)) = {0} := if_pos ⟨rfl, dv_ne h1 h2⟩
theorem dut_asnd (c : Dev nD) {d : ℕ} (h1 : 1 ≤ d) (h2 : d < 32) : roleDuties c 0 (.asnd (dv d)) = {0} := if_pos ⟨rfl, dv_ne h1 h2⟩
theorem dut_arcv (c : Dev nD) {d : ℕ} (h1 : 1 ≤ d) (h2 : d < 32) : roleDuties c 0 (.arcv (tgt c d)) = {0} :=
  if_pos ⟨rfl, tgt_ne c h1 h2⟩

/-- The wait for block `d`. -/
theorem step_rcv {c : Dev nD} {a d : ℕ} {Y R : sProp 𝕄} {α : Type} {k : PUnit → Prog (TpuEff nD τ sig (Elt F) Λ₀ .tc) α} {Q : α → sProp 𝕄}
    {offs : Fin 1 → ℕ} {sp : Space} {s : Shape} {e : EltTy} {src : Memref sig .tc sp s e} {offd : Fin 2 → ℕ} {inbs inbd hsq hr h1 h1'} (hs : offs 0 = d)
    (h : St m ρ c 32 32 a Y (prg 0 32 (wtPre c rq NX) (wtPost m ρ c rq ro) (d + 1)) R ⊢ WP c (k ⟨⟩) Q)
    (hd : d < 32 := by decide) :
    St m ρ c 32 32 a Y (prg 0 32 (wtPre c rq NX) (wtPost m ρ c rq ro) d) R
      ⊢ WP c (.op (.waitDma2 ((cc0_scratch5.slice (Rect.unit (s := S32) offs S1.size inbs)).squeeze S_ hsq).sem src
          ((Memref.whole cc0_scratch1).slice (Rect.unit (s := S128x4096) offd S128x128.size inbd) hr) h1 h1') k) Q :=
  step_wait m ρ (q := rq) (o := ro) (N := NX) (sem_rcv _ _ hs hd) (role_rcv _) (Nat.le_trans (by decide) (Nat.le_add_right 34 _)) (dut_rcv c _) rfl
    (mayWait_rcv c _ a) credit_xg (Nat.zero_le _) hd h

/-- The wait for the row of the device `d` places on. -/
theorem step_arcv {c : Dev nD} {d : ℕ} {Y R : sProp 𝕄} {α : Type} {k : PUnit → Prog (TpuEff nD τ sig (Elt F) Λ₀ .tc) α} {Q : α → sProp 𝕄}
    {offs : Fin 1 → ℕ} {sp : Space} {s : Shape} {e : EltTy} {src : Memref sig .tc sp s e} {offd : Fin 2 → ℕ} {inbs inbd hsq hr h1 h1'} (hs : offs 0 = (c.val + d) % 32)
    (h : St m ρ c 32 32 32 Y (prg 1 32 (wtPre c (arq c) NA) (wtPost m ρ c (arq c) (aro c)) (d + 1)) R ⊢ WP c (k ⟨⟩) Q)
    (hd1 : 1 ≤ d := by decide) (hd : d < 32 := by decide) :
    St m ρ c 32 32 32 Y (prg 1 32 (wtPre c (arq c) NA) (wtPost m ρ c (arq c) (aro c)) d) R
      ⊢ WP c (.op (.waitDma2 ((cc0_scratch7.slice (Rect.unit (s := S32) offs S1.size inbs)).squeeze S_ hsq).sem src
          ((Memref.whole cc0_scratch2).slice (Rect.unit (s := S32x128) offd S1x128.size inbd) hr) h1 h1') k) Q :=
  step_wait m ρ (q := arq c) (o := aro c) (N := NA) ((sem_arcv _ _ hs (Nat.mod_lt _ (by decide))).trans (congrArg arcvS (dv_self (tgt c d)))) (role_arcv _)
    (Nat.le_trans (by decide) (Nat.le_add_right 98 _)) (dut_arcv c hd1 hd) rfl
    (mayWait_done c _) credit_am hd1 hd h

/-- The wait for the completion of block send `d`. -/
theorem step_snd {c : Dev nD} {d : ℕ} {Y R : sProp 𝕄} {α : Type} {k : PUnit → Prog (TpuEff nD τ sig (Elt F) Λ₀ .tc) α} {Q : α → sProp 𝕄}
    {offs : Fin 1 → ℕ} {sp : Space} {s : Shape} {e : EltTy} {src : Memref sig .tc sp s e} {offd : Fin 2 → ℕ} {inbs inbd hsq hr h1 h1'} (hs : offs 0 = d)
    (h : St m ρ c 32 32 32 Y (prg 1 32 (wtPre c sq NX) (wtPost m ρ c sq so) (d + 1)) R ⊢ WP c (k ⟨⟩) Q)
    (hd1 : 1 ≤ d := by decide) (hd : d < 32 := by decide) :
    St m ρ c 32 32 32 Y (prg 1 32 (wtPre c sq NX) (wtPost m ρ c sq so) d) R
      ⊢ WP c (.op (.waitDma2 ((cc0_scratch4.slice (Rect.unit (s := S32) offs S1.size inbs)).squeeze S_ hsq).sem src
          ((Memref.whole cc0_scratch0).slice (Rect.unit (s := S4096x128) offd S128x128.size inbd) hr) h1 h1') k) Q :=
  step_wait m ρ (q := sq) (o := so) (N := NX) (sem_snd _ _ hs hd) (role_snd _) (Nat.le_add_right 2 _) (dut_snd c hd1 hd) rfl
    (mayWait_done c _) credit_xbf hd1 hd h

/-- The wait for the completion of row send `d`. -/
theorem step_asnd {c : Dev nD} {d : ℕ} {Y R : sProp 𝕄} {α : Type} {k : PUnit → Prog (TpuEff nD τ sig (Elt F) Λ₀ .tc) α} {Q : α → sProp 𝕄}
    {offs : Fin 1 → ℕ} {sp : Space} {s : Shape} {e : EltTy} {src : Memref sig .tc sp s e} {offd : Fin 2 → ℕ} {inbs inbd hsq hr h1 h1'} (hs : offs 0 = d)
    (h : St m ρ c 32 32 32 Y (prg 1 32 (wtPre c asq NA) (wtPost m ρ c asq aso) (d + 1)) R ⊢ WP c (k ⟨⟩) Q)
    (hd1 : 1 ≤ d := by decide) (hd : d < 32 := by decide) :
    St m ρ c 32 32 32 Y (prg 1 32 (wtPre c asq NA) (wtPost m ρ c asq aso) d) R
      ⊢ WP c (.op (.waitDma2 ((cc0_scratch6.slice (Rect.unit (s := S32) offs S1.size inbs)).squeeze S_ hsq).sem src
          ((Memref.whole cc0_scratch2).slice (Rect.unit (s := S32x128) offd S1x128.size inbd) hr) h1 h1') k) Q :=
  step_wait m ρ (q := asq) (o := aso) (N := NA) (sem_asnd _ _ hs hd) (role_asnd _) (Nat.le_trans (by decide) (Nat.le_add_right 66 _)) (dut_asnd c hd1 hd) rfl
    (mayWait_done c _) credit_am hd1 hd h

end Cert.KProof
-- ==== Proof.Sends.lean ====
/-
# The kernel's sends

The block and row sends to every other device, and the two local copies: a device's own block, and the chunks of `w`.
-/
module

public import proofs.«01_k».proof.Proof.Moves

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A region of a buffer as the view that a slice takes of it. -/
theorem xbfPt_view {c : Dev nD} {s : ℕ} {off : Fin 2 → ℕ} (h0 : off 0 = 128 * s) (h1 : off 1 = 0) (inb) (hr) :
    xbfPt (F := F) m ρ c s = (((Memref.whole cc0_scratch0).slice (Rect.unit (s := S4096x128) off S128x128.size inb) hr).view.loc (c : Thread nD τ)
      ↦[((Memref.whole cc0_scratch0).slice (Rect.unit (s := S4096x128) off S128x128.size inb) hr).view.set]{fullShare} xbf m ρ c) := by
  rw [xbf_set h0 h1]; rfl
theorem xgPt_view {c : Dev nD} {s : ℕ} {off : Fin 2 → ℕ} (h0 : off 0 = 0) (h1 : off 1 = 128 * s) (inb) (hr) (f : Vec F S128x4096 .bf16) :
    xgPt (F := F) c s f = (((Memref.whole cc0_scratch1).slice (Rect.unit (s := S128x4096) off S128x128.size inb) hr).view.loc (c : Thread nD τ)
      ↦[((Memref.whole cc0_scratch1).slice (Rect.unit (s := S128x4096) off S128x128.size inb) hr).view.set]{fullShare} f) := by
  rw [xg_set h0 h1]; rfl
theorem amPt_view {c : Dev nD} {s : ℕ} {off : Fin 2 → ℕ} (h0 : off 0 = s) (h1 : off 1 = 0) (inb) (hr) (q) (f : Vec F S32x128 .f32) :
    amPt (F := F) c s q f = (((Memref.whole cc0_scratch2).slice (Rect.unit (s := S32x128) off S1x128.size inb) hr).view.loc (c : Thread nD τ)
      ↦[((Memref.whole cc0_scratch2).slice (Rect.unit (s := S32x128) off S1x128.size inb) hr).view.set]{q} f) := by
  rw [am_set h0 h1]; rfl
theorem wbPt_view {c : Dev nD} {k : ℕ} {off : Fin 3 → ℕ} (h0 : off 0 = k) (h1 : off 1 = 0) (h2 : off 2 = 0) (inb) (hr) (hsq) (f : Vec F S6x512x2048 .f32) :
    wbPt (F := F) c k f = ((((Memref.whole cc0_scratch3).slice (Rect.unit (s := S6x512x2048) off S1x512x2048.size inb) hr).squeeze S512x2048 hsq).view.loc (c : Thread nD τ)
      ↦[(((Memref.whole cc0_scratch3).slice (Rect.unit (s := S6x512x2048) off S1x512x2048.size inb) hr).squeeze S512x2048 hsq).view.set]{fullShare} f) := by
  rw [wb_set h0 h1 h2]; rfl
theorem wPt_view {c : Dev nD} {k : ℕ} {off : Fin 2 → ℕ} (h0 : off 0 = 512 * k) (h1 : off 1 = 0) (inb) (hr) :
    wPt (F := F) m c k = (((Memref.whole main_arg1).slice (Rect.unit (s := S4096x2048) off S512x2048.size inb) hr).view.loc (c : Thread nD τ)
      ↦[((Memref.whole main_arg1).slice (Rect.unit (s := S4096x2048) off S512x2048.size inb) hr).view.set]{fullShare} wv m c) := by
  rw [w_set h0 h1]; rfl

section Pays
variable (c : Dev nD) (r : ℕ)
theorem pay_snd (d : Dev nD) : rolePay (F := F) m ρ c r (.snd d) = xbfPt m ρ c (tgt c d.val).val := rfl
theorem pay_rcv (s : Dev nD) : rolePay (F := F) m ρ c r (.rcv s) = rcvPay m ρ c s := rfl
theorem pay_asnd (d : Dev nD) : rolePay (F := F) m ρ c r (.asnd d) = amPt c c.val (leafQ d.val) (amF m ρ) := rfl
theorem pay_arcv (s : Dev nD) : rolePay (F := F) m ρ c r (.arcv s) = amPt c s.val fullShare (amF m ρ) := rfl
theorem pay_w (k : Fin 6) : rolePay (F := F) m ρ c r (.w k) = wPay m c (r * 6 + k.val) := rfl
theorem dut_arcv' {s : Dev nD} (h : s ≠ c) : roleDuties c 0 (.arcv s) = {0} := if_pos ⟨rfl, h⟩
end Pays

/-! ## A send and a local copy, of any view -/

/-- A send to device `n` over the pair of cells `qS` here and `qR` there. -/
theorem send_core {c n : Dev nD} {b r a b' r' a' N : ℕ} {Y Z R : sProp 𝕄} {α : Type} {k : PUnit → Prog (TpuEff nD τ sig (Elt F) Λ₀ .tc) α} {Q : α → sProp 𝕄}
    {qS qR : DmaSem sig} {oS oR : Role} {sp sp' : Space} {s : Shape} {e : EltTy} {src : Memref sig .tc sp s e}
    {dst : Memref sig (Dev.tc n : Thread nD τ).2.kind sp' s e} {hsc : dst.view.ref.isScScratch = false} {hsrc : src.view.WordExact} {hdst : dst.view.WordExact}
    {hsem} {q : PosShare TreeShare} {fs : Buf (Elt F) (src.view.loc (c : Thread nD τ))}
    (hS : role qS = oS) (hR : role qR = oR) (h2S : 2 ≤ qS.val) (h2R : 2 ≤ qR.val) (hdS : roleDuties c 0 oS = {0}) (hdR : roleDuties n 0 oR = {0})
    (hNS : roleAmount oS = N) (hNR : roleAmount oR = N) (hcr : dst.view.dmaCredit = N)
    (hO : owed c b r a = owed c b' r' a' + tallyAt (dcell n qR) () N)
    (hp1 : (src.view.loc (c : Thread nD τ) ↦[src.view.set]{q} fs) ⊢ rolePay m ρ c 0 oS)
    (hp2 : ∀ fd, (dst.view.loc (n : Thread nD τ) ↦[dst.view.set]{fullShare} (dst.view.write (Elt F) fd (src.view.read (Elt F) fs) Finset.univ)) ⊢ rolePay m ρ n 0 oR)
    (h : St m ρ c b' r' a' Y iprop(cred (tallyAt (dcell c qS) () N) ∗ Z) R ⊢ WP c (k ⟨⟩) Q) :
    St m ρ c b r a Y iprop(((src.view.loc (c : Thread nD τ) ↦[src.view.set]{q} fs) ∗ (∃ fd, dst.view.loc (n : Thread nD τ) ↦[dst.view.set]{fullShare} fd)
        ∗ dutyTok ER (dcell c qS) 0 0 ∗ dutyTok ER (dcell n qR) 0 0) ∗ Z) R
      ⊢ WP c (.op (.enqueueDma src (.remote (Dev.tc n : Thread nD τ) dst (.dma qS) hsc) (.dma qR) hsrc hdst hsem) k) Q := by
  unfold St OW
  rw [hO]
  iintro ⟨#Hk, ⟨%W, HO⟩, HY, ⟨⟨Hx, ⟨%f, Hg⟩, Ht1, Ht2⟩, HZ⟩, HR⟩
  ihave Hinv := (know_q m ρ c qS h2S) $$ Hk
  ihave Hinv' := (know_q m ρ n qR h2R) $$ Hk
  unfold inv
  icases Hinv with ⟨⟨%κ, #HI⟩, #Hr⟩
  icases Hinv' with ⟨⟨%κ', #HI'⟩, #Hr'⟩
  iapply (Rounds.wp_send_pointsTo 𝒱₀ ER (rd m ρ) (c : Thread nD τ) none (c' := (Dev.tc n : Thread nD τ)) (src := src) (dst := dst) (q := q) (fs := fs) (fd := f)
      (κ₁ := κ) (κ₂ := κ') (r₁ := 0) (r₂ := 0) (d₁ := (0 : Dev nD)) (d₂ := (0 : Dev nD)) (sS := .dma qS) (sem := .dma qR) (hsem := hsem)
      (by rw [dcell_duties m ρ c hS, hdS]; exact Finset.mem_singleton_self _)
      (by rw [dcell_duties m ρ n hR, hdR]; exact Finset.mem_singleton_self _) () () N hcr
      ((dcell_amount m ρ c hS 0 0).trans hNS) ((dcell_amount m ρ n hR 0 0).trans hNR) (owed c b' r' a') rfl (W := W)
      (by rw [dcell_payload m ρ c hS]; exact hp1)
      (by rw [dcell_payload m ρ n hR]; exact hp2 f)) $$ [Hx Hg HO Ht1 Ht2]
  · isplitr; · iexact HI
    isplitr; · iexact HI'
    isplitl [Hx]; · iexact Hx
    isplitl [Hg]; · iexact Hg
    isplitl [HO]; · iexact HO
    isplitl [Ht1]; · iexact Ht1
    isplitr; · iexact Hr
    isplitl [Ht2]; · iexact Ht2
    iexact Hr'
  iintro ⟨Hc, HO⟩
  iapply h
  unfold St OW
  isplitr; · iexact Hk
  isplitl [HO]; · iexists W; iexact HO
  isplitl [HY]; · iexact HY
  isplitl [Hc HZ]
  · isplitl [Hc]; · iexact Hc
    iexact HZ
  iexact HR

/-- A local copy whose completion is duty 0 of round `t` of cell `qR`. -/
theorem copy_core {c : Dev nD} {b r a t N : ℕ} {Y Z R : sProp 𝕄} {α : Type} {k : PUnit → Prog (TpuEff nD τ sig (Elt F) Λ₀ .tc) α} {Q : α → sProp 𝕄}
    {qR : DmaSem sig} {oR : Role} {sp sp' : Space} {s : Shape} {e : EltTy} {src : Memref sig .tc sp s e}
    {dst : Memref sig .tc sp' s e} {hsrc : src.view.WordExact} {hdst : dst.view.WordExact} {hsem} {q : PosShare TreeShare} {fs : Buf (Elt F) (src.view.loc (c : Thread nD τ))}
    (hR : role qR = oR) (h2R : 2 ≤ qR.val) (hdR : roleDuties c t oR = {0}) (hNR : roleAmount oR = N) (hcr : dst.view.dmaCredit = N)
    (hp : ∀ fd, iprop((dst.view.loc (c : Thread nD τ) ↦[dst.view.set]{fullShare} (dst.view.write (Elt F) fd (src.view.read (Elt F) fs) Finset.univ))
      ∗ (src.view.loc (c : Thread nD τ) ↦[src.view.set]{q} fs)) ⊢ rolePay m ρ c t oR)
    (h : St m ρ c b r a Y iprop(cred (tallyAt (dcell c qR) () N) ∗ Z) R ⊢ WP c (k ⟨⟩) Q) :
    St m ρ c b r a Y iprop(((src.view.loc (c : Thread nD τ) ↦[src.view.set]{q} fs) ∗ (∃ fd, dst.view.loc (c : Thread nD τ) ↦[dst.view.set]{fullShare} fd)
        ∗ dutyTok ER (dcell c qR) t 0 ∗ reached ER (dcell c qR) t) ∗ Z) R
      ⊢ WP c (.op (.enqueueDma src (.here dst) (.dma qR) hsrc hdst hsem) k) Q := by
  unfold St
  iintro ⟨#Hk, HO, HY, ⟨⟨Hx, ⟨%f, Hg⟩, Ht, Hr⟩, HZ⟩, HR⟩
  ihave Hinv := (know_q m ρ c qR h2R) $$ Hk
  unfold inv
  icases Hinv with ⟨⟨%κ, #HI⟩, -⟩
  iapply (Rounds.wp_copy_pointsTo 𝒱₀ ER (rd m ρ) (c : Thread nD τ) none (src := src) (dst := dst) (q := q) (fs := fs) (fd := f)
      (κ := κ) (r := t) (d := (0 : Dev nD)) (sem := .dma qR) (hsem := hsem)
      (by rw [dcell_duties m ρ c hR, hdR]; exact Finset.mem_singleton_self _) () N hcr
      ((dcell_amount m ρ c hR t 0).trans hNR)
      (by rw [dcell_payload m ρ c hR]; exact hp f)) $$ [Hx Hg Ht Hr]
  · isplitr; · iexact HI
    isplitl [Hx]; · iexact Hx
    isplitl [Hg]; · iexact Hg
    isplitl [Ht]; · iexact Ht
    iexact Hr
  iintro Hc
  iapply h
  unfold St
  isplitr; · iexact Hk
  isplitl [HO]; · iexact HO
  isplitl [HY]; · iexact HY
  isplitl [Hc HZ]
  · isplitl [Hc]; · iexact Hc
    iexact HZ
  iexact HR

/-! ## A device's own block -/

/-- Before the local copy: the block, where it goes, and the right to make its arrival. -/
def ownPre (c : Dev nD) : sProp 𝕄 :=
  iprop(xbfPt m ρ c c.val ∗ (∃ f, xgPt (F := F) c c.val f) ∗ dutyTok ER (dcell c (rcvS c)) 0 0)

/-- The local copy of the device's own block. -/
theorem step_own {c : Dev nD} {b r a : ℕ} {Y R : sProp 𝕄} {α : Type} {k : PUnit → Prog (TpuEff nD τ sig (Elt F) Λ₀ .tc) α} {Q : α → sProp 𝕄}
    {offs offd : Fin 2 → ℕ} {offR : Fin 1 → ℕ} {inbs hrs inbd hrd inbR hsqR}
    {hsrc : ((Memref.whole cc0_scratch0).slice (Rect.unit (s := S4096x128) offs S128x128.size inbs) hrs).view.WordExact}
    {hdst : ((Memref.whole cc0_scratch1).slice (Rect.unit (s := S128x4096) offd S128x128.size inbd) hrd).view.WordExact} {hsem}
    (hs : offs = ![128 * c.val, 0]) (hd : offd = ![0, 128 * c.val]) (hR : offR 0 = c.val)
    (h : St m ρ c b r a Y (cred (tallyAt (dcell c (rcvS c)) () NX)) R ⊢ WP c (k ⟨⟩) Q) :
    St m ρ c b r a Y (ownPre m ρ c) R
      ⊢ WP c (.op (.enqueueDma ((Memref.whole cc0_scratch0).slice (Rect.unit (s := S4096x128) offs S128x128.size inbs) hrs)
          (.here ((Memref.whole cc0_scratch1).slice (Rect.unit (s := S128x4096) offd S128x128.size inbd) hrd))
          (.dma ((cc0_scratch5.slice (Rect.unit (s := S32) offR S1.size inbR)).squeeze S_ hsqR).sem) hsrc hdst hsem) k) Q := by
  subst hs hd
  have hq := (sem_rcv inbR hsqR hR (dev_lt c)).trans (congrArg rcvS (dv_self c))
  revert hsem
  rw [hq]
  intro hsem
  refine .trans ?_ (copy_core m ρ (Y := Y) (R := R) (k := k) (Q := Q) (Z := iprop(emp)) (b := b) (r := r) (a := a) (N := NX) (t := 0) (q := fullShare) (fs := xbf m ρ c) (role_rcv c)
    (Nat.le_trans (by decide) (Nat.le_add_right 34 _)) (dut_rcv c c) rfl credit_xg (fun f => ?_) (.trans ?_ h))
  · unfold St ownPre
    rw [xbfPt_view m ρ (c := c) (s := c.val) rfl rfl inbs hrs]
    iintro ⟨#Hk, HO, HY, ⟨Hx, ⟨%f, Hg⟩, Ht⟩, HR⟩
    ihave Hinv := (know_q m ρ c (rcvS c) (Nat.le_trans (by decide) (Nat.le_add_right 34 _))) $$ Hk
    unfold inv
    icases Hinv with ⟨-, #Hr⟩
    ihave Hg := (Entails.of_eq (xgPt_view (c := c) (s := c.val) rfl rfl inbd hrd f)) $$ Hg
    isplitr; · iexact Hk
    isplitl [HO]; · iexact HO
    isplitl [HY]; · iexact HY
    isplitl [Hx Hg Ht]
    · isplitl [Hx Hg Ht]
      · isplitl [Hx]; · iexact Hx
        isplitl [Hg]; · iexists f; iexact Hg
        isplitl [Ht]; · iexact Ht
        iexact Hr
      iempintro
    iexact HR
  · rw [pay_rcv]
    unfold rcvPay
    rw [if_pos rfl, pointsTo_congr (block_lands m ρ (c := c) (p := c) rfl rfl rfl rfl inbs hrs inbd hrd f),
      xgPt_view (c := c) (s := c.val) rfl rfl inbd hrd, xbfPt_view m ρ (c := c) (s := c.val) rfl rfl inbs hrs]
  · unfold St
    iintro ⟨Hk, HO, HY, ⟨Hc, -⟩, HR⟩
    isplitl [Hk]; · iexact Hk
    isplitl [HO]; · iexact HO
    isplitl [HY]; · iexact HY
    isplitl [Hc]; · iexact Hc
    iexact HR

/-! ## The block sends -/

/-- Before the send to the device `d` places on: the block it gets, where it goes, and the right to make both completions. -/
def sendPre (c : Dev nD) (d : ℕ) : sProp 𝕄 :=
  iprop(xbfPt m ρ c (tgt c d).val ∗ (∃ f, xgPt (F := F) (tgt c d) c.val f) ∗ dutyTok ER (dcell c (sq d)) 0 0
    ∗ dutyTok ER (dcell (tgt c d) (rcvS c)) 0 0)
/-- After it: its completion is to come. -/
def sendPost (c : Dev nD) (d : ℕ) : sProp 𝕄 := cred (tallyAt (dcell c (sq d)) () NX)

/-- The send to the device `d` places on. -/
theorem step_send {c : Dev nD} {a d : ℕ} {Y R : sProp 𝕄} {α : Type} {k : PUnit → Prog (TpuEff nD τ sig (Elt F) Λ₀ .tc) α} {Q : α → sProp 𝕄}
    {n : Dev nD} {offs offd : Fin 2 → ℕ} {offS offR : Fin 1 → ℕ} {inbs hrs inbd hrd inbS hsqS inbR hsqR}
    {hsc : ((Memref.whole cc0_scratch1).slice (Rect.unit (s := S128x4096) offd S128x128.size inbd) hrd : Memref sig (Dev.tc n : Thread nD τ).2.kind .vmem S128x128 .bf16).view.ref.isScScratch = false}
    {hsrc : ((Memref.whole cc0_scratch0).slice (Rect.unit (s := S4096x128) offs S128x128.size inbs) hrs).view.WordExact}
    {hdst : ((Memref.whole cc0_scratch1).slice (Rect.unit (s := S128x4096) offd S128x128.size inbd) hrd).view.WordExact} {hsem}
    (hn : n.val = (c.val + d) % 32) (hs : offs = ![128 * (tgt c d).val, 0]) (hd : offd = ![0, 128 * c.val]) (hS : offS 0 = d) (hR : offR 0 = c.val)
    (h : St m ρ c 32 (d + 1) a Y (prg 1 32 (sendPre m ρ c) (sendPost c) (d + 1)) R ⊢ WP c (k ⟨⟩) Q)
    (h1 : 1 ≤ d := by decide) (h2 : d < 32 := by decide) :
    St m ρ c 32 d a Y (prg 1 32 (sendPre m ρ c) (sendPost c) d) R
      ⊢ WP c (.op (.enqueueDma ((Memref.whole cc0_scratch0).slice (Rect.unit (s := S4096x128) offs S128x128.size inbs) hrs)
          (.remote (Dev.tc n : Thread nD τ) ((Memref.whole cc0_scratch1).slice (Rect.unit (s := S128x4096) offd S128x128.size inbd) hrd)
            (.dma ((cc0_scratch4.slice (Rect.unit (s := S32) offS S1.size inbS)).squeeze S_ hsqS).sem) hsc)
          (.dma ((cc0_scratch5.slice (Rect.unit (s := S32) offR S1.size inbR)).squeeze S_ hsqR).sem) hsrc hdst hsem) k) Q := by
  have hn' : n = tgt c d := Fin.ext hn
  subst hn' hs hd
  have hqS := sem_snd inbS hsqS hS h2
  have hqR := (sem_rcv inbR hsqR hR (dev_lt c)).trans (congrArg rcvS (dv_self c))
  revert hsem
  rw [hqS, hqR]
  intro hsem
  refine .trans ?_ (send_core m ρ (Y := Y) (R := R) (k := k) (Q := Q) (b := 32) (r := d) (a := a) (b' := 32) (r' := d + 1) (a' := a) (N := NX) (q := fullShare) (fs := xbf m ρ c)
    (Z := iprop(sendPost c d -∗ prg 1 32 (sendPre m ρ c) (sendPost c) (d + 1))) (role_snd (dv d)) (role_rcv c)
    (Nat.le_add_right 2 _) (Nat.le_trans (by decide) (Nat.le_add_right 34 _)) (dut_snd c h1 h2) (dut_rcv _ c) rfl rfl credit_xg (owed_rcv c 32 d a h2) ?_
    (fun f => ?_) (.trans ?_ h))
  · unfold St
    iintro ⟨Hk, HO, HY, HX, HR⟩
    ihave HX' := (prg_take h1 h2 _ _) $$ HX
    icases HX' with ⟨Hpre, Hnext⟩
    unfold sendPre
    icases Hpre with ⟨Hx, ⟨%f, Hg⟩, Ht1, Ht2⟩
    ihave Hx := (Entails.of_eq (xbfPt_view m ρ (c := c) (s := (tgt c d).val) rfl rfl inbs hrs)) $$ Hx
    ihave Hg := (Entails.of_eq (xgPt_view (c := tgt c d) (s := c.val) rfl rfl inbd hrd f)) $$ Hg
    isplitl [Hk]; · iexact Hk
    isplitl [HO]; · iexact HO
    isplitl [HY]; · iexact HY
    isplitl [Hx Hg Ht1 Ht2 Hnext]
    · isplitl [Hx Hg Ht1 Ht2]
      · isplitl [Hx]; · iexact Hx
        isplitl [Hg]; · iexists f; iexact Hg
        isplitl [Ht1]; · iexact Ht1
        iexact Ht2
      iexact Hnext
    iexact HR
  · rw [pay_snd, dv_val h2, xbfPt_view m ρ (c := c) (s := (tgt c d).val) rfl rfl inbs hrs]
  · rw [pay_rcv]
    unfold rcvPay
    rw [if_neg (tgt_ne c h1 h2).symm, pointsTo_congr (block_lands m ρ (c := c) (p := tgt c d) rfl rfl rfl rfl inbs hrs inbd hrd f),
      xgPt_view (c := tgt c d) (s := c.val) rfl rfl inbd hrd]
    exact Laws.sep_emp.2
  · unfold St
    iintro ⟨Hk, HO, HY, ⟨Hc, Hnext⟩, HR⟩
    isplitl [Hk]; · iexact Hk
    isplitl [HO]; · iexact HO
    isplitl [HY]; · iexact HY
    isplitl [Hc Hnext]
    · iapply Hnext
      unfold sendPost
      iexact Hc
    iexact HR

/-! ## The row sends -/

/-- Before the send of the row of maxima to the device `d` places on. -/
def asendPre (c : Dev nD) (d : ℕ) : sProp 𝕄 :=
  iprop(amPt c c.val (leafQ d) (amF m ρ) ∗ (∃ f, amPt (F := F) (tgt c d) c.val fullShare f) ∗ dutyTok ER (dcell c (asq d)) 0 0
    ∗ dutyTok ER (dcell (tgt c d) (arcvS c)) 0 0)
/-- After it: its completion is to come. -/
def asendPost (c : Dev nD) (d : ℕ) : sProp 𝕄 := cred (tallyAt (dcell c (asq d)) () NA)

/-- The send of the row of maxima to the device `d` places on. -/
theorem step_asend {c : Dev nD} {d : ℕ} {Y R : sProp 𝕄} {α : Type} {k : PUnit → Prog (TpuEff nD τ sig (Elt F) Λ₀ .tc) α} {Q : α → sProp 𝕄}
    {n : Dev nD} {off : Fin 2 → ℕ} {offS offR : Fin 1 → ℕ} {inb hr inbS hsqS inbR hsqR}
    {hsc : ((Memref.whole cc0_scratch2).slice (Rect.unit (s := S32x128) off S1x128.size inb) hr : Memref sig (Dev.tc n : Thread nD τ).2.kind .vmem S1x128 .f32).view.ref.isScScratch = false}
    {hsrc : ((Memref.whole cc0_scratch2).slice (Rect.unit (s := S32x128) off S1x128.size inb) hr).view.WordExact}
    {hdst : ((Memref.whole cc0_scratch2).slice (Rect.unit (s := S32x128) off S1x128.size inb) hr).view.WordExact} {hsem}
    (hn : n.val = (c.val + d) % 32) (ho : off = ![c.val, 0]) (hS : offS 0 = d) (hR : offR 0 = c.val)
    (h : St m ρ c 32 32 (d + 1) Y (prg 1 32 (asendPre m ρ c) (asendPost c) (d + 1)) R ⊢ WP c (k ⟨⟩) Q)
    (h1 : 1 ≤ d := by decide) (h2 : d < 32 := by decide) :
    St m ρ c 32 32 d Y (prg 1 32 (asendPre m ρ c) (asendPost c) d) R
      ⊢ WP c (.op (.enqueueDma ((Memref.whole cc0_scratch2).slice (Rect.unit (s := S32x128) off S1x128.size inb) hr)
          (.remote (Dev.tc n : Thread nD τ) ((Memref.whole cc0_scratch2).slice (Rect.unit (s := S32x128) off S1x128.size inb) hr)
            (.dma ((cc0_scratch6.slice (Rect.unit (s := S32) offS S1.size inbS)).squeeze S_ hsqS).sem) hsc)
          (.dma ((cc0_scratch7.slice (Rect.unit (s := S32) offR S1.size inbR)).squeeze S_ hsqR).sem) hsrc hdst hsem) k) Q := by
  have hn' : n = tgt c d := Fin.ext hn
  subst hn' ho
  have hqS := sem_asnd inbS hsqS hS h2
  have hqR := (sem_arcv inbR hsqR hR (dev_lt c)).trans (congrArg arcvS (dv_self c))
  revert hsem
  rw [hqS, hqR]
  intro hsem
  refine .trans ?_ (send_core m ρ (Y := Y) (R := R) (k := k) (Q := Q) (b := 32) (r := 32) (a := d) (b' := 32) (r' := 32) (a' := d + 1) (N := NA) (q := leafQ d) (fs := amF m ρ)
    (Z := iprop(asendPost c d -∗ prg 1 32 (asendPre m ρ c) (asendPost c) (d + 1))) (role_asnd (dv d)) (role_arcv c)
    (Nat.le_trans (by decide) (Nat.le_add_right 66 _)) (Nat.le_trans (by decide) (Nat.le_add_right 98 _)) (dut_asnd c h1 h2) (dut_arcv' _ (tgt_ne c h1 h2).symm) rfl rfl credit_am
    (owed_arcv c 32 32 d h2) ?_
    (fun f => ?_) (.trans ?_ h))
  · unfold St
    iintro ⟨Hk, HO, HY, HX, HR⟩
    ihave HX' := (prg_take h1 h2 _ _) $$ HX
    icases HX' with ⟨Hpre, Hnext⟩
    unfold asendPre
    icases Hpre with ⟨Hx, ⟨%f, Hg⟩, Ht1, Ht2⟩
    ihave Hx := (Entails.of_eq (amPt_view (c := c) (s := c.val) rfl rfl inb hr (leafQ d) (amF m ρ))) $$ Hx
    ihave Hg := (Entails.of_eq (amPt_view (c := tgt c d) (s := c.val) rfl rfl inb hr fullShare f)) $$ Hg
    isplitl [Hk]; · iexact Hk
    isplitl [HO]; · iexact HO
    isplitl [HY]; · iexact HY
    isplitl [Hx Hg Ht1 Ht2 Hnext]
    · isplitl [Hx Hg Ht1 Ht2]
      · isplitl [Hx]; · iexact Hx
        isplitl [Hg]; · iexists f; iexact Hg
        isplitl [Ht1]; · iexact Ht1
        iexact Ht2
      iexact Hnext
    iexact HR
  · rw [pay_asnd, dv_val h2, amPt_view (c := c) (s := c.val) rfl rfl inb hr]
  · rw [pay_arcv, pointsTo_congr (row_lands m ρ inb hr f), amPt_view (c := tgt c d) (s := c.val) rfl rfl inb hr]
  · unfold St
    iintro ⟨Hk, HO, HY, ⟨Hc, Hnext⟩, HR⟩
    isplitl [Hk]; · iexact Hk
    isplitl [HO]; · iexact HO
    isplitl [HY]; · iexact HY
    isplitl [Hc Hnext]
    · iapply Hnext
      unfold asendPost
      iexact Hc
    iexact HR

end Cert.KProof
-- ==== Proof.Ring.lean ====
/-
# The ring of `w` chunks, the loads, the barrier

Chunk `k` of `w` goes to slot `k mod 6` of the ring's buffer, over that slot's own cell, in that cell's round `k / 6`.
-/
module

public import proofs.«01_k».proof.Proof.Sends

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Loads -/

/-- The ring's state and the phase's change places. -/
theorem St_swap (c : Dev nD) (b r a : ℕ) (Y X R : sProp 𝕄) : St m ρ c b r a Y X R ⊢ St m ρ c b r a X Y R := by
  unfold St
  iintro ⟨Hk, HO, HY, HX, HR⟩
  isplitl [Hk]; · iexact Hk
  isplitl [HO]; · iexact HO
  isplitl [HX]; · iexact HX
  isplitl [HY]; · iexact HY
  iexact HR

/-- A load of part of what the phase's state `P` can lend. -/
theorem step_load {c : Dev nD} {b r a : ℕ} {Y P P' R : sProp 𝕄} {α : Type} {cs : CoreSpace} {s : Shape} {e : EltTy} {M : Memref sig .tc cs s e}
    {rc : LoadRect s} {hl : M.view.LoadsAt rc} {k : (rc.shape.Idx → Elt F e) → Prog (TpuEff nD τ sig (Elt F) Λ₀ .tc) α} {Q : α → sProp 𝕄}
    {S : Finset (Idx (M.view.loc (c : Thread nD τ)))} {q : PosShare TreeShare} {f : Buf (Elt F) (M.view.loc (c : Thread nD τ))}
    (hP : P ⊢ iprop((M.view.loc (c : Thread nD τ) ↦[S]{q} f) ∗ ((M.view.loc (c : Thread nD τ) ↦[S]{q} f) -∗ P')))
    (hS : M.view.setOn rc.set ⊆ S) {v : rc.shape.Idx → Elt F e} (hv : M.view.readAt (Elt F) rc f = v)
    (h : St m ρ c b r a Y P' R ⊢ WP c (k v) Q) :
    St m ρ c b r a Y P R ⊢ WP c (.op (.load M rc hl) k) Q := by
  subst hv
  unfold St
  iintro ⟨Hk, HO, HY, HX, HR⟩
  ihave HX := hP $$ HX
  icases HX with ⟨Hp, Hback⟩
  iapply (wp_load 𝒱₀ (c : Thread nD τ) none Set.univ (m := M) (S := S) (q := q) (f := f) hS) $$ Hp
  iintro Hp
  ihave HX := Hback $$ Hp
  iapply h
  unfold St
  isplitl [Hk]; · iexact Hk
  isplitl [HO]; · iexact HO
  isplitl [HY]; · iexact HY
  isplitl [HX]; · iexact HX
  iexact HR

/-- What else the arrivals before `n` left. -/
def rcvRest (c : Dev nD) (s : ℕ) : sProp 𝕄 :=
  iprop((if dv s = c then xbfPt m ρ c c.val else emp) ∗ atPos ER (dcell c (rq s)) 1 ∅ 0)

/-- The blocks that have arrived, as one region, beside the rest. -/
theorem rcv_blocks (c : Dev nD) {n : ℕ} (hn : n ≤ 32) :
    bigSep (Finset.Ico 0 n) (wtPost m ρ c rq ro)
      = iprop((xgL c ↦[Finset.univ.filter fun i : S128x4096.Idx => (i 1).val / 128 ∈ Finset.range n]{fullShare} xgF m ρ c)
        ∗ bigSep (Finset.Ico 0 n) (rcvRest m ρ c)) := by
  have e : bigSep (Finset.range n) (fun s => xgPt c s (xgF m ρ c))
      = (xgL c ↦[Finset.univ.filter fun i : S128x4096.Idx => (i 1).val / 128 ∈ Finset.range n]{fullShare} xgF m ρ c) :=
    blocks_join (ℓ := xgL c) (fun i : S128x4096.Idx => (i 1).val / 128) (Finset.range n) fullShare (xgF m ρ c)
  rw [← e, Finset.range_eq_Ico]
  refine (bigSep_congr fun s hs => ?_).trans (bigSep_sep (Finset.Ico 0 n) (fun s => xgPt c s (xgF m ρ c)) (rcvRest m ρ c))
  have hs' := (Finset.mem_Ico.mp hs).2
  unfold wtPost
  rw [pay_rcv]
  unfold rcvPay rcvRest
  rw [dv_val (show s < 32 by omega)]
  exact equiv_iff.mp ⟨BI.sep_assoc, BI.sep_assoc'⟩

/-- The load of chunk `j` of the gathered rows, once its four blocks have arrived. -/
theorem step_xg {c : Dev nD} {a n j : ℕ} {Y R : sProp 𝕄} {α : Type} {off : Fin 2 → ℕ} {inb}
    {hl : (Memref.whole cc0_scratch1).view.LoadsAt (Rect.unit (s := S128x4096) off S128x512.size inb).toLoadRect}
    {k : Vec F S128x512 .bf16 → Prog (TpuEff nD τ sig (Elt F) Λ₀ .tc) α} {Q : α → sProp 𝕄}
    (ho : off = ![0, 512 * j])
    (h : St m ρ c 32 32 a Y (prg 0 32 (wtPre c rq NX) (wtPost m ρ c rq ro) n) R ⊢ WP c (k (xgCh m ρ c j)) Q)
    (hj : j < 8 := by decide) (hjn : 512 * j + 512 ≤ 128 * n := by decide) (hn : n ≤ 32 := by decide) :
    St m ρ c 32 32 a Y (prg 0 32 (wtPre c rq NX) (wtPost m ρ c rq ro) n) R
      ⊢ WP c (.op (.load (Memref.whole cc0_scratch1) (Rect.unit (s := S128x4096) off S128x512.size inb).toLoadRect hl) k) Q := by
  subst ho
  refine step_load m ρ (M := Memref.whole cc0_scratch1) (S := Finset.univ.filter fun i : S128x4096.Idx => (i 1).val / 128 ∈ Finset.range n)
    (q := fullShare) (f := xgF m ρ c) ?_ (xg_load_sub (n := n) hjn inb) (xg_load m ρ hj rfl rfl inb) h
  unfold prg
  rw [rcv_blocks m ρ c hn]
  iintro ⟨⟨H1, H2⟩, H3⟩
  isplitl [H1]; · iexact H1
  iintro H1
  isplitl [H1 H2]
  · isplitl [H1]; · iexact H1
    iexact H2
  iexact H3

/-! ## The ring -/

/-- Chunk `k`'s right to arrive, and its place in `w`. -/
def wTok (c : Dev nD) (k : ℕ) : sProp 𝕄 := iprop(dutyTok ER (dcell c (wq k)) (k / 6) 0 ∗ wPt m c k)
/-- Chunk `k`'s slot free, its cell at round `k / 6`. -/
def wReady (c : Dev nD) (k : ℕ) : sProp 𝕄 :=
  iprop((∃ f, wbPt (F := F) c (k % 6) f) ∗ atPos ER (dcell c (wq k)) (k / 6) ∅ 0 ∗ reached ER (dcell c (wq k)) (k / 6))
/-- Chunk `k` on its way. -/
def wFly (c : Dev nD) (k : ℕ) : sProp 𝕄 :=
  iprop(cred (tallyAt (dcell c (wq k)) () NW) ∗ atPos ER (dcell c (wq k)) (k / 6) ∅ 0)
/-- Chunk `k` in its slot. -/
def wHere (c : Dev nD) (k : ℕ) : sProp 𝕄 :=
  iprop(wbPt c (k % 6) (wbF m c k) ∗ atPos ER (dcell c (wq k)) (k / 6 + 1) ∅ 0 ∗ reached ER (dcell c (wq k)) (k / 6 + 1))
/-- Chunks below `b` used, those below `a` on their way. -/
def WS (c : Dev nD) (a b : ℕ) : sProp 𝕄 :=
  iprop((bigSep (Finset.Ico a 8) (wTok m c)) ∗ (bigSep (Finset.Ico a (6 + b)) (wReady c)) ∗ (bigSep (Finset.Ico b a) (wFly c))
    ∗ bigSep (Finset.Ico 0 b) (wPt m c))
/-- The same with chunk `b` in its slot. -/
def WH (c : Dev nD) (a b : ℕ) : sProp 𝕄 :=
  iprop((bigSep (Finset.Ico a 8) (wTok m c)) ∗ (bigSep (Finset.Ico a (6 + b)) (wReady c)) ∗ (bigSep (Finset.Ico (b + 1) a) (wFly c))
    ∗ (bigSep (Finset.Ico 0 (b + 1)) (wPt m c)) ∗ wHere m c b)

theorem dut_w (c : Dev nD) {k : ℕ} (h : k < 8) : roleDuties c (k / 6) (.w ⟨k % 6, Nat.mod_lt _ (by decide)⟩) = {0} := by
  unfold roleDuties
  exact if_pos (by rw [Nat.div_add_mod']; exact h)
theorem pay_wq (c : Dev nD) (k : ℕ) : rolePay (F := F) m ρ c (k / 6) (.w ⟨k % 6, Nat.mod_lt _ (by decide)⟩) = wPay m c k := by
  rw [pay_w]
  exact congrArg (wPay m c) (Nat.div_add_mod' k 6)
theorem wq_ge (k : ℕ) : 2 ≤ (wq k).val := Nat.le_trans (by decide) (Nat.le_add_right 130 _)

/-- The start of the copy of chunk `a`. -/
theorem step_wstart {c : Dev nD} {bb rr aa a b : ℕ} {X R : sProp 𝕄} {α : Type} {k : PUnit → Prog (TpuEff nD τ sig (Elt F) Λ₀ .tc) α} {Q : α → sProp 𝕄}
    {offs : Fin 2 → ℕ} {offd : Fin 3 → ℕ} {offR : Fin 1 → ℕ} {inbs hrs inbd hrd hsq inbR hsqR}
    {hsrc : ((Memref.whole main_arg1).slice (Rect.unit (s := S4096x2048) offs S512x2048.size inbs) hrs).view.WordExact}
    {hdst : (((Memref.whole cc0_scratch3).slice (Rect.unit (s := S6x512x2048) offd S1x512x2048.size inbd) hrd).squeeze S512x2048 hsq).view.WordExact} {hsem}
    (hs : offs = ![512 * a, 0]) (hd : offd = ![a % 6, 0, 0]) (hR : offR 0 = a % 6)
    (h : St m ρ c bb rr aa (WS m c (a + 1) b) X R ⊢ WP c (k ⟨⟩) Q)
    (ha : a < 8 := by decide) (hba : b ≤ a := by decide) (hab : a < 6 + b := by decide) :
    St m ρ c bb rr aa (WS m c a b) X R
      ⊢ WP c (.op (.enqueueDma ((Memref.whole main_arg1).slice (Rect.unit (s := S4096x2048) offs S512x2048.size inbs) hrs)
          (.here (((Memref.whole cc0_scratch3).slice (Rect.unit (s := S6x512x2048) offd S1x512x2048.size inbd) hrd).squeeze S512x2048 hsq))
          (.dma ((cc0_scratch8.slice (Rect.unit (s := S6) offR S1.size inbR)).squeeze S_ hsqR).sem) hsrc hdst hsem) k) Q := by
  subst hs hd
  have hq := sem_w (k := a) inbR hsqR hR
  revert hsem
  rw [hq]
  intro hsem
  refine .trans ?_ (copy_core m ρ (Y := X) (R := R) (k := k) (Q := Q)
    (Z := iprop((bigSep (Finset.Ico (a + 1) 8) (wTok m c)) ∗ (bigSep (Finset.Ico (a + 1) (6 + b)) (wReady c)) ∗ (bigSep (Finset.Ico b a) (wFly c))
      ∗ (bigSep (Finset.Ico 0 b) (wPt m c)) ∗ atPos ER (dcell c (wq a)) (a / 6) ∅ 0))
    (b := bb) (r := rr) (a := aa) (N := NW) (t := a / 6) (q := fullShare) (fs := wv m c) (role_wq a)
    (wq_ge a) (dut_w c ha) rfl credit_wb (fun f => ?_) (.trans ?_ h))
  · unfold St WS
    rw [bigSep_ico_first ha, bigSep_ico_first hab]
    unfold wTok wReady
    iintro ⟨Hk, HO, ⟨⟨⟨Ht, Hw⟩, H1⟩, ⟨⟨⟨%f, Hb⟩, Hat, Hr⟩, H2⟩, H3, H4⟩, HX, HR⟩
    ihave Hw := (Entails.of_eq (wPt_view m (c := c) (k := a) rfl rfl inbs hrs)) $$ Hw
    ihave Hb := (Entails.of_eq (wbPt_view (c := c) (k := a % 6) rfl rfl rfl inbd hrd hsq f)) $$ Hb
    isplitl [Hk]; · iexact Hk
    isplitl [HO]; · iexact HO
    isplitl [HX]; · iexact HX
    isplitl [Ht Hw H1 Hb Hat Hr H2 H3 H4]
    · isplitl [Ht Hw Hb Hr]
      · isplitl [Hw]; · iexact Hw
        isplitl [Hb]; · iexists f; iexact Hb
        isplitl [Ht]; · iexact Ht
        iexact Hr
      isplitl [H1]; · iexact H1
      isplitl [H2]; · iexact H2
      isplitl [H3]; · iexact H3
      isplitl [H4]; · iexact H4
      iexact Hat
    iexact HR
  · rw [pay_wq]
    unfold wPay
    rw [pointsTo_congr (chunk_lands m ha rfl rfl rfl rfl inbs hrs inbd hrd hsq f),
      wbPt_view (c := c) (k := a % 6) rfl rfl rfl inbd hrd hsq, wPt_view m (c := c) (k := a) rfl rfl inbs hrs]
  · unfold St WS
    rw [bigSep_ico_last hba (wFly c)]
    unfold wFly
    iintro ⟨Hk, HO, HX, ⟨Hc, H1, H2, H3, H4, Hat⟩, HR⟩
    isplitl [Hk]; · iexact Hk
    isplitl [HO]; · iexact HO
    isplitl [Hc H1 H2 H3 H4 Hat]
    · isplitl [H1]; · iexact H1
      isplitl [H2]; · iexact H2
      isplitl [Hc H3 Hat]
      · isplitl [Hc Hat]
        · isplitl [Hc]; · iexact Hc
          iexact Hat
        iexact H3
      iexact H4
    isplitl [HX]; · iexact HX
    iexact HR

/-- The wait for chunk `b`. -/
theorem step_wwait {c : Dev nD} {bb rr aa a b : ℕ} {X R : sProp 𝕄} {α : Type} {k : PUnit → Prog (TpuEff nD τ sig (Elt F) Λ₀ .tc) α} {Q : α → sProp 𝕄}
    {sp : Space} {s : Shape} {e : EltTy} {src : Memref sig .tc sp s e} {offd : Fin 3 → ℕ} {offR : Fin 1 → ℕ} {inbd hrd hsq inbR hsqR h1 h1'}
    (hR : offR 0 = b % 6) (h : St m ρ c bb rr aa (WH m c a b) X R ⊢ WP c (k ⟨⟩) Q)
    (hb : b < 8 := by decide) (hba : b < a := by decide) :
    St m ρ c bb rr aa (WS m c a b) X R
      ⊢ WP c (.op (.waitDma2 ((cc0_scratch8.slice (Rect.unit (s := S6) offR S1.size inbR)).squeeze S_ hsqR).sem src
          (((Memref.whole cc0_scratch3).slice (Rect.unit (s := S6x512x2048) offd S1x512x2048.size inbd) hrd).squeeze S512x2048 hsq) h1 h1') k) Q := by
  rw [sem_w (k := b) inbR hsqR hR]
  refine .trans ?_ (wait_core m ρ (Y := X) (R := R) (k := k) (Q := Q)
    (Z := iprop((bigSep (Finset.Ico a 8) (wTok m c)) ∗ (bigSep (Finset.Ico a (6 + b)) (wReady c)) ∗ (bigSep (Finset.Ico (b + 1) a) (wFly c))
      ∗ bigSep (Finset.Ico 0 b) (wPt m c))) (b := bb) (r := rr) (a := aa) (N := NW) (t := b / 6) (role_wq b) (wq_ge b) (dut_w c hb) rfl
    (mayWait_low c (wq b) (by rw [role_wq]; rfl) bb rr aa) credit_wb (.trans ?_ h))
  · unfold St WS
    rw [bigSep_ico_first hba]
    unfold wFly
    iintro ⟨Hk, HO, ⟨H1, H2, ⟨⟨Hc, Hat⟩, H3⟩, H4⟩, HX, HR⟩
    isplitl [Hk]; · iexact Hk
    isplitl [HO]; · iexact HO
    isplitl [HX]; · iexact HX
    isplitl [H1 H2 Hc Hat H3 H4]
    · isplitl [Hc Hat]
      · isplitl [Hc]; · iexact Hc
        iexact Hat
      isplitl [H1]; · iexact H1
      isplitl [H2]; · iexact H2
      isplitl [H3]; · iexact H3
      iexact H4
    iexact HR
  · rw [pay_wq]
    unfold St WH wPay wHere
    rw [bigSep_ico_last (Nat.zero_le b) (wPt m c)]
    iintro ⟨Hk, HO, HX, ⟨⟨Hat, Hr, Hb, Hw⟩, H1, H2, H3, H4⟩, HR⟩
    isplitl [Hk]; · iexact Hk
    isplitl [HO]; · iexact HO
    isplitl [Hat Hr Hb Hw H1 H2 H3 H4]
    · isplitl [H1]; · iexact H1
      isplitl [H2]; · iexact H2
      isplitl [H3]; · iexact H3
      isplitl [Hw H4]
      · isplitl [Hw]; · iexact Hw
        iexact H4
      isplitl [Hb]; · iexact Hb
      isplitl [Hat]; · iexact Hat
      iexact Hr
    isplitl [HX]; · iexact HX
    iexact HR

/-- A used chunk's slot is free for the chunk six on. -/
theorem w_free (c : Dev nD) (b : ℕ) : wHere m c b ⊢ wReady (F := F) c (6 + b) := by
  have e : wq (6 + b) = wq b := congrArg wS (Fin.ext (Nat.add_mod_left 6 b))
  unfold wHere wReady
  rw [e, Nat.add_mod_left, Nat.add_div_left b (by decide : 0 < 6)]
  iintro ⟨H1, H2, H3⟩
  isplitl [H1]; · iexists _; iexact H1
  isplitl [H2]; · iexact H2
  iexact H3

/-- The load of chunk `b`, which frees its slot. -/
theorem step_wb {c : Dev nD} {bb rr aa a b : ℕ} {X R : sProp 𝕄} {α : Type} {off : Fin 3 → ℕ} {inb}
    {hl : (Memref.whole cc0_scratch3).view.LoadsAt (Rect.unit (s := S6x512x2048) off S1x512x2048.size inb).toLoadRect}
    {k : Vec F S1x512x2048 .f32 → Prog (TpuEff nD τ sig (Elt F) Λ₀ .tc) α} {Q : α → sProp 𝕄}
    (ho : off = ![b % 6, 0, 0]) (h : St m ρ c bb rr aa (WS m c a (b + 1)) X R ⊢ WP c (k (wCh m c b)) Q) (hab : a ≤ 6 + b := by decide) :
    St m ρ c bb rr aa (WH m c a b) X R
      ⊢ WP c (.op (.load (Memref.whole cc0_scratch3) (Rect.unit (s := S6x512x2048) off S1x512x2048.size inb).toLoadRect hl) k) Q := by
  subst ho
  refine (St_swap m ρ c bb rr aa _ _ R).trans (step_load m ρ (M := Memref.whole cc0_scratch3) (P' := WS m c a (b + 1)) (S := wbSlot (b % 6)) (q := fullShare) (f := wbF m c b) ?_
    (wb_load_sub rfl rfl rfl inb) (wb_load m rfl rfl inb) ((St_swap m ρ c bb rr aa _ _ R).trans h))
  unfold WH WS
  rw [← Nat.add_assoc, bigSep_ico_last hab]
  iintro ⟨H1, H2, H3, H4, H5⟩
  unfold wHere
  icases H5 with ⟨Hb, Hat, Hr⟩
  unfold wbPt
  isplitl [Hb]; · iexact Hb
  iintro Hb
  isplitl [H1]; · iexact H1
  isplitl [H2 Hb Hat Hr]
  · isplitl [Hb Hat Hr]
    · iapply (w_free m c b)
      unfold wHere wbPt
      isplitl [Hb]; · iexact Hb
      isplitl [Hat]; · iexact Hat
      iexact Hr
    iexact H2
  isplitl [H3]; · iexact H3
  iexact H4

/-! ## The barrier -/

/-- The barrier cell's units and its place. -/
def barPre (c : Dev nD) : sProp 𝕄 := iprop(cred (tallyAt (barCell c) () 31) ∗ atPos ER (barCell c) 0 ∅ 0)
/-- The places on the other devices, granted by their signals. -/
def barPost (c : Dev nD) : sProp 𝕄 := iprop(atPos ER (barCell c) 1 ∅ 0 ∗ bigSep (Finset.univ.erase c) fun p => barPay (F := F) c p)

/-- The wait for all other devices. -/
theorem step_bar {c : Dev nD} {r a : ℕ} {Y R : sProp 𝕄} {α : Type} {k : PUnit → Prog (TpuEff nD τ sig (Elt F) Λ₀ .tc) α} {Q : α → sProp 𝕄} {w : ℕ}
    (h : St m ρ c 32 r a Y (barPost c) R ⊢ WP c (k ⟨⟩) Q) (hw : w = 31 := by rfl) :
    St m ρ c 32 r a Y (barPre c) R ⊢ WP c (.op (.semWait barS w) k) Q := by
  subst hw
  have hm' : know (F := F) m ρ ⊢ MayWait (c : Thread nD τ) (.reg barS) () (owed c 32 r a) := by
    have hm := mayWait_bar (F := F) c r a
    unfold know; iintro ⟨-, H⟩; iapply hm; iexact H
  unfold St OW barPre
  iintro ⟨#Hk, ⟨%W, HO⟩, HY, ⟨Hc, Hat⟩, HR⟩
  ihave Hinv := (know_bar m ρ c) $$ Hk
  unfold inv
  icases Hinv with ⟨⟨%κ, #HI⟩, -⟩
  iapply (Rounds.wp_wait_rest_token 𝒱₀ ER (rd m ρ) (c : Thread nD τ) none (κ := κ) (sm := .reg barS)
      (wpE_semWait_eq 𝒱₀ (c : Thread nD τ) none Set.univ) (Set.mem_univ _) () (O := owed c 32 r a) (W := W) (R := 0) (m := 0) (T := ∅)
      (by rw [Nat.zero_add, bar_expect])) $$ [Hc HO Hat]
  · isplitr; · iexact HI
    isplitl [Hc]; · iexact Hc
    isplitl [HO]; · iexact HO
    isplitr
    · iapply hm'
      iexact Hk
    iexact Hat
  rw [Finset.sdiff_empty, bar_duties, if_pos rfl, Nat.zero_add]
  iintro ⟨HO, Hat, -, Hpay⟩
  iapply h
  unfold St OW barPost
  isplitr; · iexact Hk
  isplitl [HO]; · iexists _; iexact HO
  isplitl [HY]; · iexact HY
  isplitl [Hat Hpay]
  · isplitl [Hat]; · iexact Hat
    iexact Hpay
  iexact HR

end Cert.KProof
-- ==== Proof.PartsSend.lean ====
/-
# The printed parts: signals and sends

The printed body is cut into parts. Each theorem takes one part from the state before it to the state after.
-/
module

public import proofs.«01_k».proof.Proof.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A printed part at the buffers and semaphores that the call hands it. -/
abbrev at_ {β : Sort*} (f : (arg0 : Memref sig .tc .vmem S4096x128 .f32) → arg0.IsWhole → (arg1 : Memref sig .tc .hbm S4096x2048 .f32) → arg1.IsWhole →
    (arg2 : Memref sig .tc .vmem S128x2048 .f32) → arg2.IsWhole → (arg3 : Memref sig .tc .vmem S4096x128 .bf16) → arg3.IsWhole →
    (arg4 : Memref sig .tc .vmem S128x4096 .bf16) → arg4.IsWhole → (arg5 : Memref sig .tc .vmem S32x128 .f32) → arg5.IsWhole →
    (arg6 : Memref sig .tc .vmem S6x512x2048 .f32) → arg6.IsWhole → (arg7 : DmaSems sig S32) → (arg8 : DmaSems sig S32) →
    (arg9 : DmaSems sig S32) → (arg10 : DmaSems sig S32) → (arg11 : DmaSems sig S6) → β) : β :=
  f (Memref.whole cc0_stg0_0) (Memref.isWhole_whole _) (Memref.whole main_arg1) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8

/-- The barrier's semaphore as the body names it. -/
abbrev barA : Sems sig S_ := SemArray.scalar (sig.barrier 0 rfl)

theorem step_ret {c : Dev nD} {P : sProp 𝕄} {α : Type} {v : α} {Q : α → sProp 𝕄} (h : P ⊢ Q v) : P ⊢ WP (F := F) c (.ret v) Q := by
  refine h.trans ?_
  rw [WP, wp_ret]
  iintro H
  imodintro
  iexact H
theorem step_bind {c : Dev nD} {P : sProp 𝕄} {α β : Type} {p : Prog (TpuEff nD τ sig (Elt F) Λ₀ .tc) α} {k : α → Prog (TpuEff nD τ sig (Elt F) Λ₀ .tc) β}
    {Q : β → sProp 𝕄} (h : P ⊢ WP c p (fun a => WP c (k a) Q)) : P ⊢ WP (F := F) c (p >>= k) Q := by
  rw [WP, wp_bind]; exact h
/-- What the state's last two pieces amount to can be regrouped between phases. -/
theorem St_move {c : Dev nD} {b r a : ℕ} {Y X R X' R' : sProp 𝕄} (h : iprop(X ∗ R) ⊢ iprop(X' ∗ R')) :
    St m ρ c b r a Y X R ⊢ St m ρ c b r a Y X' R' := by
  unfold St
  iintro ⟨Hk, HO, HY, HX, HR⟩
  isplitl [Hk]; · iexact Hk
  isplitl [HO]; · iexact HO
  isplitl [HY]; · iexact HY
  iapply h
  isplitl [HX]; · iexact HX
  iexact HR

/-- The state while device `c` lets the others know it is there: `d` is the next to tell. -/
abbrev SigSt (c : Dev nD) (d : ℕ) (Y R : sProp 𝕄) : sProp 𝕄 := St m ρ c d 1 1 Y (prg 1 32 (sigPre c) nothing d) R
/-- The state while it sends its blocks. -/
abbrev SendSt (c : Dev nD) (d : ℕ) (Y R : sProp 𝕄) : sProp 𝕄 := St m ρ c 32 d 1 Y (prg 1 32 (sendPre m ρ c) (sendPost c) d) R
/-- The state while it awaits the blocks of the others. -/
abbrev RcvSt (c : Dev nD) (d : ℕ) (Y R : sProp 𝕄) : sProp 𝕄 := St m ρ c 32 32 1 Y (prg 0 32 (wtPre c rq NX) (wtPost m ρ c rq ro) d) R
/-- The state while it sends its row of maxima. -/
abbrev AsendSt (c : Dev nD) (d : ℕ) (Y R : sProp 𝕄) : sProp 𝕄 := St m ρ c 32 32 d Y (prg 1 32 (asendPre m ρ c) (asendPost c) d) R
/-- The state while it awaits the rows of the others. -/
abbrev ArcvSt (c : Dev nD) (d : ℕ) (Y R : sProp 𝕄) : sProp 𝕄 := St m ρ c 32 32 32 Y (prg 1 32 (wtPre c (arq c) NA) (wtPost m ρ c (arq c) (aro c)) d) R
/-- The state while it awaits the end of its block sends. -/
abbrev SndSt (c : Dev nD) (d : ℕ) (Y R : sProp 𝕄) : sProp 𝕄 := St m ρ c 32 32 32 Y (prg 1 32 (wtPre c sq NX) (wtPost m ρ c sq so) d) R
/-- The state while it awaits the end of its row sends. -/
abbrev AsndSt (c : Dev nD) (d : ℕ) (Y R : sProp 𝕄) : sProp 𝕄 := St m ρ c 32 32 32 Y (prg 1 32 (wtPre c asq NA) (wtPost m ρ c asq aso) d) R

theorem off1_at (c : Dev nD) : k0_off1 c 0 = c.val := congrFun (k0_off1_eq c) 0
theorem off4_at (c : Dev nD) {d : ℕ} (h1 : 1 ≤ d) (h2 : d < 32) : k0_off4 c (BitVec.ofNat 32 d) = ![128 * (tgt c d).val, 0] := by
  obtain ⟨r, rfl⟩ := Nat.exists_eq_add_of_le h1
  rw [tgt_val, ← Nat.add_assoc, Nat.add_right_comm]
  exact k0_off4_eq c ⟨r, by omega⟩

/-! ## The signals -/

section Signals
variable (v2 v w : BitVec 32)

theorem part1 {c : Dev nD} {Y R : sProp 𝕄} {Q : (Σ' (_ : Dev nD) (_ : BitVec 32) (_ : Sems sig S_) (_ : BitVec 32), BitVec 32) → sProp 𝕄}
    (h : ∀ v2 v w, SigSt m ρ c 6 Y R ⊢ Q ⟨c, v2, barA, v, w⟩) :
    SigSt m ρ c 1 Y R ⊢ WP c (at_ (k0_part1 (F := F))) Q := by
  rw [k0_part1_eq_skeleton]
  unfold k0_part1_skel
  simp only [semSignalWord, semWaitWord, Prog.lift, Prog.bind_op, Prog.bind_ret, Prog.pure_eq_ret, wp_deviceId]
  exact step_signal m ρ (k0_dev1_eq c) <| step_signal m ρ (k0_dev2_eq c) <| step_signal m ρ (k0_dev3_eq c) <| step_signal m ρ (k0_dev4_eq c) <|
    step_signal m ρ (k0_dev5_eq c) <| step_ret (h _ _ _)
theorem part2 {c : Dev nD} {Y R : sProp 𝕄} {Q : (Σ' (_ : BitVec 32), BitVec 32) → sProp 𝕄}
    (h : ∀ v, SigSt m ρ c 12 Y R ⊢ Q v) :
    SigSt m ρ c 6 Y R ⊢ WP c (at_ (k0_part2 (F := F)) c v2 barA v w) Q := by
  rw [k0_part2_eq_skeleton]
  unfold k0_part2_skel
  simp only [semSignalWord, semWaitWord, Prog.lift, Prog.bind_op, Prog.bind_ret, Prog.pure_eq_ret, wp_deviceId]
  exact step_signal m ρ (k0_dev6_eq c) <| step_signal m ρ (k0_dev7_eq c) <| step_signal m ρ (k0_dev8_eq c) <| step_signal m ρ (k0_dev9_eq c) <|
    step_signal m ρ (k0_dev10_eq c) <| step_signal m ρ (k0_dev11_eq c) <| step_ret (h _)
theorem part3 {c : Dev nD} {Y R : sProp 𝕄} {Q : (Σ' (_ : BitVec 32), BitVec 32) → sProp 𝕄}
    (h : ∀ v, SigSt m ρ c 18 Y R ⊢ Q v) :
    SigSt m ρ c 12 Y R ⊢ WP c (at_ (k0_part3 (F := F)) c v2 barA v w) Q := by
  rw [k0_part3_eq_skeleton]
  unfold k0_part3_skel
  simp only [semSignalWord, semWaitWord, Prog.lift, Prog.bind_op, Prog.bind_ret, Prog.pure_eq_ret, wp_deviceId]
  exact step_signal m ρ (k0_dev12_eq c) <| step_signal m ρ (k0_dev13_eq c) <| step_signal m ρ (k0_dev14_eq c) <| step_signal m ρ (k0_dev15_eq c) <|
    step_signal m ρ (k0_dev16_eq c) <| step_signal m ρ (k0_dev17_eq c) <| step_ret (h _)
theorem part4 {c : Dev nD} {Y R : sProp 𝕄} {Q : (Σ' (_ : BitVec 32), BitVec 32) → sProp 𝕄}
    (h : ∀ v, SigSt m ρ c 24 Y R ⊢ Q v) :
    SigSt m ρ c 18 Y R ⊢ WP c (at_ (k0_part4 (F := F)) c v2 barA v w) Q := by
  rw [k0_part4_eq_skeleton]
  unfold k0_part4_skel
  simp only [semSignalWord, semWaitWord, Prog.lift, Prog.bind_op, Prog.bind_ret, Prog.pure_eq_ret, wp_deviceId]
  exact step_signal m ρ (k0_dev18_eq c) <| step_signal m ρ (k0_dev19_eq c) <| step_signal m ρ (k0_dev20_eq c) <| step_signal m ρ (k0_dev21_eq c) <|
    step_signal m ρ (k0_dev22_eq c) <| step_signal m ρ (k0_dev23_eq c) <| step_ret (h _)
theorem part5 {c : Dev nD} {Y R : sProp 𝕄} {Q : (Σ' (_ : BitVec 32), BitVec 32) → sProp 𝕄}
    (h : ∀ v, SigSt m ρ c 30 Y R ⊢ Q v) :
    SigSt m ρ c 24 Y R ⊢ WP c (at_ (k0_part5 (F := F)) c v2 barA v w) Q := by
  rw [k0_part5_eq_skeleton]
  unfold k0_part5_skel
  simp only [semSignalWord, semWaitWord, Prog.lift, Prog.bind_op, Prog.bind_ret, Prog.pure_eq_ret, wp_deviceId]
  exact step_signal m ρ (k0_dev24_eq c) <| step_signal m ρ (k0_dev25_eq c) <| step_signal m ρ (k0_dev26_eq c) <| step_signal m ρ (k0_dev27_eq c) <|
    step_signal m ρ (k0_dev28_eq c) <| step_signal m ρ (k0_dev29_eq c) <| step_ret (h _)
theorem part6 {c : Dev nD} {R : sProp 𝕄} {Q : PUnit → sProp 𝕄}
    (h : SigSt m ρ c 32 (WS m c 3 0) R ⊢ Q ⟨⟩) :
    SigSt m ρ c 30 (WS m c 0 0) R ⊢ WP c (at_ (k0_part6 (F := F)) c v2 barA v w) Q := by
  rw [k0_part6_eq_skeleton]
  unfold k0_part6_skel
  simp only [semSignalWord, semWaitWord, Prog.lift, Prog.bind_op, Prog.bind_ret, Prog.pure_eq_ret, wp_deviceId]
  exact step_signal m ρ (k0_dev30_eq c) <| step_signal m ρ (k0_dev31_eq c) <| step_wstart m ρ rfl rfl rfl <| step_wstart m ρ rfl rfl rfl <|
    step_wstart m ρ rfl rfl rfl <| step_ret h
end Signals

/-! ## The block sends -/

section Sends
variable (v2 v w : BitVec 32)

theorem part8 {c : Dev nD} {Y R : sProp 𝕄} {Q : BitVec 32 → sProp 𝕄}
    (h : ∀ v, SendSt m ρ c 5 Y R ⊢ Q v) :
    SendSt m ρ c 2 Y R ⊢ WP c (at_ (k0_part8 (F := F)) c v2 v) Q := by
  rw [k0_part8_eq_skeleton]
  unfold k0_part8_skel
  simp only [semSignalWord, semWaitWord, Prog.lift, Prog.bind_op, Prog.bind_ret, Prog.pure_eq_ret, wp_deviceId]
  exact step_send m ρ (k0_dev33_eq c) (off4_at c (by decide) (by decide)) (k0_off2_eq c) rfl (off1_at c) <|
    step_send m ρ (k0_dev34_eq c) (off4_at c (by decide) (by decide)) (k0_off2_eq c) rfl (off1_at c) <|
    step_send m ρ (k0_dev35_eq c) (off4_at c (by decide) (by decide)) (k0_off2_eq c) rfl (off1_at c) <| step_ret (h _)
theorem part9 {c : Dev nD} {Y R : sProp 𝕄} {Q : PUnit → sProp 𝕄}
    (h : SendSt m ρ c 7 Y R ⊢ Q ⟨⟩) :
    SendSt m ρ c 5 Y R ⊢ WP c (at_ (k0_part9 (F := F)) c v2 v) Q := by
  rw [k0_part9_eq_skeleton]
  unfold k0_part9_skel
  simp only [semSignalWord, semWaitWord, Prog.lift, Prog.bind_op, Prog.bind_ret, Prog.pure_eq_ret, wp_deviceId]
  exact step_send m ρ (k0_dev36_eq c) (off4_at c (by decide) (by decide)) (k0_off2_eq c) rfl (off1_at c) <|
    step_send m ρ (k0_dev37_eq c) (off4_at c (by decide) (by decide)) (k0_off2_eq c) rfl (off1_at c) <| step_ret h
theorem part10 {c : Dev nD} {Y R : sProp 𝕄} {Q : (Σ' (_ : BitVec 32), BitVec 32) → sProp 𝕄}
    (h : ∀ v, SendSt m ρ c 10 Y R ⊢ Q v) :
    SendSt m ρ c 7 Y R ⊢ WP c (at_ (k0_part10 (F := F)) c v2) Q := by
  rw [k0_part10_eq_skeleton]
  unfold k0_part10_skel
  simp only [semSignalWord, semWaitWord, Prog.lift, Prog.bind_op, Prog.bind_ret, Prog.pure_eq_ret, wp_deviceId]
  exact step_send m ρ (k0_dev38_eq c) (off4_at c (by decide) (by decide)) (k0_off2_eq c) rfl (off1_at c) <|
    step_send m ρ (k0_dev39_eq c) (off4_at c (by decide) (by decide)) (k0_off2_eq c) rfl (off1_at c) <|
    step_send m ρ (k0_dev40_eq c) (off4_at c (by decide) (by decide)) (k0_off2_eq c) rfl (off1_at c) <| step_ret (h _)
theorem part11 {c : Dev nD} {Y R : sProp 𝕄} {Q : BitVec 32 → sProp 𝕄}
    (h : ∀ v, SendSt m ρ c 13 Y R ⊢ Q v) :
    SendSt m ρ c 10 Y R ⊢ WP c (at_ (k0_part11 (F := F)) c v2 v w) Q := by
  rw [k0_part11_eq_skeleton]
  unfold k0_part11_skel
  simp only [semSignalWord, semWaitWord, Prog.lift, Prog.bind_op, Prog.bind_ret, Prog.pure_eq_ret, wp_deviceId]
  exact step_send m ρ (k0_dev41_eq c) (off4_at c (by decide) (by decide)) (k0_off2_eq c) rfl (off1_at c) <|
    step_send m ρ (k0_dev42_eq c) (off4_at c (by decide) (by decide)) (k0_off2_eq c) rfl (off1_at c) <|
    step_send m ρ (k0_dev43_eq c) (off4_at c (by decide) (by decide)) (k0_off2_eq c) rfl (off1_at c) <| step_ret (h _)
theorem part12 {c : Dev nD} {Y R : sProp 𝕄} {Q : PUnit → sProp 𝕄}
    (h : SendSt m ρ c 16 Y R ⊢ Q ⟨⟩) :
    SendSt m ρ c 13 Y R ⊢ WP c (at_ (k0_part12 (F := F)) c v2 v) Q := by
  rw [k0_part12_eq_skeleton]
  unfold k0_part12_skel
  simp only [semSignalWord, semWaitWord, Prog.lift, Prog.bind_op, Prog.bind_ret, Prog.pure_eq_ret, wp_deviceId]
  exact step_send m ρ (k0_dev44_eq c) (off4_at c (by decide) (by decide)) (k0_off2_eq c) rfl (off1_at c) <|
    step_send m ρ (k0_dev45_eq c) (off4_at c (by decide) (by decide)) (k0_off2_eq c) rfl (off1_at c) <|
    step_send m ρ (k0_dev46_eq c) (off4_at c (by decide) (by decide)) (k0_off2_eq c) rfl (off1_at c) <| step_ret h
theorem part13 {c : Dev nD} {Y R : sProp 𝕄} {Q : PUnit → sProp 𝕄}
    (h : SendSt m ρ c 18 Y R ⊢ Q ⟨⟩) :
    SendSt m ρ c 16 Y R ⊢ WP c (at_ (k0_part13 (F := F)) c v2) Q := by
  rw [k0_part13_eq_skeleton]
  unfold k0_part13_skel
  simp only [semSignalWord, semWaitWord, Prog.lift, Prog.bind_op, Prog.bind_ret, Prog.pure_eq_ret, wp_deviceId]
  exact step_send m ρ (k0_dev47_eq c) (off4_at c (by decide) (by decide)) (k0_off2_eq c) rfl (off1_at c) <|
    step_send m ρ (k0_dev48_eq c) (off4_at c (by decide) (by decide)) (k0_off2_eq c) rfl (off1_at c) <| step_ret h
theorem part14 {c : Dev nD} {Y R : sProp 𝕄} {Q : (Σ' (_ : BitVec 32), BitVec 32) → sProp 𝕄}
    (h : ∀ v, SendSt m ρ c 21 Y R ⊢ Q v) :
    SendSt m ρ c 18 Y R ⊢ WP c (at_ (k0_part14 (F := F)) c v2) Q := by
  rw [k0_part14_eq_skeleton]
  unfold k0_part14_skel
  simp only [semSignalWord, semWaitWord, Prog.lift, Prog.bind_op, Prog.bind_ret, Prog.pure_eq_ret, wp_deviceId]
  exact step_send m ρ (k0_dev49_eq c) (off4_at c (by decide) (by decide)) (k0_off2_eq c) rfl (off1_at c) <|
    step_send m ρ (k0_dev50_eq c) (off4_at c (by decide) (by decide)) (k0_off2_eq c) rfl (off1_at c) <|
    step_send m ρ (k0_dev51_eq c) (off4_at c (by decide) (by decide)) (k0_off2_eq c) rfl (off1_at c) <| step_ret (h _)
theorem part15 {c : Dev nD} {Y R : sProp 𝕄} {Q : BitVec 32 → sProp 𝕄}
    (h : ∀ v, SendSt m ρ c 24 Y R ⊢ Q v) :
    SendSt m ρ c 21 Y R ⊢ WP c (at_ (k0_part15 (F := F)) c v2 v w) Q := by
  rw [k0_part15_eq_skeleton]
  unfold k0_part15_skel
  simp only [semSignalWord, semWaitWord, Prog.lift, Prog.bind_op, Prog.bind_ret, Prog.pure_eq_ret, wp_deviceId]
  exact step_send m ρ (k0_dev52_eq c) (off4_at c (by decide) (by decide)) (k0_off2_eq c) rfl (off1_at c) <|
    step_send m ρ (k0_dev53_eq c) (off4_at c (by decide) (by decide)) (k0_off2_eq c) rfl (off1_at c) <|
    step_send m ρ (k0_dev54_eq c) (off4_at c (by decide) (by decide)) (k0_off2_eq c) rfl (off1_at c) <| step_ret (h _)
theorem part16 {c : Dev nD} {Y R : sProp 𝕄} {Q : PUnit → sProp 𝕄}
    (h : SendSt m ρ c 26 Y R ⊢ Q ⟨⟩) :
    SendSt m ρ c 24 Y R ⊢ WP c (at_ (k0_part16 (F := F)) c v2 v) Q := by
  rw [k0_part16_eq_skeleton]
  unfold k0_part16_skel
  simp only [semSignalWord, semWaitWord, Prog.lift, Prog.bind_op, Prog.bind_ret, Prog.pure_eq_ret, wp_deviceId]
  exact step_send m ρ (k0_dev55_eq c) (off4_at c (by decide) (by decide)) (k0_off2_eq c) rfl (off1_at c) <|
    step_send m ρ (k0_dev56_eq c) (off4_at c (by decide) (by decide)) (k0_off2_eq c) rfl (off1_at c) <| step_ret h
theorem part17 {c : Dev nD} {Y R : sProp 𝕄} {Q : PUnit → sProp 𝕄}
    (h : SendSt m ρ c 29 Y R ⊢ Q ⟨⟩) :
    SendSt m ρ c 26 Y R ⊢ WP c (at_ (k0_part17 (F := F)) c v2) Q := by
  rw [k0_part17_eq_skeleton]
  unfold k0_part17_skel
  simp only [semSignalWord, semWaitWord, Prog.lift, Prog.bind_op, Prog.bind_ret, Prog.pure_eq_ret, wp_deviceId]
  exact step_send m ρ (k0_dev57_eq c) (off4_at c (by decide) (by decide)) (k0_off2_eq c) rfl (off1_at c) <|
    step_send m ρ (k0_dev58_eq c) (off4_at c (by decide) (by decide)) (k0_off2_eq c) rfl (off1_at c) <|
    step_send m ρ (k0_dev59_eq c) (off4_at c (by decide) (by decide)) (k0_off2_eq c) rfl (off1_at c) <| step_ret h
theorem part18 {c : Dev nD} {Y R : sProp 𝕄} {Q : PUnit → sProp 𝕄}
    (h : SendSt m ρ c 32 Y R ⊢ Q ⟨⟩) :
    SendSt m ρ c 29 Y R ⊢ WP c (at_ (k0_part18 (F := F)) c v2) Q := by
  rw [k0_part18_eq_skeleton]
  unfold k0_part18_skel
  simp only [semSignalWord, semWaitWord, Prog.lift, Prog.bind_op, Prog.bind_ret, Prog.pure_eq_ret, wp_deviceId]
  exact step_send m ρ (k0_dev60_eq c) (off4_at c (by decide) (by decide)) (k0_off2_eq c) rfl (off1_at c) <|
    step_send m ρ (k0_dev61_eq c) (off4_at c (by decide) (by decide)) (k0_off2_eq c) rfl (off1_at c) <|
    step_send m ρ (k0_dev62_eq c) (off4_at c (by decide) (by decide)) (k0_off2_eq c) rfl (off1_at c) <| step_ret h
end Sends

end Cert.KProof
-- ==== Proof.Phases.lean ====
/-
# The printed parts between the phases

Three parts begin a phase: one narrows the block and meets the other devices at the barrier, one writes the row of maxima,
and one quantises the rows. Beside them, the regroupings of a device's resources that the phases need.
-/
module

public import proofs.«01_k».proof.Proof.PartsSend

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The devices in turn from one of them -/

theorem bigSep_fin_range (n : ℕ) (Φ : ℕ → sProp 𝕄) : (bigSep Finset.univ fun i : Fin n => Φ i.val) = bigSep (Finset.range n) Φ := by
  have e : (Finset.univ : Finset (Fin n)).map Fin.valEmbedding = Finset.range n := by
    ext x
    rw [Finset.mem_map, Finset.mem_range]
    exact ⟨fun ⟨i, _, h⟩ => h ▸ i.isLt, fun h => ⟨⟨x, h⟩, Finset.mem_univ _, rfl⟩⟩
  rw [← e, bigSep_map]; rfl

/-- Every device: device `c` itself, then those 1, …, 31 places on. -/
theorem ring_split (c : Dev nD) (Φ : Dev nD → sProp 𝕄) :
    bigSep Finset.univ Φ = iprop(Φ c ∗ bigSep (Finset.Ico 1 32) fun d => Φ (tgt c d)) := by
  rw [bigSep_univ_equiv (ring c) Φ]
  refine (bigSep_fin_range 32 fun d => Φ (tgt c d)).trans ?_
  rw [Finset.range_eq_Ico, bigSep_ico_first (by decide), tgt_zero]
theorem ring_others (c : Dev nD) (Φ : Dev nD → sProp 𝕄) :
    bigSep (Finset.univ.erase c) Φ = bigSep (Finset.Ico 1 32) fun d => Φ (tgt c d) := by
  have e : (Finset.univ.erase c : Finset (Dev nD)) = (Finset.Ico 1 32).image (tgt c) := by
    ext s
    rw [Finset.mem_erase, Finset.mem_image]
    constructor
    · rintro ⟨hs, -⟩
      refine ⟨dist c s, Finset.mem_Ico.mpr ⟨Nat.pos_of_ne_zero fun h => hs ?_, dist_lt c s⟩, tgt_dist c s⟩
      rw [← tgt_dist c s, h, tgt_zero]
    · rintro ⟨d, hd, rfl⟩
      obtain ⟨h1, h2⟩ := Finset.mem_Ico.mp hd
      exact ⟨tgt_ne c h1 h2, Finset.mem_univ _⟩
  rw [e, bigSep_image_of_injOn fun d hd e he h =>
    tgt_inj c (Finset.mem_Ico.mp (Finset.mem_coe.mp hd)).2 (Finset.mem_Ico.mp (Finset.mem_coe.mp he)).2 h]
/-- Every device by its index. -/
theorem ring_index (Φ : Dev nD → sProp 𝕄) : (bigSep (Finset.Ico 0 32) fun s => Φ (dv s)) = bigSep Finset.univ Φ := by
  rw [bigSep_univ_equiv (ring 0) Φ, ← Finset.range_eq_Ico]
  exact (bigSep_fin_range 32 fun d => Φ (dv d)).symm
/-- The same of what is numbered by the devices. -/
theorem ring_blocks (c : Dev nD) (Φ : ℕ → sProp 𝕄) :
    bigSep (Finset.range 32) Φ = iprop(Φ c.val ∗ bigSep (Finset.Ico 1 32) fun d => Φ (tgt c d).val) := by
  rw [← ring_split c fun s => Φ s.val]
  exact (bigSep_fin_range 32 Φ).symm

/-- A list of pairs is a pair of lists. -/
theorem bigSep_pair {ι : Type} [DecidableEq ι] (S : Finset ι) (Φ Ψ : ι → sProp 𝕄) :
    bigSep S (fun i => iprop(Φ i ∗ Ψ i)) = iprop(bigSep S Φ ∗ bigSep S Ψ) := bigSep_sep S Φ Ψ

theorem off_zero : (![0, 0] : Fin 2 → ℕ) = fun _ => 0 := by
  funext i; fin_cases i <;> rfl

/-- A row of the maxima buffer as its thirty-two leaves. -/
theorem am_leaves (c : Dev nD) (s : ℕ) (f : Vec F S32x128 .f32) :
    amPt c s fullShare f = iprop(amPt c s (leafQ 0) f ∗ bigSep (Finset.Ico 1 32) fun d => amPt c s (leafQ d) f) := by
  refine (ShareLeaves.pointsTo_leaves (ℓ := amL c) (amRow s) f 5 fullShare).trans ?_
  have e : ∀ i : Fin (2 ^ 5), ShareLeaves.leaf 5 fullShare i = leafQ i.val := fun i => by
    unfold leafQ
    exact congrArg _ (Fin.ext (Nat.mod_eq_of_lt i.isLt).symm)
  refine (bigSep_congr fun i _ => congrArg (fun q => (amL c ↦[amRow s]{q} f : sProp 𝕄)) (e i)).trans ?_
  refine (bigSep_fin_range (2 ^ 5) fun d => (amL c ↦[amRow s]{leafQ d} f : sProp 𝕄)).trans ?_
  rw [Finset.range_eq_Ico]
  exact bigSep_ico_first (by decide) _

/-! ## Stores, and what is held at some contents -/

theorem step_store {c : Dev nD} {b r a : ℕ} {Y R : sProp 𝕄} {α : Type} {cs : CoreSpace} {s : Shape} {e : EltTy} {M : Memref sig .tc cs s e}
    {rc : Rect s} {w : rc.shape.Idx → Elt F e} {Mk : Finset rc.shape.Idx} {hx : (M.access rc).Stores Mk} {hm : Mk = Finset.univ ∨ ∀ a, rc.stride a = 1}
    {k : PUnit → Prog (TpuEff nD τ sig (Elt F) Λ₀ .tc) α} {Q : α → sProp 𝕄}
    {S : Finset (Idx ((M.access rc).loc (c : Thread nD τ)))} {f g : Buf (Elt F) ((M.access rc).loc (c : Thread nD τ))}
    (hS : (M.access rc).setOn Mk ⊆ S) (hg : ∀ i ∈ S, (M.access rc).write (Elt F) f w Mk i = g i)
    (h : St m ρ c b r a Y ((M.access rc).loc (c : Thread nD τ) ↦[S]{fullShare} g) R ⊢ WP c (k ⟨⟩) Q) :
    St m ρ c b r a Y ((M.access rc).loc (c : Thread nD τ) ↦[S]{fullShare} f) R ⊢ WP c (.op (.store M rc w Mk hx hm) k) Q := by
  have hg' : ((M.access rc).loc (c : Thread nD τ) ↦[S]{fullShare} ((M.access rc).write (Elt F) f w Mk) : sProp 𝕄)
      = ((M.access rc).loc (c : Thread nD τ) ↦[S]{fullShare} g) := pointsTo_congr hg
  unfold St
  iintro ⟨Hk, HO, HY, HX, HR⟩
  iapply (wp_store 𝒱₀ (c : Thread nD τ) none Set.univ (m := M) (r := rc) (Mk := Mk) (S := S) (f := f) hS) $$ HX
  rw [hg']
  iintro HX
  iapply h
  unfold St
  isplitl [Hk]; · iexact Hk
  isplitl [HO]; · iexact HO
  isplitl [HY]; · iexact HY
  isplitl [HX]; · iexact HX
  iexact HR

theorem St_some {c : Dev nD} {b r a : ℕ} {Y R G : sProp 𝕄} {ι : Type} {X : ι → sProp 𝕄} (h : ∀ f, St m ρ c b r a Y (X f) R ⊢ G) :
    St m ρ c b r a Y iprop(∃ f, X f) R ⊢ G := by
  unfold St
  iintro ⟨Hk, HO, HY, ⟨%f, HX⟩, HR⟩
  iapply (h f)
  unfold St
  isplitl [Hk]; · iexact Hk
  isplitl [HO]; · iexact HO
  isplitl [HY]; · iexact HY
  isplitl [HX]; · iexact HX
  iexact HR

/-- The load of a whole buffer. -/
theorem step_load_whole {cs : CoreSpace} {i : Fin (sig.nNear .tc cs)} {hκ : sig.names .tc cs i = true} {c : Dev nD} {bb rr aa : ℕ} {Y R : sProp 𝕄} {α : Type} {off : Fin (⟨cs, i, hκ⟩ : Ref sig .tc).ty.shape.rank → ℕ} {inb}
    {hl : (Memref.whole (⟨cs, i, hκ⟩ : Ref sig .tc)).view.LoadsAt (Rect.unit off (⟨cs, i, hκ⟩ : Ref sig .tc).ty.shape.size inb).toLoadRect}
    {k : ((⟨cs, i, hκ⟩ : Ref sig .tc).ty.shape.Idx → Elt F (⟨cs, i, hκ⟩ : Ref sig .tc).ty.elt) → Prog (TpuEff nD τ sig (Elt F) Λ₀ .tc) α} {Q : α → sProp 𝕄}
    {q : PosShare TreeShare} {f : Buf (Elt F) ((c : Thread nD τ).loc (⟨cs, i, hκ⟩ : Ref sig .tc))} (h0 : off = fun _ => 0)
    (h : St m ρ c bb rr aa Y ((c : Thread nD τ).loc (⟨cs, i, hκ⟩ : Ref sig .tc) ↦{q} f) R ⊢ WP c (k f) Q) :
    St m ρ c bb rr aa Y ((c : Thread nD τ).loc (⟨cs, i, hκ⟩ : Ref sig .tc) ↦{q} f) R
      ⊢ WP c (.op (.load (Memref.whole (⟨cs, i, hκ⟩ : Ref sig .tc)) (Rect.unit off (⟨cs, i, hκ⟩ : Ref sig .tc).ty.shape.size inb).toLoadRect hl) k) Q := by
  refine step_load m ρ (M := Memref.whole (⟨cs, i, hκ⟩ : Ref sig .tc)) (P' := ((c : Thread nD τ).loc (⟨cs, i, hκ⟩ : Ref sig .tc) ↦{q} f)) (S := Finset.univ) (q := q) (f := f) ?_ (Finset.subset_univ _)
    (Memref.readAt_unit_zero (Elt F) (⟨cs, i, hκ⟩ : Ref sig .tc) h0 inb f) h
  iintro H
  isplitl [H]; · iexact H
  iintro H; iexact H

/-- The store of a whole buffer. -/
theorem step_store_whole {cs : CoreSpace} {i : Fin (sig.nNear .tc cs)} {hκ : sig.names .tc cs i = true} {c : Dev nD} {bb rr aa : ℕ} {Y R : sProp 𝕄} {α : Type} {off : Fin (⟨cs, i, hκ⟩ : Ref sig .tc).ty.shape.rank → ℕ} {inb}
    {w : (⟨cs, i, hκ⟩ : Ref sig .tc).ty.shape.Idx → Elt F (⟨cs, i, hκ⟩ : Ref sig .tc).ty.elt} {hx : ((Memref.whole (⟨cs, i, hκ⟩ : Ref sig .tc)).access (Rect.unit off (⟨cs, i, hκ⟩ : Ref sig .tc).ty.shape.size inb)).Stores Finset.univ} {hm}
    {k : PUnit → Prog (TpuEff nD τ sig (Elt F) Λ₀ .tc) α} {Q : α → sProp 𝕄}
    {f : Buf (Elt F) ((c : Thread nD τ).loc (⟨cs, i, hκ⟩ : Ref sig .tc))} (h0 : off = fun _ => 0)
    (h : St m ρ c bb rr aa Y ((c : Thread nD τ).loc (⟨cs, i, hκ⟩ : Ref sig .tc) ↦{fullShare} w) R ⊢ WP c (k ⟨⟩) Q) :
    St m ρ c bb rr aa Y ((c : Thread nD τ).loc (⟨cs, i, hκ⟩ : Ref sig .tc) ↦{fullShare} f) R
      ⊢ WP c (.op (.store (Memref.whole (⟨cs, i, hκ⟩ : Ref sig .tc)) (Rect.unit off (⟨cs, i, hκ⟩ : Ref sig .tc).ty.shape.size inb) w Finset.univ hx hm) k) Q := by
  have e := wp_store (defs := defs₀ (F := F)) 𝒱₀ (c : Thread nD τ) none (Γ := PendingWaitsCtx.empty) Set.univ (Q := Q) (m := Memref.whole (⟨cs, i, hκ⟩ : Ref sig .tc))
    (r := Rect.unit off (⟨cs, i, hκ⟩ : Ref sig .tc).ty.shape.size inb) (w := w) (Mk := Finset.univ)
    (hx := hx) (hm := hm) (k := k) (f := f) (S := Finset.univ) (Finset.subset_univ _)
  rw [Memref.write_access_unit_zero_univ (Elt F) (⟨cs, i, hκ⟩ : Ref sig .tc) h0 inb] at e
  unfold St
  iintro ⟨Hk, HO, HY, HX, HR⟩
  iapply e $$ HX
  iintro HX
  iapply h
  unfold St
  isplitl [Hk]; · iexact Hk
  isplitl [HO]; · iexact HO
  isplitl [HY]; · iexact HY
  isplitl [HX]; · iexact HX
  iexact HR

/-! ## What the phases take -/

/-- The tokens of the block send to the device `d` places on. -/
def sendTok (c : Dev nD) (d : ℕ) : sProp 𝕄 :=
  iprop(dutyTok ER (dcell c (sq d)) 0 0 ∗ dutyTok ER (dcell (tgt c d) (rcvS c)) 0 0)
/-- The tokens of the row send to it. -/
def asendTok (c : Dev nD) (d : ℕ) : sProp 𝕄 :=
  iprop(dutyTok ER (dcell c (asq d)) 0 0 ∗ dutyTok ER (dcell (tgt c d) (arcvS c)) 0 0)
/-- The place on it for the row of maxima. -/
def amPlace (c : Dev nD) (d : ℕ) : sProp 𝕄 := iprop(∃ f, amPt (F := F) (tgt c d) c.val fullShare f)
/-- The staged block of `x`. -/
abbrev inPt (c : Dev nD) : sProp 𝕄 := xinL c ↦{fullShare} xin m ρ c

theorem sends_intro (c : Dev nD) :
    iprop((bigSep (Finset.Ico 1 32) fun d => xbfPt m ρ c (tgt c d).val) ∗ (bigSep (Finset.univ.erase c) fun p => barPay c p)
        ∗ bigSep (Finset.Ico 1 32) (sendTok c))
      ⊢ iprop(prg 1 32 (sendPre m ρ c) (sendPost c) 1 ∗ bigSep (Finset.Ico 1 32) (amPlace (F := F) c)) := by
  have e : bigSep (Finset.Ico 1 32) (sendPre m ρ c) = iprop((bigSep (Finset.Ico 1 32) fun d => xbfPt m ρ c (tgt c d).val)
      ∗ (bigSep (Finset.Ico 1 32) fun d => iprop(∃ f, xgPt (F := F) (tgt c d) c.val f)) ∗ bigSep (Finset.Ico 1 32) (sendTok c)) := by
    rw [← bigSep_pair, ← bigSep_pair]; rfl
  have e' : (bigSep (Finset.univ.erase c) fun p => barPay (F := F) c p)
      = iprop((bigSep (Finset.Ico 1 32) fun d => iprop(∃ f, xgPt (F := F) (tgt c d) c.val f)) ∗ bigSep (Finset.Ico 1 32) (amPlace (F := F) c)) := by
    rw [ring_others c, ← bigSep_pair]; rfl
  rw [e']
  iintro ⟨H1, ⟨H2, H3⟩, H4⟩
  isplitr [H3]
  · iapply (prg_start 1 32 (sendPre m ρ c) (sendPost c))
    rw [e]
    isplitl [H1]; · iexact H1
    isplitl [H2]; · iexact H2
    iexact H4
  iexact H3

section Meet
variable (v2 v : BitVec 32)

/-- The block narrowed, its own copy started, all devices met, and the first block sent. -/
theorem part7 {c : Dev nD} {R : sProp 𝕄} {Q : BitVec 32 → sProp 𝕄}
    (h : ∀ v, SendSt m ρ c 2 (WS m c 4 0) iprop(cred (tallyAt (dcell c (rcvS c)) () NX) ∗ atPos ER (barCell c) 1 ∅ 0 ∗ inPt m ρ c
      ∗ bigSep (Finset.Ico 1 32) (amPlace (F := F) c) ∗ R) ⊢ Q v) :
    SigSt m ρ c 32 (WS m c 3 0) iprop(inPt m ρ c ∗ (∃ f, xbfL c ↦{fullShare} f) ∗ (∃ f, xgPt (F := F) c c.val f) ∗ dutyTok ER (dcell c (rcvS c)) 0 0
      ∗ barPre c ∗ bigSep (Finset.Ico 1 32) (sendTok c) ∗ R) ⊢ WP c (at_ (k0_part7 (F := F)) c v2 barA) Q := by
  rw [k0_part7_eq_skeleton]
  unfold k0_part7_skel
  simp only [semSignalWord, semWaitWord, Prog.lift, Prog.bind_op, Prog.bind_ret, Prog.pure_eq_ret, wp_deviceId]
  refine step_wstart m ρ rfl rfl rfl ?_
  refine (St_move m ρ (X' := inPt m ρ c) (R' := iprop((∃ f, xbfL c ↦{fullShare} f) ∗ (∃ f, xgPt (F := F) c c.val f) ∗ dutyTok ER (dcell c (rcvS c)) 0 0
      ∗ barPre c ∗ bigSep (Finset.Ico 1 32) (sendTok c) ∗ R)) ?_).trans ?_
  · iintro ⟨-, H1, H2⟩
    isplitl [H1]; · iexact H1
    iexact H2
  refine step_load_whole m ρ off_zero ?_
  change St m ρ c 32 1 1 (WS m c 4 0) (inPt m ρ c) _ ⊢ _
  refine (St_move m ρ (X' := iprop(∃ f, xbfL c ↦{fullShare} f)) (R' := iprop(inPt m ρ c ∗ (∃ f, xgPt (F := F) c c.val f) ∗ dutyTok ER (dcell c (rcvS c)) 0 0
      ∗ barPre c ∗ bigSep (Finset.Ico 1 32) (sendTok c) ∗ R)) ?_).trans ?_
  · iintro ⟨H1, H2, H3⟩
    isplitl [H2]; · iexact H2
    isplitl [H1]; · iexact H1
    iexact H3
  refine St_some m ρ fun f => ?_
  refine step_load_whole m ρ off_zero ?_
  refine step_store_whole m ρ off_zero ?_
  change St m ρ c 32 1 1 (WS m c 4 0) (xbfL c ↦{fullShare} xbf m ρ c) _ ⊢ _
  refine (St_move m ρ (X' := ownPre m ρ c) (R' := iprop((bigSep (Finset.Ico 1 32) fun d => xbfPt m ρ c (tgt c d).val) ∗ inPt m ρ c
      ∗ barPre c ∗ bigSep (Finset.Ico 1 32) (sendTok c) ∗ R)) ?_).trans ?_
  · have e := (xbf_blocks c (xbf m ρ c)).trans (ring_blocks c (xbfPt m ρ c))
    iintro ⟨Hx, H1, H2, H3, H4⟩
    ihave Hx := (Entails.of_eq e) $$ Hx
    icases Hx with ⟨Hx, Hy⟩
    unfold ownPre
    isplitl [Hx H2 H3]
    · isplitl [Hx]; · iexact Hx
      isplitl [H2]; · iexact H2
      iexact H3
    isplitl [Hy]; · iexact Hy
    isplitl [H1]; · iexact H1
    iexact H4
  refine step_own m ρ (k0_off3_eq c) (k0_off2_eq c) (off1_at c) ?_
  refine (St_move m ρ (X' := barPre c) (R' := iprop(cred (tallyAt (dcell c (rcvS c)) () NX) ∗ (bigSep (Finset.Ico 1 32) fun d => xbfPt m ρ c (tgt c d).val) ∗ inPt m ρ c
      ∗ bigSep (Finset.Ico 1 32) (sendTok c) ∗ R)) ?_).trans ?_
  · iintro ⟨H1, H2, H3, H4, H5⟩
    isplitl [H4]; · iexact H4
    isplitl [H1]; · iexact H1
    isplitl [H2]; · iexact H2
    isplitl [H3]; · iexact H3
    iexact H5
  refine step_bar m ρ ?_
  refine (St_move m ρ (X' := prg 1 32 (sendPre m ρ c) (sendPost c) 1) (R' := iprop(cred (tallyAt (dcell c (rcvS c)) () NX) ∗ atPos ER (barCell c) 1 ∅ 0 ∗ inPt m ρ c
      ∗ bigSep (Finset.Ico 1 32) (amPlace (F := F) c) ∗ R)) ?_).trans ?_
  · unfold barPost
    iintro ⟨⟨H1, H2⟩, H3, H4, H5, H6, H7⟩
    ihave H := (sends_intro m ρ c) $$ [H4 H2 H6]
    · isplitl [H4]; · iexact H4
      isplitl [H2]; · iexact H2
      iexact H6
    icases H with ⟨H2, H4⟩
    isplitl [H2]; · iexact H2
    isplitl [H3]; · iexact H3
    isplitl [H1]; · iexact H1
    isplitl [H5]; · iexact H5
    isplitl [H4]; · iexact H4
    iexact H7
  exact step_send m ρ (k0_dev32_eq c) (off4_at c (by decide) (by decide)) (k0_off2_eq c) rfl (off1_at c) <| step_ret (h _)
end Meet

end Cert.KProof
-- ==== Proof.PartsMaxima.lean ====
/-
# The printed parts: the maxima and the last waits

The row sends, the waits for the rows of the others, and the waits for the device's own sends.
-/
module

public import proofs.«01_k».proof.Proof.PartsSend

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem off7_at (c : Dev nD) {d : ℕ} (h1 : 1 ≤ d) (h2 : d < 32) : k0_off7 c (BitVec.ofNat 32 d) 0 = (c.val + d) % 32 := by
  obtain ⟨r, rfl⟩ := Nat.exists_eq_add_of_le h1
  rw [← Nat.add_assoc, Nat.add_right_comm]
  exact congrFun (k0_off7_eq c ⟨r, by omega⟩) 0

section Maxima
variable (v2 v : BitVec 32) (y : FVec F S128x2048 .f32)

/-! ## The row sends -/

theorem part32 {c : Dev nD} {Y R : sProp 𝕄} {Q : PUnit → sProp 𝕄}
    (h : AsendSt m ρ c 5 Y R ⊢ Q ⟨⟩) :
    AsendSt m ρ c 2 Y R ⊢ WP c (at_ (k0_part32 (F := F)) c v2 v) Q := by
  rw [k0_part32_eq_skeleton]
  unfold k0_part32_skel
  simp only [semSignalWord, semWaitWord, Prog.lift, Prog.bind_op, Prog.bind_ret, Prog.pure_eq_ret, wp_deviceId]
  exact step_asend m ρ (k0_dev64_eq c) (k0_off6_eq c) rfl (off1_at c) <| step_asend m ρ (k0_dev65_eq c) (k0_off6_eq c) rfl (off1_at c) <|
    step_asend m ρ (k0_dev66_eq c) (k0_off6_eq c) rfl (off1_at c) <| step_ret h
theorem part33 {c : Dev nD} {Y R : sProp 𝕄} {Q : PUnit → sProp 𝕄}
    (h : AsendSt m ρ c 8 Y R ⊢ Q ⟨⟩) :
    AsendSt m ρ c 5 Y R ⊢ WP c (at_ (k0_part33 (F := F)) c v2) Q := by
  rw [k0_part33_eq_skeleton]
  unfold k0_part33_skel
  simp only [semSignalWord, semWaitWord, Prog.lift, Prog.bind_op, Prog.bind_ret, Prog.pure_eq_ret, wp_deviceId]
  exact step_asend m ρ (k0_dev67_eq c) (k0_off6_eq c) rfl (off1_at c) <| step_asend m ρ (k0_dev68_eq c) (k0_off6_eq c) rfl (off1_at c) <|
    step_asend m ρ (k0_dev69_eq c) (k0_off6_eq c) rfl (off1_at c) <| step_ret h
theorem part34 {c : Dev nD} {Y R : sProp 𝕄} {Q : BitVec 32 → sProp 𝕄}
    (h : ∀ v, AsendSt m ρ c 12 Y R ⊢ Q v) :
    AsendSt m ρ c 8 Y R ⊢ WP c (at_ (k0_part34 (F := F)) c v2) Q := by
  rw [k0_part34_eq_skeleton]
  unfold k0_part34_skel
  simp only [semSignalWord, semWaitWord, Prog.lift, Prog.bind_op, Prog.bind_ret, Prog.pure_eq_ret, wp_deviceId]
  exact step_asend m ρ (k0_dev70_eq c) (k0_off6_eq c) rfl (off1_at c) <| step_asend m ρ (k0_dev71_eq c) (k0_off6_eq c) rfl (off1_at c) <|
    step_asend m ρ (k0_dev72_eq c) (k0_off6_eq c) rfl (off1_at c) <| step_asend m ρ (k0_dev73_eq c) (k0_off6_eq c) rfl (off1_at c) <|
    step_ret (h _)
theorem part35 {c : Dev nD} {Y R : sProp 𝕄} {Q : PUnit → sProp 𝕄}
    (h : AsendSt m ρ c 15 Y R ⊢ Q ⟨⟩) :
    AsendSt m ρ c 12 Y R ⊢ WP c (at_ (k0_part35 (F := F)) c v2 v) Q := by
  rw [k0_part35_eq_skeleton]
  unfold k0_part35_skel
  simp only [semSignalWord, semWaitWord, Prog.lift, Prog.bind_op, Prog.bind_ret, Prog.pure_eq_ret, wp_deviceId]
  exact step_asend m ρ (k0_dev74_eq c) (k0_off6_eq c) rfl (off1_at c) <| step_asend m ρ (k0_dev75_eq c) (k0_off6_eq c) rfl (off1_at c) <|
    step_asend m ρ (k0_dev76_eq c) (k0_off6_eq c) rfl (off1_at c) <| step_ret h
theorem part36 {c : Dev nD} {Y R : sProp 𝕄} {Q : PUnit → sProp 𝕄}
    (h : AsendSt m ρ c 18 Y R ⊢ Q ⟨⟩) :
    AsendSt m ρ c 15 Y R ⊢ WP c (at_ (k0_part36 (F := F)) c v2) Q := by
  rw [k0_part36_eq_skeleton]
  unfold k0_part36_skel
  simp only [semSignalWord, semWaitWord, Prog.lift, Prog.bind_op, Prog.bind_ret, Prog.pure_eq_ret, wp_deviceId]
  exact step_asend m ρ (k0_dev77_eq c) (k0_off6_eq c) rfl (off1_at c) <| step_asend m ρ (k0_dev78_eq c) (k0_off6_eq c) rfl (off1_at c) <|
    step_asend m ρ (k0_dev79_eq c) (k0_off6_eq c) rfl (off1_at c) <| step_ret h
theorem part37 {c : Dev nD} {Y R : sProp 𝕄} {Q : BitVec 32 → sProp 𝕄}
    (h : ∀ v, AsendSt m ρ c 22 Y R ⊢ Q v) :
    AsendSt m ρ c 18 Y R ⊢ WP c (at_ (k0_part37 (F := F)) c v2) Q := by
  rw [k0_part37_eq_skeleton]
  unfold k0_part37_skel
  simp only [semSignalWord, semWaitWord, Prog.lift, Prog.bind_op, Prog.bind_ret, Prog.pure_eq_ret, wp_deviceId]
  exact step_asend m ρ (k0_dev80_eq c) (k0_off6_eq c) rfl (off1_at c) <| step_asend m ρ (k0_dev81_eq c) (k0_off6_eq c) rfl (off1_at c) <|
    step_asend m ρ (k0_dev82_eq c) (k0_off6_eq c) rfl (off1_at c) <| step_asend m ρ (k0_dev83_eq c) (k0_off6_eq c) rfl (off1_at c) <|
    step_ret (h _)
theorem part38 {c : Dev nD} {Y R : sProp 𝕄} {Q : PUnit → sProp 𝕄}
    (h : AsendSt m ρ c 25 Y R ⊢ Q ⟨⟩) :
    AsendSt m ρ c 22 Y R ⊢ WP c (at_ (k0_part38 (F := F)) c v2 v) Q := by
  rw [k0_part38_eq_skeleton]
  unfold k0_part38_skel
  simp only [semSignalWord, semWaitWord, Prog.lift, Prog.bind_op, Prog.bind_ret, Prog.pure_eq_ret, wp_deviceId]
  exact step_asend m ρ (k0_dev84_eq c) (k0_off6_eq c) rfl (off1_at c) <| step_asend m ρ (k0_dev85_eq c) (k0_off6_eq c) rfl (off1_at c) <|
    step_asend m ρ (k0_dev86_eq c) (k0_off6_eq c) rfl (off1_at c) <| step_ret h
theorem part39 {c : Dev nD} {Y R : sProp 𝕄} {Q : PUnit → sProp 𝕄}
    (h : AsendSt m ρ c 28 Y R ⊢ Q ⟨⟩) :
    AsendSt m ρ c 25 Y R ⊢ WP c (at_ (k0_part39 (F := F)) c v2) Q := by
  rw [k0_part39_eq_skeleton]
  unfold k0_part39_skel
  simp only [semSignalWord, semWaitWord, Prog.lift, Prog.bind_op, Prog.bind_ret, Prog.pure_eq_ret, wp_deviceId]
  exact step_asend m ρ (k0_dev87_eq c) (k0_off6_eq c) rfl (off1_at c) <| step_asend m ρ (k0_dev88_eq c) (k0_off6_eq c) rfl (off1_at c) <|
    step_asend m ρ (k0_dev89_eq c) (k0_off6_eq c) rfl (off1_at c) <| step_ret h
theorem part40 {c : Dev nD} {Y R : sProp 𝕄} {Q : (Σ' (_ : FVec F S128x2048 .f32), BitVec 32) → sProp 𝕄}
    (h : ∀ v, AsendSt m ρ c 32 Y R ⊢ Q ⟨k0_pay11 y, v⟩) :
    AsendSt m ρ c 28 Y R ⊢ WP c (at_ (k0_part40 (F := F)) c v2 y) Q := by
  rw [k0_part40_eq_skeleton]
  unfold k0_part40_skel
  simp only [semSignalWord, semWaitWord, Prog.lift, Prog.bind_op, Prog.bind_ret, Prog.pure_eq_ret, wp_deviceId]
  exact step_asend m ρ (k0_dev90_eq c) (k0_off6_eq c) rfl (off1_at c) <| step_asend m ρ (k0_dev91_eq c) (k0_off6_eq c) rfl (off1_at c) <|
    step_asend m ρ (k0_dev92_eq c) (k0_off6_eq c) rfl (off1_at c) <| step_asend m ρ (k0_dev93_eq c) (k0_off6_eq c) rfl (off1_at c) <|
    step_ret (h _)

/-! ## The waits for the rows -/

theorem part41 {c : Dev nD} {Y R : sProp 𝕄} {Q : BitVec 32 → sProp 𝕄}
    (h : ∀ v, ArcvSt m ρ c 4 Y R ⊢ Q v) :
    ArcvSt m ρ c 1 Y R ⊢ WP c (at_ (k0_part41 (F := F)) c v2 v) Q := by
  rw [k0_part41_eq_skeleton]
  unfold k0_part41_skel
  simp only [semSignalWord, semWaitWord, Prog.lift, Prog.bind_op, Prog.bind_ret, Prog.pure_eq_ret, wp_deviceId]
  exact step_arcv m ρ (off7_at c (by decide) (by decide)) <| step_arcv m ρ (off7_at c (by decide) (by decide)) <|
    step_arcv m ρ (off7_at c (by decide) (by decide)) <| step_ret (h _)
theorem part42 {c : Dev nD} {Y R : sProp 𝕄} {Q : PUnit → sProp 𝕄}
    (h : ArcvSt m ρ c 7 Y R ⊢ Q ⟨⟩) :
    ArcvSt m ρ c 4 Y R ⊢ WP c (at_ (k0_part42 (F := F)) c v2 v) Q := by
  rw [k0_part42_eq_skeleton]
  unfold k0_part42_skel
  simp only [semSignalWord, semWaitWord, Prog.lift, Prog.bind_op, Prog.bind_ret, Prog.pure_eq_ret, wp_deviceId]
  exact step_arcv m ρ (off7_at c (by decide) (by decide)) <| step_arcv m ρ (off7_at c (by decide) (by decide)) <|
    step_arcv m ρ (off7_at c (by decide) (by decide)) <| step_ret h
theorem part43 {c : Dev nD} {Y R : sProp 𝕄} {Q : BitVec 32 → sProp 𝕄}
    (h : ∀ v, ArcvSt m ρ c 11 Y R ⊢ Q v) :
    ArcvSt m ρ c 7 Y R ⊢ WP c (at_ (k0_part43 (F := F)) c v2) Q := by
  rw [k0_part43_eq_skeleton]
  unfold k0_part43_skel
  simp only [semSignalWord, semWaitWord, Prog.lift, Prog.bind_op, Prog.bind_ret, Prog.pure_eq_ret, wp_deviceId]
  exact step_arcv m ρ (off7_at c (by decide) (by decide)) <| step_arcv m ρ (off7_at c (by decide) (by decide)) <|
    step_arcv m ρ (off7_at c (by decide) (by decide)) <| step_arcv m ρ (off7_at c (by decide) (by decide)) <| step_ret (h _)
theorem part44 {c : Dev nD} {Y R : sProp 𝕄} {Q : BitVec 32 → sProp 𝕄}
    (h : ∀ v, ArcvSt m ρ c 14 Y R ⊢ Q v) :
    ArcvSt m ρ c 11 Y R ⊢ WP c (at_ (k0_part44 (F := F)) c v2 v) Q := by
  rw [k0_part44_eq_skeleton]
  unfold k0_part44_skel
  simp only [semSignalWord, semWaitWord, Prog.lift, Prog.bind_op, Prog.bind_ret, Prog.pure_eq_ret, wp_deviceId]
  exact step_arcv m ρ (off7_at c (by decide) (by decide)) <| step_arcv m ρ (off7_at c (by decide) (by decide)) <|
    step_arcv m ρ (off7_at c (by decide) (by decide)) <| step_ret (h _)
theorem part45 {c : Dev nD} {Y R : sProp 𝕄} {Q : PUnit → sProp 𝕄}
    (h : ArcvSt m ρ c 17 Y R ⊢ Q ⟨⟩) :
    ArcvSt m ρ c 14 Y R ⊢ WP c (at_ (k0_part45 (F := F)) c v2 v) Q := by
  rw [k0_part45_eq_skeleton]
  unfold k0_part45_skel
  simp only [semSignalWord, semWaitWord, Prog.lift, Prog.bind_op, Prog.bind_ret, Prog.pure_eq_ret, wp_deviceId]
  exact step_arcv m ρ (off7_at c (by decide) (by decide)) <| step_arcv m ρ (off7_at c (by decide) (by decide)) <|
    step_arcv m ρ (off7_at c (by decide) (by decide)) <| step_ret h
theorem part46 {c : Dev nD} {Y R : sProp 𝕄} {Q : BitVec 32 → sProp 𝕄}
    (h : ∀ v, ArcvSt m ρ c 21 Y R ⊢ Q v) :
    ArcvSt m ρ c 17 Y R ⊢ WP c (at_ (k0_part46 (F := F)) c v2) Q := by
  rw [k0_part46_eq_skeleton]
  unfold k0_part46_skel
  simp only [semSignalWord, semWaitWord, Prog.lift, Prog.bind_op, Prog.bind_ret, Prog.pure_eq_ret, wp_deviceId]
  exact step_arcv m ρ (off7_at c (by decide) (by decide)) <| step_arcv m ρ (off7_at c (by decide) (by decide)) <|
    step_arcv m ρ (off7_at c (by decide) (by decide)) <| step_arcv m ρ (off7_at c (by decide) (by decide)) <| step_ret (h _)
theorem part47 {c : Dev nD} {Y R : sProp 𝕄} {Q : BitVec 32 → sProp 𝕄}
    (h : ∀ v, ArcvSt m ρ c 24 Y R ⊢ Q v) :
    ArcvSt m ρ c 21 Y R ⊢ WP c (at_ (k0_part47 (F := F)) c v2 v) Q := by
  rw [k0_part47_eq_skeleton]
  unfold k0_part47_skel
  simp only [semSignalWord, semWaitWord, Prog.lift, Prog.bind_op, Prog.bind_ret, Prog.pure_eq_ret, wp_deviceId]
  exact step_arcv m ρ (off7_at c (by decide) (by decide)) <| step_arcv m ρ (off7_at c (by decide) (by decide)) <|
    step_arcv m ρ (off7_at c (by decide) (by decide)) <| step_ret (h _)
theorem part48 {c : Dev nD} {Y R : sProp 𝕄} {Q : PUnit → sProp 𝕄}
    (h : ArcvSt m ρ c 27 Y R ⊢ Q ⟨⟩) :
    ArcvSt m ρ c 24 Y R ⊢ WP c (at_ (k0_part48 (F := F)) c v2 v) Q := by
  rw [k0_part48_eq_skeleton]
  unfold k0_part48_skel
  simp only [semSignalWord, semWaitWord, Prog.lift, Prog.bind_op, Prog.bind_ret, Prog.pure_eq_ret, wp_deviceId]
  exact step_arcv m ρ (off7_at c (by decide) (by decide)) <| step_arcv m ρ (off7_at c (by decide) (by decide)) <|
    step_arcv m ρ (off7_at c (by decide) (by decide)) <| step_ret h
theorem part49 {c : Dev nD} {Y R : sProp 𝕄} {Q : BitVec 32 → sProp 𝕄}
    (h : ∀ v, ArcvSt m ρ c 31 Y R ⊢ Q v) :
    ArcvSt m ρ c 27 Y R ⊢ WP c (at_ (k0_part49 (F := F)) c v2) Q := by
  rw [k0_part49_eq_skeleton]
  unfold k0_part49_skel
  simp only [semSignalWord, semWaitWord, Prog.lift, Prog.bind_op, Prog.bind_ret, Prog.pure_eq_ret, wp_deviceId]
  exact step_arcv m ρ (off7_at c (by decide) (by decide)) <| step_arcv m ρ (off7_at c (by decide) (by decide)) <|
    step_arcv m ρ (off7_at c (by decide) (by decide)) <| step_arcv m ρ (off7_at c (by decide) (by decide)) <| step_ret (h _)
end Maxima

/-! ## The waits for the device's own sends -/

theorem part51 {c : Dev nD} {Y R : sProp 𝕄} {Q : PUnit → sProp 𝕄}
    (h : SndSt m ρ c 9 Y R ⊢ Q ⟨⟩) :
    SndSt m ρ c 2 Y R ⊢ WP c (at_ (k0_part51 (F := F)) c) Q := by
  rw [k0_part51_eq_skeleton]
  unfold k0_part51_skel
  simp only [semSignalWord, semWaitWord, Prog.lift, Prog.bind_op, Prog.bind_ret, Prog.pure_eq_ret, wp_deviceId]
  exact step_snd m ρ rfl <| step_snd m ρ rfl <| step_snd m ρ rfl <| step_snd m ρ rfl <| step_snd m ρ rfl <| step_snd m ρ rfl <| step_snd m ρ rfl <|
    step_ret h
theorem part52 {c : Dev nD} {Y R : sProp 𝕄} {Q : PUnit → sProp 𝕄}
    (h : SndSt m ρ c 16 Y R ⊢ Q ⟨⟩) :
    SndSt m ρ c 9 Y R ⊢ WP c (at_ (k0_part52 (F := F)) c) Q := by
  rw [k0_part52_eq_skeleton]
  unfold k0_part52_skel
  simp only [semSignalWord, semWaitWord, Prog.lift, Prog.bind_op, Prog.bind_ret, Prog.pure_eq_ret, wp_deviceId]
  exact step_snd m ρ rfl <| step_snd m ρ rfl <| step_snd m ρ rfl <| step_snd m ρ rfl <| step_snd m ρ rfl <| step_snd m ρ rfl <| step_snd m ρ rfl <|
    step_ret h
theorem part53 {c : Dev nD} {Y R : sProp 𝕄} {Q : PUnit → sProp 𝕄}
    (h : SndSt m ρ c 22 Y R ⊢ Q ⟨⟩) :
    SndSt m ρ c 16 Y R ⊢ WP c (at_ (k0_part53 (F := F)) c) Q := by
  rw [k0_part53_eq_skeleton]
  unfold k0_part53_skel
  simp only [semSignalWord, semWaitWord, Prog.lift, Prog.bind_op, Prog.bind_ret, Prog.pure_eq_ret, wp_deviceId]
  exact step_snd m ρ rfl <| step_snd m ρ rfl <| step_snd m ρ rfl <| step_snd m ρ rfl <| step_snd m ρ rfl <| step_snd m ρ rfl <| step_ret h
theorem part54 {c : Dev nD} {Y R : sProp 𝕄} {Q : PUnit → sProp 𝕄}
    (h : SndSt m ρ c 29 Y R ⊢ Q ⟨⟩) :
    SndSt m ρ c 22 Y R ⊢ WP c (at_ (k0_part54 (F := F)) c) Q := by
  rw [k0_part54_eq_skeleton]
  unfold k0_part54_skel
  simp only [semSignalWord, semWaitWord, Prog.lift, Prog.bind_op, Prog.bind_ret, Prog.pure_eq_ret, wp_deviceId]
  exact step_snd m ρ rfl <| step_snd m ρ rfl <| step_snd m ρ rfl <| step_snd m ρ rfl <| step_snd m ρ rfl <| step_snd m ρ rfl <| step_snd m ρ rfl <|
    step_ret h
theorem part55 {c : Dev nD} {Y R R' : sProp 𝕄} {Q : PUnit → sProp 𝕄}
    (h : AsndSt m ρ c 5 Y R' ⊢ Q ⟨⟩) (hm : SndSt m ρ c 32 Y R ⊢ AsndSt m ρ c 1 Y R') :
    SndSt m ρ c 29 Y R ⊢ WP c (at_ (k0_part55 (F := F)) c) Q := by
  rw [k0_part55_eq_skeleton]
  unfold k0_part55_skel
  simp only [semSignalWord, semWaitWord, Prog.lift, Prog.bind_op, Prog.bind_ret, Prog.pure_eq_ret, wp_deviceId]
  exact step_snd m ρ rfl <| step_snd m ρ rfl <| step_snd m ρ rfl <| hm.trans <| step_asnd m ρ rfl <| step_asnd m ρ rfl <| step_asnd m ρ rfl <|
    step_asnd m ρ rfl <| step_ret h
theorem part56 {c : Dev nD} {Y R : sProp 𝕄} {Q : PUnit → sProp 𝕄}
    (h : AsndSt m ρ c 11 Y R ⊢ Q ⟨⟩) :
    AsndSt m ρ c 5 Y R ⊢ WP c (at_ (k0_part56 (F := F)) c) Q := by
  rw [k0_part56_eq_skeleton]
  unfold k0_part56_skel
  simp only [semSignalWord, semWaitWord, Prog.lift, Prog.bind_op, Prog.bind_ret, Prog.pure_eq_ret, wp_deviceId]
  exact step_asnd m ρ rfl <| step_asnd m ρ rfl <| step_asnd m ρ rfl <| step_asnd m ρ rfl <| step_asnd m ρ rfl <| step_asnd m ρ rfl <| step_ret h
theorem part57 {c : Dev nD} {Y R : sProp 𝕄} {Q : PUnit → sProp 𝕄}
    (h : AsndSt m ρ c 18 Y R ⊢ Q ⟨⟩) :
    AsndSt m ρ c 11 Y R ⊢ WP c (at_ (k0_part57 (F := F)) c) Q := by
  rw [k0_part57_eq_skeleton]
  unfold k0_part57_skel
  simp only [semSignalWord, semWaitWord, Prog.lift, Prog.bind_op, Prog.bind_ret, Prog.pure_eq_ret, wp_deviceId]
  exact step_asnd m ρ rfl <| step_asnd m ρ rfl <| step_asnd m ρ rfl <| step_asnd m ρ rfl <| step_asnd m ρ rfl <| step_asnd m ρ rfl <|
    step_asnd m ρ rfl <| step_ret h
theorem part58 {c : Dev nD} {Y R : sProp 𝕄} {Q : PUnit → sProp 𝕄}
    (h : AsndSt m ρ c 25 Y R ⊢ Q ⟨⟩) :
    AsndSt m ρ c 18 Y R ⊢ WP c (at_ (k0_part58 (F := F)) c) Q := by
  rw [k0_part58_eq_skeleton]
  unfold k0_part58_skel
  simp only [semSignalWord, semWaitWord, Prog.lift, Prog.bind_op, Prog.bind_ret, Prog.pure_eq_ret, wp_deviceId]
  exact step_asnd m ρ rfl <| step_asnd m ρ rfl <| step_asnd m ρ rfl <| step_asnd m ρ rfl <| step_asnd m ρ rfl <| step_asnd m ρ rfl <|
    step_asnd m ρ rfl <| step_ret h
theorem part59 {c : Dev nD} {Y R : sProp 𝕄} {Q : PUnit → sProp 𝕄}
    (h : AsndSt m ρ c 31 Y R ⊢ Q ⟨⟩) :
    AsndSt m ρ c 25 Y R ⊢ WP c (at_ (k0_part59 (F := F)) c) Q := by
  rw [k0_part59_eq_skeleton]
  unfold k0_part59_skel
  simp only [semSignalWord, semWaitWord, Prog.lift, Prog.bind_op, Prog.bind_ret, Prog.pure_eq_ret, wp_deviceId]
  exact step_asnd m ρ rfl <| step_asnd m ρ rfl <| step_asnd m ρ rfl <| step_asnd m ρ rfl <| step_asnd m ρ rfl <| step_asnd m ρ rfl <| step_ret h

end Cert.KProof
-- ==== Proof.Turns.lean ====
/-
# The printed parts that turn to the maxima

One part writes the device's row of maxima and begins to send it; another takes the last row and quantises.
-/
module

public import proofs.«01_k».proof.Proof.Phases
public import proofs.«01_k».proof.Proof.PartsMaxima

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The row of maxima -/

theorem row_sub {off : Fin 2 → ℕ} {s : ℕ} (h : off = ![s, 0]) (inb) :
    (Memref.whole cc0_scratch2).view.setOn (Rect.unit (s := S32x128) off S1x128.size inb).toLoadRect.set ⊆ amRow s := by
  subst h
  intro i hi
  obtain ⟨x, hx, rfl⟩ := Finset.mem_map.mp hi
  have e := am_rect (off := ![s, 0]) (s := s) rfl rfl inb
  rw [← e]
  exact hx
theorem row_access {off : Fin 2 → ℕ} {s : ℕ} (h : off = ![s, 0]) (inb) :
    ((Memref.whole cc0_scratch2).access (Rect.unit (s := S32x128) off S1x128.size inb)).set = amRow s := by
  subst h
  show ((View.whole cc0_scratch2).slice (Rect.unit (s := S32x128) ![s, 0] S1x128.size inb)).set = amRow s
  rw [View.set_slice_whole]
  exact am_rect (s := s) rfl rfl inb
/-- The row stored is the device's row of the maxima. -/
theorem row_stored {c : Dev nD} {off : Fin 2 → ℕ} (h : off = ![c.val, 0]) (inb) (f) :
    ∀ i ∈ amRow c.val, ((Memref.whole cc0_scratch2).access (Rect.unit (s := S32x128) off S1x128.size inb)).write (Elt F) f
      (amRowOf m ρ c) Finset.univ i = amF m ρ i := by
  rw [← row_access h inb]
  subst h
  refine write_on ((View.whole cc0_scratch2).slice (Rect.unit (s := S32x128) ![c.val, 0] S1x128.size inb)) f (amF m ρ) (amRowOf m ρ c) fun x => ?_
  have hx0 : (x 0).val = 0 := Nat.lt_one_iff.mp (x 0).isLt
  show amRowOf m ρ c x = amF m ρ _
  unfold amF
  have e : tgt 0 (c.val + 1 * (x 0).val) = c := by
    rw [hx0]; exact dv_self c
  refine Eq.trans ?_ (congrArg (fun d => amRowOf m ρ d _) e.symm)
  refine congrArg (amRowOf m ρ c) (funext fun a => ?_)
  match a with
  | 0 => exact Fin.ext hx0
  | 1 =>
    apply Fin.ext
    show (x 1).val = 0 + 1 * (x 1).val
    omega

/-- The load of the device's row of maxima. -/
theorem step_row_load {c : Dev nD} {bb rr aa : ℕ} {Y R : sProp 𝕄} {α : Type} {off : Fin 2 → ℕ} {inb}
    {hl : (Memref.whole cc0_scratch2).view.LoadsAt (Rect.unit (s := S32x128) off S1x128.size inb).toLoadRect}
    {k : Vec F S1x128 .f32 → Prog (TpuEff nD τ sig (Elt F) Λ₀ .tc) α} {Q : α → sProp 𝕄} {f : Buf (Elt F) (amL c)}
    (ho : off = ![c.val, 0]) (h : ∀ w, St m ρ c bb rr aa Y (amPt c c.val fullShare f) R ⊢ WP c (k w) Q) :
    St m ρ c bb rr aa Y (amPt c c.val fullShare f) R
      ⊢ WP c (.op (.load (Memref.whole cc0_scratch2) (Rect.unit (s := S32x128) off S1x128.size inb).toLoadRect hl) k) Q := by
  refine step_load m ρ (M := Memref.whole cc0_scratch2) (P' := amPt c c.val fullShare f) (S := amRow c.val) (q := fullShare) (f := f) ?_
    (row_sub ho inb) rfl (h _)
  unfold amPt
  iintro H
  isplitl [H]; · iexact H
  iintro H; iexact H

/-- The store of the device's row of maxima. -/
theorem step_row_store {c : Dev nD} {bb rr aa : ℕ} {Y R : sProp 𝕄} {α : Type} {off : Fin 2 → ℕ} {inb}
    {hx : ((Memref.whole cc0_scratch2).access (Rect.unit (s := S32x128) off S1x128.size inb)).Stores Finset.univ} {hm}
    {k : PUnit → Prog (TpuEff nD τ sig (Elt F) Λ₀ .tc) α} {Q : α → sProp 𝕄} {f : Buf (Elt F) (amL c)}
    (ho : off = ![c.val, 0]) (h : St m ρ c bb rr aa Y (amPt c c.val fullShare (amF m ρ)) R ⊢ WP c (k ⟨⟩) Q) :
    St m ρ c bb rr aa Y (amPt c c.val fullShare f) R
      ⊢ WP c (.op (.store (Memref.whole cc0_scratch2) (Rect.unit (s := S32x128) off S1x128.size inb) (amRowOf m ρ c) Finset.univ hx hm) k) Q := by
  have hg := row_stored m ρ ho inb f
  exact step_store m ρ (M := Memref.whole cc0_scratch2) (rc := Rect.unit (s := S32x128) off S1x128.size inb) (S := amRow c.val) (f := f) (g := amF m ρ)
    (row_access ho inb).subset hg h

/-- What is left of the rows of the others, beside one leaf of each. -/
def arRest (c : Dev nD) (d : ℕ) : sProp 𝕄 :=
  iprop((bigSep (Finset.Ico 1 32) fun e => amPt c (tgt c d).val (leafQ e) (amF m ρ)) ∗ atPos ER (dcell c (arq c d)) 1 ∅ 0)

/-- One leaf of every row: the maxima as a whole. -/
theorem am_whole (c : Dev nD) :
    iprop(amPt c c.val (leafQ 0) (amF m ρ) ∗ bigSep (Finset.Ico 1 32) (wtPost m ρ c (arq c) (aro c)))
      = iprop((amL c ↦{leafQ 0} amF m ρ) ∗ bigSep (Finset.Ico 1 32) (arRest m ρ c)) := by
  rw [(am_blocks c (leafQ 0) (amF m ρ)).trans (ring_blocks c fun s => amPt c s (leafQ 0) (amF m ρ))]
  have e : bigSep (Finset.Ico 1 32) (wtPost m ρ c (arq c) (aro c))
      = iprop((bigSep (Finset.Ico 1 32) fun d => amPt c (tgt c d).val (leafQ 0) (amF m ρ)) ∗ bigSep (Finset.Ico 1 32) (arRest m ρ c)) := by
    rw [← bigSep_pair]
    refine bigSep_congr fun d hd => ?_
    unfold wtPost arRest
    rw [show rolePay m ρ c 0 (aro c d) = amPt c (tgt c d).val fullShare (amF m ρ) from rfl, am_leaves]
    exact equiv_iff.mp ⟨BI.sep_assoc, BI.sep_assoc'⟩
  rw [e]
  exact (equiv_iff.mp ⟨BI.sep_assoc, BI.sep_assoc'⟩).symm

section Turn
variable (v2 v : BitVec 32)

/-- The last chunk, the row of maxima, and its first send. -/
theorem part31 {c : Dev nD} {R : sProp 𝕄} {Q : (Σ' (_ : FVec F S128x2048 .f32), BitVec 32) → sProp 𝕄}
    (h : ∀ v, AsendSt m ρ c 2 (WS m c 8 8) iprop(amPt c c.val (leafQ 0) (amF m ρ) ∗ bigSep (Finset.Ico 0 32) (wtPost m ρ c rq ro) ∗ R) ⊢ Q ⟨y7 m ρ c, v⟩) :
    RcvSt m ρ c 32 (WS m c 8 7) iprop((∃ f, amPt (F := F) c c.val fullShare f) ∗ bigSep (Finset.Ico 1 32) (amPlace (F := F) c)
      ∗ bigSep (Finset.Ico 1 32) (asendTok c) ∗ R) ⊢ WP c (at_ (k0_part31 (F := F)) c v2 (y6 m ρ c)) Q := by
  rw [k0_part31_eq_skeleton]
  unfold k0_part31_skel
  simp only [semSignalWord, semWaitWord, Prog.lift, Prog.bind_op, Prog.bind_ret, Prog.pure_eq_ret, wp_deviceId]
  refine step_wwait m ρ rfl <| step_xg m ρ (j := 7) rfl <| step_wb m ρ (b := 7) rfl ?_
  refine (St_move m ρ (X' := iprop(∃ f, amPt (F := F) c c.val fullShare f)) (R' := iprop(bigSep (Finset.Ico 0 32) (wtPost m ρ c rq ro)
      ∗ bigSep (Finset.Ico 1 32) (amPlace (F := F) c) ∗ bigSep (Finset.Ico 1 32) (asendTok c) ∗ R)) ?_).trans ?_
  · iintro ⟨H1, H2, H3⟩
    ihave H1 := (prg_end 0 32 (wtPre c rq NX) (wtPost m ρ c rq ro)) $$ H1
    isplitl [H2]; · iexact H2
    isplitl [H1]; · iexact H1
    iexact H3
  refine St_some m ρ fun f => ?_
  refine step_row_load m ρ (k0_off5_eq c) fun w => ?_
  refine step_row_store m ρ (k0_off5_eq c) ?_
  refine (St_move m ρ (X' := prg 1 32 (asendPre m ρ c) (asendPost c) 1) (R' := iprop(amPt c c.val (leafQ 0) (amF m ρ)
      ∗ bigSep (Finset.Ico 0 32) (wtPost m ρ c rq ro) ∗ R)) ?_).trans ?_
  · have e : bigSep (Finset.Ico 1 32) (asendPre m ρ c) = iprop((bigSep (Finset.Ico 1 32) fun d => amPt c c.val (leafQ d) (amF m ρ))
        ∗ bigSep (Finset.Ico 1 32) (amPlace (F := F) c) ∗ bigSep (Finset.Ico 1 32) (asendTok c)) := by
      rw [← bigSep_pair, ← bigSep_pair]; rfl
    iintro ⟨H1, H2, H3, H4, H5⟩
    ihave H1 := (Entails.of_eq (am_leaves c c.val (amF m ρ))) $$ H1
    icases H1 with ⟨H0, H1⟩
    isplitl [H1 H3 H4]
    · iapply (prg_start 1 32 (asendPre m ρ c) (asendPost c))
      rw [e]
      isplitl [H1]; · iexact H1
      isplitl [H3]; · iexact H3
      iexact H4
    isplitl [H0]; · iexact H0
    isplitl [H2]; · iexact H2
    iexact H5
  exact step_asend m ρ (k0_dev63_eq c) (k0_off6_eq c) rfl (off1_at c) <| step_ret (h _)

/-- The last row, the quantised rows, and the first of the last waits. -/
theorem part50 {c : Dev nD} {Y R : sProp 𝕄} {Q : PUnit → sProp 𝕄}
    (h : SndSt m ρ c 2 Y iprop((outL c ↦{fullShare} outAt m ρ c) ∗ amPt c c.val (leafQ 0) (amF m ρ)
      ∗ bigSep (Finset.Ico 1 32) (wtPost m ρ c (arq c) (aro c)) ∗ R) ⊢ Q ⟨⟩) :
    ArcvSt m ρ c 31 Y iprop((∃ f, outL c ↦{fullShare} f) ∗ amPt c c.val (leafQ 0) (amF m ρ) ∗ bigSep (Finset.Ico 1 32) (wtPre c sq NX) ∗ R)
      ⊢ WP c (at_ (k0_part50 (F := F)) c (k0_pay11 (y7 m ρ c)) v) Q := by
  rw [k0_part50_eq_skeleton]
  unfold k0_part50_skel
  simp only [semSignalWord, semWaitWord, Prog.lift, Prog.bind_op, Prog.bind_ret, Prog.pure_eq_ret, wp_deviceId]
  refine step_arcv m ρ (off7_at c (by decide) (by decide)) ?_
  refine (St_move m ρ (X' := iprop(amL c ↦{leafQ 0} amF m ρ)) (R' := iprop(bigSep (Finset.Ico 1 32) (arRest m ρ c) ∗ (∃ f, outL c ↦{fullShare} f)
      ∗ bigSep (Finset.Ico 1 32) (wtPre c sq NX) ∗ R)) ?_).trans ?_
  · iintro ⟨H1, H2, H3, H4⟩
    ihave H1 := (prg_end 1 32 (wtPre c (arq c) NA) (wtPost m ρ c (arq c) (aro c))) $$ H1
    ihave H := (Entails.of_eq (am_whole m ρ c)) $$ [H3 H1]
    · isplitl [H3]; · iexact H3
      iexact H1
    icases H with ⟨H1, H3⟩
    isplitl [H1]; · iexact H1
    isplitl [H3]; · iexact H3
    isplitl [H2]; · iexact H2
    iexact H4
  refine step_load_whole m ρ off_zero ?_
  change St m ρ c 32 32 32 Y (amL c ↦{leafQ 0} amF m ρ) _ ⊢ _
  refine (St_move m ρ (X' := iprop(∃ f, outL c ↦{fullShare} f)) (R' := iprop((amL c ↦{leafQ 0} amF m ρ) ∗ bigSep (Finset.Ico 1 32) (arRest m ρ c)
      ∗ bigSep (Finset.Ico 1 32) (wtPre c sq NX) ∗ R)) ?_).trans ?_
  · iintro ⟨H1, H2, H3, H4⟩
    isplitl [H3]; · iexact H3
    isplitl [H1]; · iexact H1
    isplitl [H2]; · iexact H2
    iexact H4
  refine St_some m ρ fun f => ?_
  refine step_load_whole m ρ off_zero ?_
  refine step_store_whole m ρ off_zero ?_
  change St m ρ c 32 32 32 Y (outL c ↦{fullShare} outAt m ρ c) _ ⊢ _
  refine (St_move m ρ (X' := prg 1 32 (wtPre c sq NX) (wtPost m ρ c sq so) 1) (R' := iprop((outL c ↦{fullShare} outAt m ρ c) ∗ amPt c c.val (leafQ 0) (amF m ρ)
      ∗ bigSep (Finset.Ico 1 32) (wtPost m ρ c (arq c) (aro c)) ∗ R)) ?_).trans ?_
  · iintro ⟨H1, H2, H3, H4, H5⟩
    ihave H := (Entails.of_eq (am_whole m ρ c).symm) $$ [H2 H3]
    · isplitl [H2]; · iexact H2
      iexact H3
    icases H with ⟨H2, H3⟩
    isplitl [H4]; · iapply (prg_start 1 32 (wtPre c sq NX) (wtPost m ρ c sq so)); iexact H4
    isplitl [H1]; · iexact H1
    isplitl [H2]; · iexact H2
    isplitl [H3]; · iexact H3
    iexact H5
  exact step_snd m ρ rfl <| step_ret h
end Turn

end Cert.KProof
-- ==== Proof.Cells.lean ====
/-
# What a device starts with and ends with

Its memory, its places at all its cells, the credits it will wait by and the tokens it will hand in; and how these are
dealt out to the phases. At the end every cell is closed and the memory is whole again.
-/
module

public import proofs.«01_k».proof.Proof.Turns

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Closing cells -/

section Close
/-- A cell past its last round gives its semaphore back. -/
theorem close_q (c : Dev nD) (q : DmaSem sig) (h2 : 2 ≤ q.val) {o : Role} (ho : role q = o) {R : ℕ} (hR : ∀ r, R ≤ r → roleDuties c r o = ∅) :
    iprop(know m ρ ∗ atPos ER (dcell c q) R ∅ 0) ⊢ iprop(|={Set.univ}=> semVal (dcell c q) 0) := by
  have hc : ∀ κ : ℕ, iprop(cellInv ER (rd (F := F) m ρ) κ (dcell c q) ∗ atPos ER (dcell c q) R ∅ 0) ⊢ iprop(|={Set.univ}=> semVal (dcell c q) 0) := fun κ =>
    cell_close ER (rd m ρ) (Set.mem_univ κ) (fun h => h) (R := R) fun r hr => (dcell_duties m ρ c ho r).trans (hR r hr)
  iintro ⟨Hk, Hat⟩
  ihave Hi := (know_q m ρ c q h2) $$ Hk
  unfold inv
  icases Hi with ⟨⟨%κ, Hi⟩, -⟩
  iapply (hc κ)
  isplitl [Hi]; · iexact Hi
  iexact Hat
theorem close_bar (c : Dev nD) : iprop(know m ρ ∗ atPos ER (barCell c) 1 ∅ 0) ⊢ iprop(|={Set.univ}=> semVal (barCell c) 0) := by
  have hc : ∀ κ : ℕ, iprop(cellInv ER (rd (F := F) m ρ) κ (barCell c) ∗ atPos ER (barCell c) 1 ∅ 0) ⊢ iprop(|={Set.univ}=> semVal (barCell c) 0) := fun κ =>
    cell_close ER (rd m ρ) (Set.mem_univ κ) (fun h => h) (R := 1) fun r hr => (bar_duties m ρ c r).trans (if_neg (by omega))
  iintro ⟨Hk, Hat⟩
  ihave Hi := (know_bar m ρ c) $$ Hk
  unfold inv
  icases Hi with ⟨⟨%κ, Hi⟩, -⟩
  iapply (hc κ)
  isplitl [Hi]; · iexact Hi
  iexact Hat

theorem know_with {ι : Type} [DecidableEq ι] {S : Finset ι} {Φ Ψ : ι → sProp 𝕄} (h : ∀ i ∈ S, iprop(know m ρ ∗ Φ i) ⊢ Ψ i) :
    iprop(know m ρ ∗ bigSep S Φ) ⊢ bigSep S Ψ := by
  have e : iprop(bigSep S (fun _ => know m ρ) ∗ bigSep S Φ) ⊢ bigSep S Ψ := by
    rw [← bigSep_pair]; exact bigSep_mono h
  iintro ⟨Hk, H⟩
  iapply e
  isplitl [Hk]; · iapply (BI.bigSep_of_persistent S (know (F := F) m ρ)); iexact Hk
  iexact H

/-- A list of such cells. -/
theorem close_list (c : Dev nD) {S : Finset ℕ} {q : ℕ → DmaSem sig} {o : ℕ → Role} (h2 : ∀ d, 2 ≤ (q d).val) (ho : ∀ d, role (q d) = o d) {R : ℕ → ℕ}
    (hR : ∀ d ∈ S, ∀ r, R d ≤ r → roleDuties c r (o d) = ∅) :
    iprop(know m ρ ∗ bigSep S fun d => atPos ER (dcell c (q d)) (R d) ∅ 0) ⊢ iprop(|={Set.univ}=> bigSep S fun d => semVal (dcell c (q d)) 0) :=
  (know_with m ρ fun d hd => close_q m ρ c (q d) (h2 d) (ho d) (hR d hd)).trans (bigSep_fupd S _)
end Close

/-! ## What a device starts with -/

/-- The places at its cells. -/
def startPos (c : Dev nD) : sProp 𝕄 :=
  iprop(atPos ER (barCell c) 0 ∅ 0 ∗ (bigSep (Finset.Ico 0 32) fun d => atPos ER (dcell c (sq d)) 0 ∅ 0)
    ∗ (bigSep (Finset.Ico 0 32) fun d => atPos ER (dcell c (rq d)) 0 ∅ 0) ∗ (bigSep (Finset.Ico 0 32) fun d => atPos ER (dcell c (asq d)) 0 ∅ 0)
    ∗ (bigSep (Finset.Ico 0 32) fun d => atPos ER (dcell c (arcvS (dv d))) 0 ∅ 0) ∗ bigSep (Finset.Ico 0 6) fun k => atPos ER (dcell c (wq k)) 0 ∅ 0)
/-- The credits for what the others will do. -/
def startCred (c : Dev nD) : sProp 𝕄 :=
  iprop(cred (tallyAt (barCell c) () 31) ∗ (bigSep (Finset.Ico 1 32) fun d => cred (tallyAt (dcell c (rcvS (tgt c d))) () NX))
    ∗ bigSep (Finset.Ico 1 32) fun d => cred (tallyAt (dcell c (arcvS (tgt c d))) () NA))
/-- The tokens for what it will do itself. -/
def startTok (c : Dev nD) : sProp 𝕄 :=
  iprop(dutyTok ER (dcell c (rcvS c)) 0 0 ∗ (bigSep (Finset.Ico 1 32) fun d => dutyTok ER (barCell (tgt c d)) 0 c) ∗ bigSep (Finset.Ico 1 32) (sendTok c)
    ∗ bigSep (Finset.Ico 1 32) (asendTok c) ∗ bigSep (Finset.Ico 0 8) fun k => dutyTok ER (dcell c (wq k)) (k / 6) 0)
/-- Its memory. -/
def startMem (c : Dev nD) : sProp 𝕄 :=
  iprop(inPt m ρ c ∗ (∃ f, outL c ↦{fullShare} f) ∗ (∃ f, xbfL c ↦{fullShare} f) ∗ (∃ f, xgL c ↦{fullShare} f) ∗ (∃ f, amL c ↦{fullShare} f)
    ∗ (∃ f, wbL c ↦{fullShare} f) ∗ wL c ↦{fullShare} wv m c)
def Start (c : Dev nD) : sProp 𝕄 :=
  iprop(know m ρ ∗ OW c 1 1 1 ∗ startMem m ρ c ∗ startPos c ∗ startCred c ∗ startTok c)

/-! ## Dealing it out -/

/-- The places it never leaves. -/
def idle (c : Dev nD) : sProp 𝕄 :=
  iprop(atPos ER (dcell c (sq 0)) 0 ∅ 0 ∗ atPos ER (dcell c (asq 0)) 0 ∅ 0 ∗ atPos ER (dcell c (arcvS c)) 0 ∅ 0)
/-- For the phases from the rows' arrival on. -/
def forRows (c : Dev nD) : sProp 𝕄 :=
  iprop(bigSep (Finset.Ico 1 32) (wtPre c (arq c) NA) ∗ (∃ f, outL c ↦{fullShare} f)
    ∗ (bigSep (Finset.Ico 1 32) fun d => atPos ER (dcell c (sq d)) 0 ∅ 0) ∗ (bigSep (Finset.Ico 1 32) fun d => atPos ER (dcell c (asq d)) 0 ∅ 0) ∗ idle c)
/-- For the phases from the blocks' arrival on. -/
def forBlocks (c : Dev nD) : sProp 𝕄 :=
  iprop((bigSep (Finset.Ico 1 32) fun d => cred (tallyAt (dcell c (rcvS (tgt c d))) () NX)) ∗ (bigSep (Finset.Ico 0 32) fun d => atPos ER (dcell c (rq d)) 0 ∅ 0)
    ∗ (∃ f, amPt (F := F) c c.val fullShare f) ∗ bigSep (Finset.Ico 1 32) (asendTok c) ∗ forRows c)
/-- For all phases after the signals. -/
def forMeet (c : Dev nD) : sProp 𝕄 :=
  iprop(inPt m ρ c ∗ (∃ f, xbfL c ↦{fullShare} f) ∗ (∃ f, xgPt (F := F) c c.val f) ∗ dutyTok ER (dcell c (rcvS c)) 0 0
      ∗ barPre c ∗ bigSep (Finset.Ico 1 32) (sendTok c) ∗ forBlocks c)

theorem some_intro {ι : Type} {Φ : ι → sProp 𝕄} (f : ι) : Φ f ⊢ iprop(∃ f, Φ f) := by
  iintro H; iexists f; iexact H

/-- A buffer of one block per device, the own block apart. -/
theorem blocks_some {c : Dev nD} {β : Type} {Whole : β → sProp 𝕄} {Part : β → ℕ → sProp 𝕄} (h : ∀ f, Whole f = bigSep (Finset.range 32) (Part f)) :
    iprop(∃ f, Whole f) ⊢ iprop((∃ f, Part f c.val) ∗ bigSep (Finset.Ico 1 32) fun d => iprop(∃ f, Part f (tgt c d).val)) := by
  iintro ⟨%f, H⟩
  ihave H := (Entails.of_eq ((h f).trans (ring_blocks c (Part f)))) $$ H
  icases H with ⟨H1, H2⟩
  isplitl [H1]; · iexists f; iexact H1
  have hm : (bigSep (Finset.Ico 1 32) fun d => Part f (tgt c d).val) ⊢ bigSep (Finset.Ico 1 32) fun d => iprop(∃ f, Part f (tgt c d).val) :=
    bigSep_mono fun d _ => some_intro (Φ := fun f => Part f (tgt c d).val) f
  iapply hm; iexact H2

theorem sig_intro (c : Dev nD) :
    iprop((∃ f, xgL c ↦{fullShare} f) ∗ (∃ f, amL c ↦{fullShare} f) ∗ bigSep (Finset.Ico 1 32) fun d => dutyTok ER (barCell (tgt c d)) 0 c)
      ⊢ iprop(prg 1 32 (sigPre (F := F) c) nothing 1 ∗ (∃ f, xgPt (F := F) c c.val f) ∗ ∃ f, amPt (F := F) c c.val fullShare f) := by
  have e : bigSep (Finset.Ico 1 32) (sigPre (F := F) c) = iprop((bigSep (Finset.Ico 1 32) fun d => dutyTok ER (barCell (tgt c d)) 0 c)
      ∗ (bigSep (Finset.Ico 1 32) fun d => iprop(∃ f, xgPt (F := F) c (tgt c d).val f)) ∗ bigSep (Finset.Ico 1 32) fun d => iprop(∃ f, amPt (F := F) c (tgt c d).val fullShare f)) := by
    rw [← bigSep_pair, ← bigSep_pair]; rfl
  iintro ⟨H1, H2, H3⟩
  ihave H1 := (blocks_some (F := F) (c := c) (Whole := fun f => (xgL c ↦{fullShare} f)) (Part := fun f s => xgPt c s f) (xg_blocks c)) $$ H1
  ihave H2 := (blocks_some (F := F) (c := c) (Whole := fun f => (amL c ↦{fullShare} f)) (Part := fun f s => amPt c s fullShare f) (am_blocks c fullShare)) $$ H2
  icases H1 with ⟨H1, H4⟩
  icases H2 with ⟨H2, H5⟩
  isplitl [H3 H4 H5]
  · iapply (prg_start 1 32 (sigPre (F := F) c) nothing)
    rw [e]
    isplitl [H3]; · iexact H3
    isplitl [H4]; · iexact H4
    iexact H5
  isplitl [H1]; · iexact H1
  iexact H2

/-- The slots of the ring, all free, each cell at its first round. -/
theorem ring_intro (c : Dev nD) :
    iprop(know m ρ ∗ (∃ f, wbL c ↦{fullShare} f) ∗ (wL c ↦{fullShare} wv m c) ∗ (bigSep (Finset.Ico 0 6) fun k => atPos ER (dcell c (wq k)) 0 ∅ 0)
      ∗ bigSep (Finset.Ico 0 8) fun k => dutyTok ER (dcell c (wq k)) (k / 6) 0) ⊢ WS m c 0 0 := by
  have e1 : bigSep (Finset.Ico 0 8) (wTok m c) = iprop((bigSep (Finset.Ico 0 8) fun k => dutyTok ER (dcell c (wq k)) (k / 6) 0) ∗ bigSep (Finset.Ico 0 8) (wPt m c)) := by
    rw [← bigSep_pair]; rfl
  have e2 : iprop(know m ρ ∗ bigSep (Finset.Ico 0 6) fun k => iprop((∃ f, wbPt (F := F) c k f) ∗ atPos ER (dcell c (wq k)) 0 ∅ 0)) ⊢ bigSep (Finset.Ico 0 6) (wReady (F := F) c) :=
    know_with m ρ fun k hk => by
      have hk6 := (Finset.mem_Ico.mp hk).2
      have hr : know m ρ ⊢ reached ER (dcell c (wq k)) 0 := (know_q m ρ c (wq k) (wq_ge k)).trans (by unfold inv; iintro ⟨-, H⟩; iexact H)
      unfold wReady
      rw [Nat.mod_eq_of_lt hk6, Nat.div_eq_of_lt hk6]
      iintro ⟨Hk, H1, H2⟩
      isplitl [H1]; · iexact H1
      isplitl [H2]; · iexact H2
      iapply hr; iexact Hk
  rw [bigSep_pair] at e2
  unfold WS
  rw [e1, Finset.Ico_self, bigSep_empty, bigSep_empty, w_blocks, Finset.range_eq_Ico]
  iintro ⟨Hk, ⟨%f, H1⟩, H2, H3, H4⟩
  isplitl [H2 H4]
  · isplitl [H4]; · iexact H4
    iexact H2
  isplitl [Hk H1 H3]
  · iapply e2
    isplitl [Hk]; · iexact Hk
    isplitr [H3]
    · have hm : bigSep (Finset.range 6) (fun s => wbPt c s f) ⊢ bigSep (Finset.Ico 0 6) fun k => iprop(∃ f, wbPt (F := F) c k f) := by
        rw [Finset.range_eq_Ico]
        exact bigSep_mono fun k _ => some_intro (Φ := fun f => wbPt (F := F) c k f) f
      iapply hm
      iapply (Entails.of_eq (wb_blocks c f)); iexact H1
    iexact H3
  isplitr <;> iempintro

/-- Everything a device starts with, dealt out. -/
theorem deal (c : Dev nD) : Start m ρ c ⊢ SigSt m ρ c 1 (WS m c 0 0) (forMeet m ρ c) := by
  have ea : (bigSep (Finset.Ico 0 32) fun d => atPos ER (dcell c (arcvS (dv d))) 0 ∅ 0 : sProp 𝕄)
      = iprop(atPos ER (dcell c (arcvS c)) 0 ∅ 0 ∗ bigSep (Finset.Ico 1 32) fun d => atPos ER (dcell c (arq c d)) 0 ∅ 0) :=
    (ring_index fun s => atPos ER (dcell c (arcvS s)) 0 ∅ 0).trans (ring_split c fun s => atPos ER (dcell c (arcvS s)) 0 ∅ 0)
  have ew : bigSep (Finset.Ico 1 32) (wtPre (F := F) c (arq c) NA) = iprop((bigSep (Finset.Ico 1 32) fun d => cred (tallyAt (dcell c (arcvS (tgt c d))) () NA))
      ∗ bigSep (Finset.Ico 1 32) fun d => atPos ER (dcell c (arq c d)) 0 ∅ 0) := by
    rw [← bigSep_pair]; rfl
  unfold Start startMem startPos startCred startTok SigSt St forMeet forBlocks forRows idle barPre
  rw [ea, ew, bigSep_ico_first (a := 0) (n := 32) (by decide) (fun d => atPos ER (dcell c (sq d)) 0 ∅ 0),
    bigSep_ico_first (a := 0) (n := 32) (by decide) (fun d => atPos ER (dcell c (asq d)) 0 ∅ 0)]
  iintro ⟨#Hk, HO, ⟨Hin, Hout, Hxbf, Hxg, Ham, Hwb, Hw⟩, ⟨Pbar, ⟨Ps0, Ps⟩, Pr, ⟨Pa0, Pa⟩, ⟨Pv0, Pv⟩, Pw⟩, ⟨Cb, Cr, Ca⟩, ⟨Tr, Tb, Ts, Ta, Tw⟩⟩
  ihave H := (sig_intro (F := F) c) $$ [Hxg Ham Tb]
  · isplitl [Hxg]; · iexact Hxg
    isplitl [Ham]; · iexact Ham
    iexact Tb
  icases H with ⟨Hsig, Hxg, Ham⟩
  isplitr; · iexact Hk
  isplitl [HO]; · iexact HO
  isplitl [Hwb Hw Pw Tw]
  · iapply (ring_intro m ρ c)
    isplitr; · iexact Hk
    isplitl [Hwb]; · iexact Hwb
    isplitl [Hw]; · iexact Hw
    isplitl [Pw]; · iexact Pw
    iexact Tw
  isplitl [Hsig]; · iexact Hsig
  isplitl [Hin]; · iexact Hin
  isplitl [Hxbf]; · iexact Hxbf
  isplitl [Hxg]; · iexact Hxg
  isplitl [Tr]; · iexact Tr
  isplitl [Cb Pbar]
  · isplitl [Cb]; · iexact Cb
    iexact Pbar
  isplitl [Ts]; · iexact Ts
  isplitl [Cr]; · iexact Cr
  isplitl [Pr]; · iexact Pr
  isplitl [Ham]; · iexact Ham
  isplitl [Ta]; · iexact Ta
  isplitl [Ca Pv]
  · isplitl [Ca]; · iexact Ca
    iexact Pv
  isplitl [Hout]; · iexact Hout
  isplitl [Ps]; · iexact Ps
  isplitl [Pa]; · iexact Pa
  isplitl [Ps0]; · iexact Ps0
  isplitl [Pa0]; · iexact Pa0
  iexact Pv0

end Cert.KProof
-- ==== Proof.PartsProduct.lean ====
/-
# The printed parts: the gathered product

The waits for the blocks, and the product of each chunk as soon as its columns are there.
-/
module

public import proofs.«01_k».proof.Proof.PartsSend

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Product
variable (v : BitVec 32) (y : FVec F S128x2048 .f32)

theorem part19 {c : Dev nD} {R : sProp 𝕄} {Q : PUnit → sProp 𝕄}
    (h : RcvSt m ρ c 4 (WS m c 4 0) R ⊢ Q ⟨⟩) :
    RcvSt m ρ c 0 (WS m c 4 0) R ⊢ WP c (at_ (k0_part19 (F := F))) Q := by
  rw [k0_part19_eq_skeleton]
  unfold k0_part19_skel
  simp only [semSignalWord, semWaitWord, Prog.lift, Prog.bind_op, Prog.bind_ret, Prog.pure_eq_ret, wp_deviceId]
  exact step_rcv m ρ rfl <| step_rcv m ρ rfl <| step_rcv m ρ rfl <| step_rcv m ρ rfl <| step_ret h
theorem part20 {c : Dev nD} {R : sProp 𝕄} {Q : FVec F S128x2048 .f32 → sProp 𝕄}
    (h : RcvSt m ρ c 5 (WS m c 5 1) R ⊢ Q (k0_pay2 (xgCh m ρ c 0) (wCh m c 0))) :
    RcvSt m ρ c 4 (WS m c 4 0) R ⊢ WP c (at_ (k0_part20 (F := F))) Q := by
  rw [k0_part20_eq_skeleton]
  unfold k0_part20_skel
  simp only [semSignalWord, semWaitWord, Prog.lift, Prog.bind_op, Prog.bind_ret, Prog.pure_eq_ret, wp_deviceId]
  exact step_wwait m ρ rfl <| step_xg m ρ rfl <| step_wb m ρ rfl <| step_wstart m ρ rfl rfl rfl <| step_rcv m ρ rfl <| step_ret h
theorem part21 {c : Dev nD} {R : sProp 𝕄} {Q : FVec F S128x2048 .f32 → sProp 𝕄}
    (h : RcvSt m ρ c 8 (WS m c 5 2) R ⊢ Q (k0_pay3 y (xgCh m ρ c 1) (wCh m c 1))) :
    RcvSt m ρ c 5 (WS m c 5 1) R ⊢ WP c (at_ (k0_part21 (F := F)) y) Q := by
  rw [k0_part21_eq_skeleton]
  unfold k0_part21_skel
  simp only [semSignalWord, semWaitWord, Prog.lift, Prog.bind_op, Prog.bind_ret, Prog.pure_eq_ret, wp_deviceId]
  exact step_rcv m ρ rfl <| step_rcv m ρ rfl <| step_rcv m ρ rfl <| step_wwait m ρ rfl <| step_xg m ρ rfl <| step_wb m ρ rfl <| step_ret h
theorem part22 {c : Dev nD} {R : sProp 𝕄} {Q : PUnit → sProp 𝕄}
    (h : RcvSt m ρ c 11 (WS m c 6 2) R ⊢ Q ⟨⟩) :
    RcvSt m ρ c 8 (WS m c 5 2) R ⊢ WP c (at_ (k0_part22 (F := F))) Q := by
  rw [k0_part22_eq_skeleton]
  unfold k0_part22_skel
  simp only [semSignalWord, semWaitWord, Prog.lift, Prog.bind_op, Prog.bind_ret, Prog.pure_eq_ret, wp_deviceId]
  exact step_wstart m ρ rfl rfl rfl <| step_rcv m ρ rfl <| step_rcv m ρ rfl <| step_rcv m ρ rfl <| step_ret h
theorem part23 {c : Dev nD} {R : sProp 𝕄} {Q : FVec F S128x2048 .f32 → sProp 𝕄}
    (h : RcvSt m ρ c 12 (WS m c 7 3) R ⊢ Q (k0_pay4 y (xgCh m ρ c 2) (wCh m c 2))) :
    RcvSt m ρ c 11 (WS m c 6 2) R ⊢ WP c (at_ (k0_part23 (F := F)) y) Q := by
  rw [k0_part23_eq_skeleton]
  unfold k0_part23_skel
  simp only [semSignalWord, semWaitWord, Prog.lift, Prog.bind_op, Prog.bind_ret, Prog.pure_eq_ret, wp_deviceId]
  exact step_rcv m ρ rfl <| step_wwait m ρ rfl <| step_xg m ρ rfl <| step_wb m ρ rfl <| step_wstart m ρ rfl rfl rfl <| step_ret h
theorem part24 {c : Dev nD} {R : sProp 𝕄} {Q : PUnit → sProp 𝕄}
    (h : RcvSt m ρ c 16 (WS m c 7 3) R ⊢ Q ⟨⟩) :
    RcvSt m ρ c 12 (WS m c 7 3) R ⊢ WP c (at_ (k0_part24 (F := F))) Q := by
  rw [k0_part24_eq_skeleton]
  unfold k0_part24_skel
  simp only [semSignalWord, semWaitWord, Prog.lift, Prog.bind_op, Prog.bind_ret, Prog.pure_eq_ret, wp_deviceId]
  exact step_rcv m ρ rfl <| step_rcv m ρ rfl <| step_rcv m ρ rfl <| step_rcv m ρ rfl <| step_ret h
theorem part25 {c : Dev nD} {R : sProp 𝕄} {Q : FVec F S128x2048 .f32 → sProp 𝕄}
    (h : RcvSt m ρ c 17 (WS m c 8 4) R ⊢ Q (k0_pay5 y (xgCh m ρ c 3) (wCh m c 3))) :
    RcvSt m ρ c 16 (WS m c 7 3) R ⊢ WP c (at_ (k0_part25 (F := F)) y) Q := by
  rw [k0_part25_eq_skeleton]
  unfold k0_part25_skel
  simp only [semSignalWord, semWaitWord, Prog.lift, Prog.bind_op, Prog.bind_ret, Prog.pure_eq_ret, wp_deviceId]
  exact step_wwait m ρ rfl <| step_xg m ρ rfl <| step_wb m ρ rfl <| step_wstart m ρ rfl rfl rfl <| step_rcv m ρ rfl <| step_ret h
theorem part26 {c : Dev nD} {R : sProp 𝕄} {Q : FVec F S128x2048 .f32 → sProp 𝕄}
    (h : RcvSt m ρ c 20 (WS m c 8 5) R ⊢ Q (k0_pay6 y (xgCh m ρ c 4) (wCh m c 4))) :
    RcvSt m ρ c 17 (WS m c 8 4) R ⊢ WP c (at_ (k0_part26 (F := F)) y) Q := by
  rw [k0_part26_eq_skeleton]
  unfold k0_part26_skel
  simp only [semSignalWord, semWaitWord, Prog.lift, Prog.bind_op, Prog.bind_ret, Prog.pure_eq_ret, wp_deviceId]
  exact step_rcv m ρ rfl <| step_rcv m ρ rfl <| step_rcv m ρ rfl <| step_wwait m ρ rfl <| step_xg m ρ rfl <| step_wb m ρ rfl <| step_ret h
theorem part27 {c : Dev nD} {R : sProp 𝕄} {Q : PUnit → sProp 𝕄}
    (h : RcvSt m ρ c 23 (WS m c 8 5) R ⊢ Q ⟨⟩) :
    RcvSt m ρ c 20 (WS m c 8 5) R ⊢ WP c (at_ (k0_part27 (F := F))) Q := by
  rw [k0_part27_eq_skeleton]
  unfold k0_part27_skel
  simp only [semSignalWord, semWaitWord, Prog.lift, Prog.bind_op, Prog.bind_ret, Prog.pure_eq_ret, wp_deviceId]
  exact step_rcv m ρ rfl <| step_rcv m ρ rfl <| step_rcv m ρ rfl <| step_ret h
theorem part28 {c : Dev nD} {R : sProp 𝕄} {Q : FVec F S128x2048 .f32 → sProp 𝕄}
    (h : RcvSt m ρ c 26 (WS m c 8 6) R ⊢ Q (k0_pay7 y (xgCh m ρ c 5) (wCh m c 5))) :
    RcvSt m ρ c 23 (WS m c 8 5) R ⊢ WP c (at_ (k0_part28 (F := F)) y) Q := by
  rw [k0_part28_eq_skeleton]
  unfold k0_part28_skel
  simp only [semSignalWord, semWaitWord, Prog.lift, Prog.bind_op, Prog.bind_ret, Prog.pure_eq_ret, wp_deviceId]
  exact step_rcv m ρ rfl <| step_wwait m ρ rfl <| step_xg m ρ rfl <| step_wb m ρ rfl <| step_rcv m ρ rfl <| step_rcv m ρ rfl <| step_ret h
theorem part29 {c : Dev nD} {R : sProp 𝕄} {Q : (Σ' (_ : FVec F S128x2048 .f32), BitVec 32) → sProp 𝕄}
    (h : ∀ v, RcvSt m ρ c 28 (WS m c 8 7) R ⊢ Q ⟨k0_pay8 y (xgCh m ρ c 6) (wCh m c 6), v⟩) :
    RcvSt m ρ c 26 (WS m c 8 6) R ⊢ WP c (at_ (k0_part29 (F := F)) y) Q := by
  rw [k0_part29_eq_skeleton]
  unfold k0_part29_skel
  simp only [semSignalWord, semWaitWord, Prog.lift, Prog.bind_op, Prog.bind_ret, Prog.pure_eq_ret, wp_deviceId]
  exact step_rcv m ρ rfl <| step_rcv m ρ rfl <| step_wwait m ρ rfl <| step_xg m ρ rfl <| step_wb m ρ rfl <| step_ret (h _)
theorem part30 {c : Dev nD} {R : sProp 𝕄} {Q : PUnit → sProp 𝕄}
    (h : RcvSt m ρ c 32 (WS m c 8 7) R ⊢ Q ⟨⟩) :
    RcvSt m ρ c 28 (WS m c 8 7) R ⊢ WP c (at_ (k0_part30 (F := F)) v) Q := by
  rw [k0_part30_eq_skeleton]
  unfold k0_part30_skel
  simp only [semSignalWord, semWaitWord, Prog.lift, Prog.bind_op, Prog.bind_ret, Prog.pure_eq_ret, wp_deviceId]
  exact step_rcv m ρ rfl <| step_rcv m ρ rfl <| step_rcv m ρ rfl <| step_rcv m ρ rfl <| step_ret h
end Product

end Cert.KProof
-- ==== Proof.Body.lean ====
/-
# The body of the kernel on one device

The printed parts in turn, the state regrouped where one phase gives way to the next, and every cell closed at the end.
-/
module

public import proofs.«01_k».proof.Proof.Cells
public import proofs.«01_k».proof.Proof.PartsProduct

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Between the phases -/

/-- After the block sends: what the rows' phases do not touch. -/
def afterBlocks (c : Dev nD) : sProp 𝕄 :=
  iprop(bigSep (Finset.Ico 1 32) (sendPost c) ∗ atPos ER (barCell c) 1 ∅ 0 ∗ inPt m ρ c ∗ forRows c)
/-- After the row sends. -/
def afterRows (c : Dev nD) : sProp 𝕄 :=
  iprop(bigSep (Finset.Ico 0 32) (wtPost m ρ c rq ro) ∗ atPos ER (barCell c) 1 ∅ 0 ∗ inPt m ρ c ∗ bigSep (Finset.Ico 1 32) (wtPre c asq NA) ∗ idle c)
/-- After the last result rows. -/
def afterOut (c : Dev nD) : sProp 𝕄 :=
  iprop(bigSep (Finset.Ico 1 32) (wtPost m ρ c sq so) ∗ (outL c ↦{fullShare} outAt m ρ c) ∗ amPt c c.val (leafQ 0) (amF m ρ)
      ∗ bigSep (Finset.Ico 1 32) (wtPost m ρ c (arq c) (aro c)) ∗ bigSep (Finset.Ico 0 32) (wtPost m ρ c rq ro) ∗ atPos ER (barCell c) 1 ∅ 0 ∗ inPt m ρ c ∗ idle c)

theorem wtPre_pair (c : Dev nD) (S : Finset ℕ) (q : ℕ → DmaSem sig) (N : ℕ) :
    bigSep S (wtPre (F := F) c q N) = iprop((bigSep S fun d => cred (tallyAt (dcell c (q d)) () N)) ∗ bigSep S fun d => atPos ER (dcell c (q d)) 0 ∅ 0) := by
  rw [← bigSep_pair]; rfl
/-- The credits of all arrivals: the local copy's and the others'. -/
theorem rcv_creds (c : Dev nD) :
    (bigSep (Finset.Ico 0 32) fun d => cred (tallyAt (dcell c (rq d)) () NX) : sProp 𝕄)
      = iprop(cred (tallyAt (dcell c (rcvS c)) () NX) ∗ bigSep (Finset.Ico 1 32) fun d => cred (tallyAt (dcell c (rcvS (tgt c d))) () NX)) :=
  (ring_index fun s => cred (tallyAt (dcell c (rcvS s)) () NX)).trans (ring_split c fun s => cred (tallyAt (dcell c (rcvS s)) () NX))

/-- From the sends to the arrivals. -/
theorem to_arrivals (c : Dev nD) {Y : sProp 𝕄} :
    SendSt m ρ c 32 Y iprop(cred (tallyAt (dcell c (rcvS c)) () NX) ∗ atPos ER (barCell c) 1 ∅ 0 ∗ inPt m ρ c
      ∗ bigSep (Finset.Ico 1 32) (amPlace (F := F) c) ∗ forBlocks c)
    ⊢ RcvSt m ρ c 0 Y iprop((∃ f, amPt (F := F) c c.val fullShare f) ∗ bigSep (Finset.Ico 1 32) (amPlace (F := F) c)
      ∗ bigSep (Finset.Ico 1 32) (asendTok c) ∗ afterBlocks m ρ c) := by
  refine St_move m ρ ?_
  unfold forBlocks afterBlocks
  iintro ⟨H1, H2, H3, H4, H5, H6, H7, H8, H9, H10⟩
  ihave H1 := (prg_end 1 32 (sendPre m ρ c) (sendPost c)) $$ H1
  isplitl [H2 H6 H7]
  · iapply (prg_start 0 32 (wtPre c rq NX) (wtPost m ρ c rq ro))
    rw [wtPre_pair, rcv_creds]
    isplitr [H7]
    · isplitl [H2]; · iexact H2
      iexact H6
    iexact H7
  isplitl [H8]; · iexact H8
  isplitl [H5]; · iexact H5
  isplitl [H9]; · iexact H9
  isplitl [H1]; · iexact H1
  isplitl [H3]; · iexact H3
  isplitl [H4]; · iexact H4
  iexact H10

/-- From the row sends to the rows' arrivals. -/
theorem to_rows (c : Dev nD) {Y : sProp 𝕄} :
    AsendSt m ρ c 32 Y iprop(amPt c c.val (leafQ 0) (amF m ρ) ∗ bigSep (Finset.Ico 0 32) (wtPost m ρ c rq ro) ∗ afterBlocks m ρ c)
    ⊢ ArcvSt m ρ c 1 Y iprop((∃ f, outL c ↦{fullShare} f) ∗ amPt c c.val (leafQ 0) (amF m ρ) ∗ bigSep (Finset.Ico 1 32) (wtPre c sq NX) ∗ afterRows m ρ c) := by
  refine St_move m ρ ?_
  unfold afterBlocks forRows afterRows
  rw [wtPre_pair c _ sq, wtPre_pair c _ asq]
  iintro ⟨H1, H2, H3, H4, H5, H6, H7, H8, H9, H10, H11⟩
  ihave H1 := (prg_end 1 32 (asendPre m ρ c) (asendPost c)) $$ H1
  isplitl [H7]
  · iapply (prg_start 1 32 (wtPre c (arq c) NA) (wtPost m ρ c (arq c) (aro c))); iexact H7
  isplitl [H8]; · iexact H8
  isplitl [H2]; · iexact H2
  isplitl [H4 H9]
  · isplitl [H4]; · iexact H4
    iexact H9
  isplitl [H3]; · iexact H3
  isplitl [H5]; · iexact H5
  isplitl [H6]; · iexact H6
  isplitl [H1 H10]
  · isplitl [H1]; · iexact H1
    iexact H10
  iexact H11

/-- From one list of last waits to the other. -/
theorem to_last (c : Dev nD) {Y : sProp 𝕄} :
    SndSt m ρ c 32 Y iprop((outL c ↦{fullShare} outAt m ρ c) ∗ amPt c c.val (leafQ 0) (amF m ρ)
      ∗ bigSep (Finset.Ico 1 32) (wtPost m ρ c (arq c) (aro c)) ∗ afterRows m ρ c)
    ⊢ AsndSt m ρ c 1 Y (afterOut m ρ c) := by
  refine St_move m ρ ?_
  unfold afterRows afterOut
  iintro ⟨H1, H2, H3, H4, H5, H6, H7, H8, H9⟩
  ihave H1 := (prg_end 1 32 (wtPre c sq NX) (wtPost m ρ c sq so)) $$ H1
  isplitl [H8]
  · iapply (prg_start 1 32 (wtPre c asq NA) (wtPost m ρ c asq aso)); iexact H8
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H9

/-! ## The end -/

/-- All its semaphores, at zero. -/
def endSem (c : Dev nD) : sProp 𝕄 :=
  iprop(semVal (barCell c) 0 ∗ (bigSep (Finset.Ico 0 32) fun d => semVal (dcell c (sq d)) 0)
    ∗ (bigSep (Finset.Ico 0 32) fun d => semVal (dcell c (rq d)) 0) ∗ (bigSep (Finset.Ico 0 32) fun d => semVal (dcell c (asq d)) 0)
    ∗ (bigSep (Finset.Ico 0 32) fun d => semVal (dcell c (arcvS (dv d))) 0) ∗ bigSep (Finset.Ico 0 6) fun k => semVal (dcell c (wq k)) 0)
/-- Its memory: the result in place. -/
def endMem (c : Dev nD) : sProp 𝕄 :=
  iprop(inPt m ρ c ∗ (outL c ↦{fullShare} outAt m ρ c) ∗ (∃ f, xbfL c ↦{fullShare} f) ∗ (∃ f, xgL c ↦{fullShare} f) ∗ (∃ f, amL c ↦{fullShare} f)
    ∗ (∃ f, wbL c ↦{fullShare} f) ∗ wL c ↦{fullShare} wv m c)
def Finish (c : Dev nD) : sProp 𝕄 := iprop(OW c 32 32 32 ∗ endMem m ρ c ∗ endSem c)

theorem wtPost_pair (c : Dev nD) (S : Finset ℕ) (q : ℕ → DmaSem sig) (o : ℕ → Role) :
    bigSep S (wtPost m ρ c q o) = iprop((bigSep S fun d => rolePay m ρ c 0 (o d)) ∗ bigSep S fun d => atPos ER (dcell c (q d)) 1 ∅ 0) := by
  rw [← bigSep_pair]; rfl

/-- The gathered rows and the device's own narrowed block, back from the arrivals. -/
theorem gathered (c : Dev nD) : (bigSep (Finset.Ico 0 32) fun d => rolePay m ρ c 0 (ro d)) ⊢ iprop((xgL c ↦{fullShare} xgF m ρ c) ∗ xbfPt m ρ c c.val) := by
  have e : (bigSep (Finset.univ : Finset (Dev nD)) fun s => rcvPay m ρ c s) = iprop((bigSep (Finset.univ : Finset (Dev nD)) fun s => xgPt c s.val (xgF m ρ c))
      ∗ bigSep (Finset.univ : Finset (Dev nD)) fun s => iprop(if s = c then xbfPt m ρ c c.val else emp)) := by
    rw [← bigSep_pair]; rfl
  rw [show (bigSep (Finset.Ico 0 32) fun d => rolePay m ρ c 0 (ro d)) = bigSep (Finset.univ : Finset (Dev nD)) fun s => rcvPay m ρ c s from ring_index fun s => rcvPay m ρ c s,
    e, xg_blocks c, bigSep_fin_range 32 fun s => xgPt c s (xgF m ρ c), ring_split c fun s => iprop(if s = c then xbfPt m ρ c c.val else emp), if_pos rfl]
  iintro ⟨H1, H2, -⟩
  isplitl [H1]; · iexact H1
  iexact H2
/-- The narrowed block, all sends done. -/
theorem narrowed (c : Dev nD) : iprop(xbfPt m ρ c c.val ∗ bigSep (Finset.Ico 1 32) fun d => rolePay m ρ c 0 (so d)) = (xbfL c ↦{fullShare} xbf m ρ c : sProp 𝕄) := by
  refine Eq.trans ?_ ((xbf_blocks c (xbf m ρ c)).trans (ring_blocks c (xbfPt m ρ c))).symm
  refine congrArg (fun X => iprop(xbfPt m ρ c c.val ∗ X)) (bigSep_congr fun d hd => ?_)
  show xbfPt m ρ c (tgt c (dv d).val).val = xbfPt m ρ c (tgt c d).val
  rw [dv_val (Finset.mem_Ico.mp hd).2]
/-- The maxima, all sends done. -/
theorem maxima (c : Dev nD) :
    iprop(amPt c c.val (leafQ 0) (amF m ρ) ∗ (bigSep (Finset.Ico 1 32) fun d => rolePay m ρ c 0 (aso d)) ∗ bigSep (Finset.Ico 1 32) fun d => rolePay m ρ c 0 (aro c d))
      ⊢ (amL c ↦{fullShare} amF m ρ : sProp 𝕄) := by
  have e : (bigSep (Finset.Ico 1 32) fun d => rolePay m ρ c 0 (aso d)) = bigSep (Finset.Ico 1 32) fun d => amPt c c.val (leafQ d) (amF m ρ) :=
    bigSep_congr fun d hd => by
      show amPt c c.val (leafQ (dv d).val) (amF m ρ) = _
      rw [dv_val (Finset.mem_Ico.mp hd).2]
  rw [e, (am_blocks c fullShare (amF m ρ)).trans (ring_blocks c fun s => amPt c s fullShare (amF m ρ)), am_leaves]
  iintro ⟨H1, H2, H3⟩
  isplitr [H3]
  · isplitl [H1]; · iexact H1
    iexact H2
  iexact H3

theorem idle_duties (c : Dev nD) (r : ℕ) : roleDuties c r (.snd (dv 0)) = ∅ ∧ roleDuties c r (.asnd (dv 0)) = ∅ ∧ roleDuties c r (.arcv c) = ∅ := by
  have h0 : dv 0 = (0 : Dev nD) := tgt_zero 0
  unfold roleDuties
  rw [h0]
  exact ⟨if_neg fun h => h.2 rfl, if_neg fun h => h.2 rfl, if_neg fun h => h.2 rfl⟩
theorem late_duties (c : Dev nD) (r : ℕ) (h : 1 ≤ r) (s : Dev nD) :
    roleDuties c r (.snd s) = ∅ ∧ roleDuties c r (.rcv s) = ∅ ∧ roleDuties c r (.asnd s) = ∅ ∧ roleDuties c r (.arcv s) = ∅ := by
  unfold roleDuties
  exact ⟨if_neg (by omega), if_neg (by omega), if_neg (by omega), if_neg (by omega)⟩

theorem sq_ge (d : ℕ) : 2 ≤ (sq d).val := Nat.le_add_right 2 _
theorem rq_ge (d : ℕ) : 2 ≤ (rq d).val := Nat.le_trans (by decide) (Nat.le_add_right 34 _)
theorem asq_ge (d : ℕ) : 2 ≤ (asq d).val := Nat.le_trans (by decide) (Nat.le_add_right 66 _)
theorem arcvS_ge (s : Dev nD) : 2 ≤ (arcvS s).val := Nat.le_trans (by decide) (Nat.le_add_right 98 _)

/-- A list of waits done and its idle first cell: all closed. -/
theorem close_first (c : Dev nD) {q : ℕ → DmaSem sig} {o : ℕ → Role} (h2 : ∀ d, 2 ≤ (q d).val) (ho : ∀ d, role (q d) = o d)
    (h0 : ∀ r, roleDuties c r (o 0) = ∅) (h1 : ∀ d r, 1 ≤ r → roleDuties c r (o d) = ∅) :
    iprop(know m ρ ∗ atPos ER (dcell c (q 0)) 0 ∅ 0 ∗ bigSep (Finset.Ico 1 32) fun d => atPos ER (dcell c (q d)) 1 ∅ 0)
      ⊢ iprop(|={Set.univ}=> bigSep (Finset.Ico 0 32) fun d => semVal (dcell c (q d)) 0) := by
  have hA := close_q m ρ c (q 0) (h2 0) (ho 0) (R := 0) fun r _ => h0 r
  have hB := close_list m ρ c (S := Finset.Ico 1 32) h2 ho (R := fun _ => 1) fun d _ r => h1 d r
  rw [bigSep_ico_first (a := 0) (n := 32) (by decide) fun d => (semVal (dcell c (q d)) 0 : sProp 𝕄)]
  iintro ⟨#Hk, H1, H2⟩
  imod hA $$ [H1] with H1
  · isplitr; · iexact Hk
    iexact H1
  imod hB $$ [H2] with H2
  · isplitr; · iexact Hk
    iexact H2
  imodintro
  isplitl [H1]; · iexact H1
  iexact H2

/-- Six chunks on end meet every slot of the ring once. -/
theorem slots_again (Φ : ℕ → sProp 𝕄) : (bigSep (Finset.Ico 8 14) fun k => Φ (k % 6)) = bigSep (Finset.Ico 0 6) Φ := by
  have e : (Finset.Ico 0 6 : Finset ℕ) = (Finset.Ico 8 14).image (· % 6) := by decide
  rw [e, bigSep_image_of_injOn]
  intro a ha b hb h
  have := Finset.mem_Ico.mp (Finset.mem_coe.mp ha)
  have := Finset.mem_Ico.mp (Finset.mem_coe.mp hb)
  change a % 6 = b % 6 at h
  omega
include m in
/-- The slots, each at some contents: the buffer at some contents. -/
theorem slots_whole (c : Dev nD) : (bigSep (Finset.Ico 0 6) fun k => iprop(∃ f, wbPt (F := F) c k f)) ⊢ iprop(∃ f, wbL c ↦{fullShare} f) := by
  have h : ∀ g : ℕ → Vec F S6x512x2048 .f32, (bigSep (Finset.Ico 0 6) fun k => wbPt c k (g k)) ⊢ iprop(∃ f, wbL c ↦{fullShare} f) := fun g => by
    have e : (bigSep (Finset.Ico 0 6) fun k => wbPt c k (g k)) = (wbL c ↦{fullShare} (fun i : S6x512x2048.Idx => g (i 0).val i) : sProp 𝕄) := by
      rw [wb_blocks, Finset.range_eq_Ico]
      refine bigSep_congr fun k _ => ?_
      unfold wbPt
      refine pointsTo_congr fun i hi => ?_
      rw [(Finset.mem_filter.mp hi).2]
    rw [e]
    iintro H; iexists _; iexact H
  refine (@BI.bigSep_exists_pi _ _ _ _ (fun _ => Vec F S6x512x2048 .f32) (fun _ => ⟨wbF m c 0⟩) (Finset.Ico 0 6) (fun k f => wbPt c k f)).trans ?_
  iintro ⟨%g, H⟩
  iapply (h g); iexact H

/-- The ring of `w` at the end: all slots free, all of `w` back. -/
theorem ring_end (c : Dev nD) : iprop(know m ρ ∗ WS m c 8 8)
    ⊢ iprop(|={Set.univ}=> ((∃ f, wbL c ↦{fullShare} f) ∗ (wL c ↦{fullShare} wv m c) ∗ bigSep (Finset.Ico 0 6) fun k => semVal (dcell c (wq k)) 0)) := by
  have hc := close_list m ρ c (S := Finset.Ico 8 14) (q := wq) (o := fun k => .w ⟨k % 6, Nat.mod_lt _ (by decide)⟩) wq_ge role_wq (R := fun k => k / 6)
    fun d hd r h => if_neg (by
      have := (Finset.mem_Ico.mp hd).1
      show ¬ r * 6 + d % 6 < 8
      omega)
  have e : bigSep (Finset.Ico 8 14) (wReady (F := F) c) ⊢ iprop((bigSep (Finset.Ico 8 14) fun k => iprop(∃ f, wbPt (F := F) c (k % 6) f))
      ∗ bigSep (Finset.Ico 8 14) fun k => atPos ER (dcell c (wq k)) (k / 6) ∅ 0) := by
    rw [← bigSep_pair]
    refine bigSep_mono fun k _ => (show wReady (F := F) c k ⊢ _ from ?_)
    unfold wReady
    iintro ⟨H1, H2, -⟩
    isplitl [H1]; · iexact H1
    iexact H2
  have eb : (bigSep (Finset.Ico 8 14) fun k => iprop(∃ f, wbPt (F := F) c (k % 6) f)) = bigSep (Finset.Ico 0 6) fun k => iprop(∃ f, wbPt (F := F) c k f) :=
    slots_again fun k => iprop(∃ f, wbPt (F := F) c k f)
  have ez : (bigSep (Finset.Ico 8 14) fun k => semVal (dcell c (wq k)) 0 : sProp 𝕄) = bigSep (Finset.Ico 0 6) fun k => semVal (dcell c (wq k)) 0 := by
    rw [← slots_again fun k => semVal (dcell c (wq k)) 0]
    exact bigSep_congr fun k _ => congrArg (fun q => semVal (dcell c q) 0) (congrArg wS (Fin.ext (Nat.mod_mod k 6).symm))
  rw [ez] at hc
  rw [eb] at e
  unfold WS
  rw [w_blocks, Finset.range_eq_Ico]
  iintro ⟨#Hk, -, H1, -, H2⟩
  ihave H1 := e $$ H1
  icases H1 with ⟨H1, H3⟩
  imod hc $$ [H3] with H3
  · isplitr; · iexact Hk
    iexact H3
  imodintro
  isplitl [H1]; · iapply (slots_whole m c); iexact H1
  isplitl [H2]; · iexact H2
  iexact H3

theorem finish (c : Dev nD) : AsndSt m ρ c 32 (WS m c 8 8) (afterOut m ρ c) ⊢ iprop(|={Set.univ}=> Finish m ρ c) := by
  have hs := close_first m ρ c (q := sq) (o := so) sq_ge (fun d => role_snd _) (fun r => (idle_duties c r).1) fun d r h => (late_duties c r h (dv d)).1
  have ha := close_first m ρ c (q := asq) (o := aso) asq_ge (fun d => role_asnd _) (fun r => (idle_duties c r).2.1) fun d r h => (late_duties c r h (dv d)).2.2.1
  have hr := close_list m ρ c (S := Finset.Ico 0 32) (q := rq) (o := ro) rq_ge (fun d => role_rcv _) (R := fun _ => 1) fun d _ r h => (late_duties c r h (dv d)).2.1
  have hv := close_list m ρ c (S := Finset.Ico 1 32) (q := arq c) (o := aro c) (fun d => arcvS_ge _) (fun d => role_arcv _) (R := fun _ => 1) fun d _ r h => (late_duties c r h _).2.2.2
  have hv0 := close_q m ρ c (arcvS c) (arcvS_ge c) (role_arcv c) (R := 0) fun r _ => (idle_duties c r).2.2
  have ev : (bigSep (Finset.Ico 0 32) fun d => semVal (dcell c (arcvS (dv d))) 0 : sProp 𝕄)
      = iprop(semVal (dcell c (arcvS c)) 0 ∗ bigSep (Finset.Ico 1 32) fun d => semVal (dcell c (arq c d)) 0) :=
    (ring_index fun s => semVal (dcell c (arcvS s)) 0).trans (ring_split c fun s => semVal (dcell c (arcvS s)) 0)
  unfold AsndSt St afterOut idle Finish endMem endSem
  rw [ev, wtPost_pair, wtPost_pair, wtPost_pair]
  iintro ⟨#Hk, HO, HW, HX, ⟨Hs, Ps⟩, Hout, Ham, ⟨Hv, Pv⟩, ⟨Hr, Pr⟩, Pb, Hin, Ps0, Pa0, Pv0⟩
  ihave HX := (prg_end 1 32 (wtPre c asq NA) (wtPost m ρ c asq aso)) $$ HX
  ihave HX := (Entails.of_eq (wtPost_pair m ρ c _ asq aso)) $$ HX
  icases HX with ⟨Ha, Pa⟩
  imod (ring_end m ρ c) $$ [HW] with ⟨Hwb, Hw, Zw⟩
  · isplitr; · iexact Hk
    iexact HW
  imod (close_bar m ρ c) $$ [Pb] with Zb
  · isplitr; · iexact Hk
    iexact Pb
  imod hs $$ [Ps0 Ps] with Zs
  · isplitr; · iexact Hk
    isplitl [Ps0]; · iexact Ps0
    iexact Ps
  imod ha $$ [Pa0 Pa] with Za
  · isplitr; · iexact Hk
    isplitl [Pa0]; · iexact Pa0
    iexact Pa
  imod hr $$ [Pr] with Zr
  · isplitr; · iexact Hk
    iexact Pr
  imod hv $$ [Pv] with Zv
  · isplitr; · iexact Hk
    iexact Pv
  imod hv0 $$ [Pv0] with Zv0
  · isplitr; · iexact Hk
    iexact Pv0
  imodintro
  ihave Hr := (gathered m ρ c) $$ Hr
  icases Hr with ⟨Hxg, Hxb⟩
  isplitl [HO]; · iexact HO
  isplitl [Hin Hout Hxb Hs Hxg Ham Ha Hv Hwb Hw]
  · isplitl [Hin]; · iexact Hin
    isplitl [Hout]; · iexact Hout
    isplitl [Hxb Hs]
    · iexists _
      iapply (Entails.of_eq (narrowed m ρ c))
      isplitl [Hxb]; · iexact Hxb
      iexact Hs
    isplitl [Hxg]; · iexists _; iexact Hxg
    isplitl [Ham Ha Hv]
    · iexists _
      iapply (maxima m ρ c)
      isplitl [Ham]; · iexact Ham
      isplitl [Ha]; · iexact Ha
      iexact Hv
    isplitl [Hwb]; · iexact Hwb
    iexact Hw
  isplitl [Zb]; · iexact Zb
  isplitl [Zs]; · iexact Zs
  isplitl [Zr]; · iexact Zr
  isplitl [Za]; · iexact Za
  isplitl [Zv Zv0]
  · isplitl [Zv0]; · iexact Zv0
    iexact Zv
  iexact Zw

/-! ## The whole body -/

theorem step_ret_upd {c : Dev nD} {P : sProp 𝕄} {α : Type} {v : α} {Q : α → sProp 𝕄} (h : P ⊢ iprop(|={Set.univ}=> Q v)) : P ⊢ WP (F := F) c (.ret v) Q := by
  rw [WP, wp_ret]; exact h

/-- Every part but the last wait. -/
theorem parts {c : Dev nD} {Q : Dev nD → sProp 𝕄} (h : AsndSt m ρ c 31 (WS m c 8 8) (afterOut m ρ c) ⊢ Q c) :
    SigSt m ρ c 1 (WS m c 0 0) (forMeet m ρ c) ⊢ WP c (at_ (k0_part60 (F := F))) Q := by
  rw [k0_part60_eq_skeleton]
  unfold k0_part60_skel forMeet
  refine step_bind (part1 m ρ fun v2 v w => ?_)
  refine step_bind (part2 m ρ _ _ _ fun v => ?_)
  refine step_bind (part3 m ρ _ _ _ fun v => ?_)
  refine step_bind (part4 m ρ _ _ _ fun v => ?_)
  refine step_bind (part5 m ρ _ _ _ fun v => ?_)
  refine step_bind (part6 m ρ _ _ _ ?_)
  refine step_bind (part7 m ρ _ fun v => ?_)
  refine step_bind (part8 m ρ _ _ fun v => ?_)
  refine step_bind (part9 m ρ _ _ ?_)
  refine step_bind (part10 m ρ _ fun v => ?_)
  refine step_bind (part11 m ρ _ _ _ fun v => ?_)
  refine step_bind (part12 m ρ _ _ ?_)
  refine step_bind (part13 m ρ _ ?_)
  refine step_bind (part14 m ρ _ fun v => ?_)
  refine step_bind (part15 m ρ _ _ _ fun v => ?_)
  refine step_bind (part16 m ρ _ _ ?_)
  refine step_bind (part17 m ρ _ ?_)
  refine step_bind (part18 m ρ _ ?_)
  refine (to_arrivals m ρ c).trans ?_
  refine step_bind (part19 m ρ ?_)
  refine step_bind (part20 m ρ ?_)
  refine step_bind (part21 m ρ _ ?_)
  refine step_bind (part22 m ρ ?_)
  refine step_bind (part23 m ρ _ ?_)
  refine step_bind (part24 m ρ ?_)
  refine step_bind (part25 m ρ _ ?_)
  refine step_bind (part26 m ρ _ ?_)
  refine step_bind (part27 m ρ ?_)
  refine step_bind (part28 m ρ _ ?_)
  refine step_bind (part29 m ρ _ fun v => ?_)
  refine step_bind (part30 m ρ _ ?_)
  refine step_bind (part31 m ρ _ fun v => ?_)
  refine step_bind (part32 m ρ _ _ ?_)
  refine step_bind (part33 m ρ _ ?_)
  refine step_bind (part34 m ρ _ fun v => ?_)
  refine step_bind (part35 m ρ _ _ ?_)
  refine step_bind (part36 m ρ _ ?_)
  refine step_bind (part37 m ρ _ fun v => ?_)
  refine step_bind (part38 m ρ _ _ ?_)
  refine step_bind (part39 m ρ _ ?_)
  refine step_bind (part40 m ρ _ _ fun v => ?_)
  refine (to_rows m ρ c).trans ?_
  refine step_bind (part41 m ρ _ _ fun v => ?_)
  refine step_bind (part42 m ρ _ _ ?_)
  refine step_bind (part43 m ρ _ fun v => ?_)
  refine step_bind (part44 m ρ _ _ fun v => ?_)
  refine step_bind (part45 m ρ _ _ ?_)
  refine step_bind (part46 m ρ _ fun v => ?_)
  refine step_bind (part47 m ρ _ _ fun v => ?_)
  refine step_bind (part48 m ρ _ _ ?_)
  refine step_bind (part49 m ρ _ fun v => ?_)
  refine step_bind (part50 m ρ _ ?_)
  refine step_bind (part51 m ρ ?_)
  refine step_bind (part52 m ρ ?_)
  refine step_bind (part53 m ρ ?_)
  refine step_bind (part54 m ρ ?_)
  refine step_bind (part55 m ρ ?_ (to_last m ρ c))
  refine step_bind (part56 m ρ ?_)
  refine step_bind (part57 m ρ ?_)
  refine step_bind (part58 m ρ ?_)
  refine step_bind (part59 m ρ ?_)
  exact step_ret h

/-- One device's run of the body. -/
theorem body (c : Dev nD) : Start m ρ c ⊢ WP c (at_ (cc0_body (F := F))) fun _ => Finish m ρ c := by
  refine (deal m ρ c).trans ?_
  rw [cc0_body_eq_skeleton]
  unfold cc0_body_skel
  refine step_bind (parts m ρ ?_)
  simp only [Prog.lift, Prog.bind_op, Prog.bind_ret, Prog.pure_eq_ret]
  exact step_asnd m ρ rfl <| step_ret_upd (finish m ρ c)

end Cert.KProof
-- ==== Proof.Deal.lean ====
/-
# What the launch deals out

All cells of a device, family by family; the tokens of every cell passed to the device that will hand them in; and what
each device is owed at the start.
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, family by family -/

/-- A list of `a + b` things is one of `a` and one of `b`. -/
theorem bigSep_range_add (a b : ℕ) (Φ : ℕ → sProp 𝕄) :
    bigSep (Finset.range (a + b)) Φ = iprop(bigSep (Finset.range a) Φ ∗ bigSep (Finset.range b) fun i => Φ (a + i)) := by
  have e : Finset.range (a + b) = Finset.range a ∪ (Finset.range b).map (addLeftEmbedding a) := by
    ext x
    rw [Finset.mem_union, Finset.mem_map, Finset.mem_range, Finset.mem_range]
    constructor
    · intro h
      by_cases hx : x < a
      · exact .inl hx
      · exact .inr ⟨x - a, Finset.mem_range.mpr (by omega), show a + (x - a) = x by omega⟩
    · rintro (h | ⟨y, hy, rfl⟩)
      · omega
      · have := Finset.mem_range.mp hy
        show a + y < a + b
        omega
  have d : Disjoint (Finset.range a) ((Finset.range b).map (addLeftEmbedding a)) := by
    rw [Finset.disjoint_left]
    intro x hx hy
    obtain ⟨y, -, rfl⟩ := Finset.mem_map.mp hy
    have := Finset.mem_range.mp hx
    change a + y < a at this
    omega
  rw [e, bigSep_union d, bigSep_map]; rfl

/-- One thing per DMA semaphore past the staging ones. -/
theorem dma_split (Ψ : DmaSem sig → sProp 𝕄) :
    (bigSep Finset.univ fun k : Fin 134 => Ψ (dmaS (k.val + 2) (by omega)))
      = iprop((bigSep (Finset.Ico 0 32) fun d => Ψ (sq d)) ∗ (bigSep (Finset.Ico 0 32) fun d => Ψ (rq d)) ∗ (bigSep (Finset.Ico 0 32) fun d => Ψ (asq d))
          ∗ (bigSep (Finset.Ico 0 32) fun d => Ψ (arcvS (dv d))) ∗ bigSep (Finset.Ico 0 6) fun k => Ψ (wq k)) := by
  have e : (bigSep Finset.univ fun k : Fin 134 => Ψ (dmaS (k.val + 2) (by omega)))
      = bigSep (Finset.range 134) fun k => if h : k + 2 < 136 then Ψ (dmaS (k + 2) h) else iprop(emp) := by
    rw [← bigSep_fin_range 134]
    exact bigSep_congr fun k _ => by rw [dif_pos (show k.val + 2 < 136 by omega)]
  have part (n o : ℕ) (q : ℕ → DmaSem sig) (hq : ∀ i < n, (q i).val = o + i + 2) (ho : o + n ≤ 134) :
      (bigSep (Finset.range n) fun i => if h : o + i + 2 < 136 then Ψ (dmaS (o + i + 2) h) else iprop(emp)) = bigSep (Finset.Ico 0 n) fun i => Ψ (q i) := by
    rw [Finset.range_eq_Ico]
    refine bigSep_congr fun i hi => ?_
    have hi := (Finset.mem_Ico.mp hi).2
    rw [dif_pos (show o + i + 2 < 136 by omega)]
    exact congrArg Ψ (Fin.ext (hq i hi).symm)
  rw [e, show 134 = 32 + (32 + (32 + (32 + 6))) from rfl, bigSep_range_add, bigSep_range_add, bigSep_range_add, bigSep_range_add]
  have h0 := part 32 0 sq (fun i hi => by show 2 + (dv i).val = _; rw [dv_val hi]; omega) (by decide)
  have h1 := part 32 32 rq (fun i hi => by show 34 + (dv i).val = _; rw [dv_val hi]; omega) (by decide)
  have h2 := part 32 64 asq (fun i hi => by show 66 + (dv i).val = _; rw [dv_val hi]; omega) (by decide)
  have h3 := part 32 96 (fun d => arcvS (dv d)) (fun i hi => by show 98 + (dv i).val = _; rw [dv_val hi]; omega) (by decide)
  have h4 := part 6 128 wq (fun i hi => by show 130 + i % 6 = _; rw [Nat.mod_eq_of_lt hi]; omega) (by decide)
  rw [← h0, ← h1, ← h2, ← h3, ← h4]
  simp only [Nat.zero_add, ← Nat.add_assoc, Nat.reduceAdd]

/-- One thing per semaphore of the kernel. -/
theorem cells_split (Φ : SemLoc sig → sProp 𝕄) :
    (bigSep Finset.univ fun i : Fin 135 => Φ (csem i))
      = iprop(Φ (.reg barS) ∗ (bigSep (Finset.Ico 0 32) fun d => Φ (.dma (sq d))) ∗ (bigSep (Finset.Ico 0 32) fun d => Φ (.dma (rq d)))
          ∗ (bigSep (Finset.Ico 0 32) fun d => Φ (.dma (asq d))) ∗ (bigSep (Finset.Ico 0 32) fun d => Φ (.dma (arcvS (dv d))))
          ∗ bigSep (Finset.Ico 0 6) fun k => Φ (.dma (wq k))) := by
  rw [← dma_split fun q => Φ (.dma q)]
  have e : (bigSep Finset.univ fun i : Fin 135 => Φ (csem i)) = bigSep (Finset.range (1 + 134)) fun i => if h : i < 135 then Φ (csem ⟨i, h⟩) else iprop(emp) := by
    rw [← bigSep_fin_range 135]
    exact bigSep_congr fun i _ => by rw [dif_pos i.isLt]
  rw [e, bigSep_range_add, Finset.range_one, bigSep_singleton, ← bigSep_fin_range 134]
  refine congrArg₂ _ rfl (bigSep_congr fun k _ => ?_)
  rw [dif_pos (show 1 + k.val < 135 by omega)]
  refine congrArg Φ ?_
  unfold csem
  rw [dif_neg (show ¬ 1 + k.val = 0 by omega)]
  exact congrArg SemLoc.dma (Fin.ext (show 1 + k.val + 1 = k.val + 2 by omega))

/-! ## The tokens -/

/-- Each device's family read by its other index. -/
theorem turn_others (Φ : Dev nD → Dev nD → sProp 𝕄) :
    (bigSep Finset.univ fun c => bigSep (Finset.Ico 1 32) fun d => Φ c (tgt c d))
      = bigSep Finset.univ fun c => bigSep (Finset.Ico 1 32) fun d => Φ (tgt c d) c := by
  rw [← bigSep_congr (s := Finset.univ) fun c _ => ring_others c (Φ c), bigSep_erase_comm]
  exact bigSep_congr fun c _ => ring_others c fun s => Φ s c

/-- The tokens of a device's own cells. -/
def ownTok (c : Dev nD) : sProp 𝕄 :=
  iprop((bigSep (Finset.Ico 1 32) fun d => dutyTok ER (barCell c) 0 (tgt c d))
    ∗ (bigSep (Finset.Ico 1 32) fun d => dutyTok ER (dcell c (sq d)) 0 0)
    ∗ (dutyTok ER (dcell c (rcvS c)) 0 0 ∗ bigSep (Finset.Ico 1 32) fun d => dutyTok ER (dcell c (rcvS (tgt c d))) 0 0)
    ∗ (bigSep (Finset.Ico 1 32) fun d => dutyTok ER (dcell c (asq d)) 0 0)
    ∗ (bigSep (Finset.Ico 1 32) fun d => dutyTok ER (dcell c (arcvS (tgt c d))) 0 0)
    ∗ bigSep (Finset.Ico 0 8) fun k => dutyTok ER (dcell c (wq k)) (k / 6) 0)

/-- The tokens passed round: each to the device that hands it in. -/
theorem toks_around : (bigSep Finset.univ fun c : Dev nD => (ownTok c : sProp 𝕄)) ⊢ bigSep Finset.univ fun c : Dev nD => startTok c := by
  have es (c : Dev nD) : bigSep (Finset.Ico 1 32) (sendTok (F := F) c)
      = iprop((bigSep (Finset.Ico 1 32) fun d => dutyTok ER (dcell c (sq d)) 0 0) ∗ bigSep (Finset.Ico 1 32) fun d => dutyTok ER (dcell (tgt c d) (rcvS c)) 0 0) := by
    rw [← bigSep_pair]; rfl
  have ea (c : Dev nD) : bigSep (Finset.Ico 1 32) (asendTok (F := F) c)
      = iprop((bigSep (Finset.Ico 1 32) fun d => dutyTok ER (dcell c (asq d)) 0 0) ∗ bigSep (Finset.Ico 1 32) fun d => dutyTok ER (dcell (tgt c d) (arcvS c)) 0 0) := by
    rw [← bigSep_pair]; rfl
  unfold ownTok startTok
  simp only [es, ea]
  simp only [bigSep_pair]
  rw [turn_others fun c s => dutyTok ER (barCell c) 0 s, turn_others fun c s => dutyTok ER (dcell c (rcvS s)) 0 0,
    turn_others fun c s => dutyTok ER (dcell c (arcvS s)) 0 0]
  iintro ⟨H1, H2, ⟨H3, H4⟩, H5, H6, H7⟩
  isplitl [H3]; · iexact H3
  isplitl [H1]; · iexact H1
  isplitl [H2 H4]
  · isplitl [H2] <;> iassumption
  isplitl [H5 H6]
  · isplitl [H5] <;> iassumption
  iexact H7

/-- The tokens minted for one cell: for the first two rounds, one per device. -/
def cellTok (g : GSem nD τ sig) : sProp 𝕄 := bigSep Finset.univ fun x : Fin 2 × Dev nD => dutyTok ER g x.1.val x.2

theorem tok_one (g : GSem nD τ sig) (x : Fin 2 × Dev nD) : (cellTok g : sProp 𝕄) ⊢ dutyTok ER g x.1.val x.2 :=
  bigSep_elim (Φ := fun x : Fin 2 × Dev nD => dutyTok ER g x.1.val x.2) (Finset.mem_univ x)
theorem tok_round (g : GSem nD τ sig) (c : Dev nD) : (cellTok g : sProp 𝕄) ⊢ bigSep (Finset.Ico 1 32) fun d => dutyTok ER g 0 (tgt c d) := by
  unfold cellTok
  rw [bigSep_univ_prod, bigSep_W0, ring_split c]
  iintro ⟨⟨-, H⟩, -⟩; iexact H
theorem tok_two (g : GSem nD τ sig) : (cellTok g : sProp 𝕄) ⊢ iprop(dutyTok ER g 0 0 ∗ dutyTok ER g 1 0) := by
  unfold cellTok
  rw [bigSep_univ_prod, bigSep_W0]
  have h (r : ℕ) : (bigSep Finset.univ fun s : Dev nD => dutyTok ER g r s : sProp 𝕄) ⊢ dutyTok ER g r 0 :=
    bigSep_elim (Φ := fun s : Dev nD => dutyTok ER g r s) (Finset.mem_univ _)
  iintro ⟨H0, H1⟩
  isplitl [H0]
  · iapply (h 0); iexact H0
  · iapply (h 1); iexact H1

/-- Of the minted tokens, those that will be handed in. -/
theorem tok_keep (c : Dev nD) : (bigSep Finset.univ fun i : Fin 135 => (cellTok ((c : Thread nD τ), csem i) : sProp 𝕄)) ⊢ ownTok c := by
  rw [cells_split fun sm => cellTok ((c : Thread nD τ), sm), ring_index fun s => cellTok (dcell c (rcvS s)), ring_split c fun s => cellTok (dcell c (rcvS s)),
    ring_index fun s => cellTok (dcell c (arcvS s)), ring_split c fun s => cellTok (dcell c (arcvS s)),
    bigSep_ico_first (a := 0) (n := 32) (by decide) fun d => cellTok (dcell c (sq d)), bigSep_ico_first (a := 0) (n := 32) (by decide) fun d => cellTok (dcell c (asq d))]
  have one (S : Finset ℕ) (q : ℕ → DmaSem sig) : (bigSep S fun d => (cellTok (dcell c (q d)) : sProp 𝕄)) ⊢ bigSep S fun d => dutyTok ER (dcell c (q d)) 0 0 :=
    bigSep_mono fun d _ => tok_one _ (0, 0)
  have w : (bigSep (Finset.Ico 0 6) fun k => (cellTok (dcell c (wq k)) : sProp 𝕄)) ⊢ bigSep (Finset.Ico 0 8) fun k => dutyTok ER (dcell c (wq k)) (k / 6) 0 := by
    refine (show _ ⊢ bigSep (Finset.Ico 0 6) fun k => iprop(dutyTok ER (dcell c (wq k)) 0 0 ∗ dutyTok ER (dcell c (wq k)) 1 0) from bigSep_mono fun k _ => tok_two _).trans ?_
    rw [bigSep_pair]
    iintro ⟨H0, H1⟩
    have hs : (bigSep (Finset.Ico 0 6) fun k => (dutyTok ER (dcell c (wq k)) 1 0 : sProp 𝕄)) ⊢ bigSep (Finset.Ico 0 2) fun k => dutyTok ER (dcell c (wq k)) 1 0 :=
      bigSep_subset (by decide)
    have e : (bigSep (Finset.Ico 0 8) fun k => (dutyTok ER (dcell c (wq k)) (k / 6) 0 : sProp 𝕄))
        = iprop((bigSep (Finset.Ico 0 6) fun k => dutyTok ER (dcell c (wq k)) 0 0) ∗ bigSep (Finset.Ico 0 2) fun k => dutyTok ER (dcell c (wq k)) 1 0) := by
      rw [← Finset.range_eq_Ico, ← Finset.range_eq_Ico, ← Finset.range_eq_Ico, show 8 = 6 + 2 from rfl, bigSep_range_add]
      refine congrArg₂ _ (bigSep_congr fun k hk => ?_) (bigSep_congr fun k hk => ?_)
      · rw [Nat.div_eq_of_lt (Finset.mem_range.mp hk)]
      · have h2 := Finset.mem_range.mp hk
        rw [show (6 + k) / 6 = 1 by omega, show wq (6 + k) = wq k from congrArg wS (Fin.ext (show (6 + k) % 6 = k % 6 by omega))]
    rw [e]
    isplitl [H0]; · iexact H0
    iapply hs; iexact H1
  unfold ownTok
  iintro ⟨Hb, ⟨-, Hs⟩, ⟨Hr0, Hr⟩, ⟨-, Ha⟩, ⟨-, Hv⟩, Hw⟩
  isplitl [Hb]; · iapply (tok_round (F := F) (barCell c) c); iexact Hb
  isplitl [Hs]; · iapply (one _ sq); iexact Hs
  isplitl [Hr0 Hr]
  · isplitl [Hr0]; · iapply (tok_one (F := F) (dcell c (rcvS c)) (0, 0)); iexact Hr0
    iapply (one _ fun d => rcvS (tgt c d)); iexact Hr
  isplitl [Ha]; · iapply (one _ asq); iexact Ha
  isplitl [Hv]; · iapply (one _ fun d => arcvS (tgt c d)); iexact Hv
  iapply w; iexact Hw

/-! ## The credits -/

/-- What a device owes at the start. -/
abbrev O₀ (c : Dev nD) : CellTallies nD τ sig Unit := owed c 1 1 1

/-- Three kinds of cells, told apart by their semaphores. -/
theorem bar_eq {a b : Dev nD} (h : barCell a = barCell b) : a = b := congrArg (fun g : GSem nD τ sig => g.1.1) h
theorem dcell_eq {a b : Dev nD} {q q' : DmaSem sig} (h : dcell a q = dcell b q') : a = b ∧ q = q' :=
  ⟨congrArg (fun g : GSem nD τ sig => g.1.1) h, by have := congrArg Prod.snd h; exact SemLoc.dma.inj this⟩
theorem rcvS_inj {s t : Dev nD} (h : rcvS s = rcvS t) : s = t := Fin.ext (by have := congrArg Fin.val h; change 34 + s.val = 34 + t.val at this; omega)
theorem arcvS_inj {s t : Dev nD} (h : arcvS s = arcvS t) : s = t := Fin.ext (by have := congrArg Fin.val h; change 98 + s.val = 98 + t.val at this; omega)
theorem rcvS_ne_arcvS (s t : Dev nD) : rcvS s ≠ arcvS t := fun h => by
  have := congrArg Fin.val h; change 34 + s.val = 98 + t.val at this; have := dev_lt s; omega

/-- A sum of tallies, read at a cell. -/
theorem sum_tally (S : Finset ℕ) (k : ℕ → GSem nD τ sig) (n : ℕ) (g : GSem nD τ sig) :
    (∑ d ∈ S, tallyAt (k d) () n : CellTallies nD τ sig Unit) g () = ∑ d ∈ S, if g = k d then n else 0 := by
  classical
  induction S using Finset.induction_on with
  | empty => rfl
  | insert a s ha ih =>
    rw [Finset.sum_insert ha, Finset.sum_insert ha, Pi.add_apply, Finsupp.add_apply, tallyAt_apply, ih]
    simp only [and_true]

theorem sum_off {S : Finset ℕ} {k : ℕ → GSem nD τ sig} {n : ℕ} {g : GSem nD τ sig} (h : ∀ d, g ≠ k d) : (∑ d ∈ S, if g = k d then n else 0) = 0 :=
  Finset.sum_eq_zero fun d _ => if_neg (h d)
theorem reg_ne_dma {s : Sem sig} {q : DmaSem sig} : (SemLoc.reg s : SemLoc sig) ≠ .dma q := fun h => by cases h
theorem bar_ne_dcell (a b : Dev nD) (q : DmaSem sig) : barCell a ≠ dcell b q := fun h => reg_ne_dma (congrArg Prod.snd h)

theorem owed_at (c : Dev nD) (g : GSem nD τ sig) : O₀ c g () = (∑ d ∈ Finset.Ico 1 32, if g = dcell (tgt c d) (arcvS c) then NA else 0)
    + (∑ d ∈ Finset.Ico 1 32, if g = dcell (tgt c d) (rcvS c) then NX else 0) + ∑ d ∈ Finset.Ico 1 32, if g = barCell (tgt c d) then 1 else 0 := by
  unfold O₀ owed
  rw [Pi.add_apply, Finsupp.add_apply, Pi.add_apply, Finsupp.add_apply, sum_tally, sum_tally, sum_tally]

/-- Of the other devices, one is a given other device. -/
theorem meet_one (p c : Dev nD) (n : ℕ) : (∑ d ∈ Finset.Ico 1 32, if tgt p d = c then n else 0) = if p = c then 0 else n := by
  by_cases h : p = c
  · rw [if_pos h]
    refine Finset.sum_eq_zero fun d hd => if_neg ?_
    have := Finset.mem_Ico.mp hd
    subst h
    exact tgt_ne p this.1 this.2
  · rw [if_neg h, Finset.sum_eq_single (dist p c)]
    · rw [if_pos (tgt_dist p c)]
    · intro d hd hne
      exact if_neg fun e => hne (tgt_inj p (Finset.mem_Ico.mp hd).2 (dist_lt p c) (e.trans (tgt_dist p c).symm))
    · intro hd
      refine absurd (Finset.mem_Ico.mpr ⟨?_, dist_lt p c⟩) hd
      rcases Nat.eq_zero_or_pos (dist p c) with h0 | h0
      · have := tgt_dist p c
        rw [h0, tgt_zero] at this
        exact absurd this h
      · exact h0

/-- What one device pays into a cell kept for another's arrivals. -/
theorem paid_one {q : Dev nD → DmaSem sig} (hq : ∀ s t, q s = q t → s = t) (p c s : Dev nD) (hs : s ≠ c) (n : ℕ) :
    (∑ d ∈ Finset.Ico 1 32, if dcell c (q s) = dcell (tgt p d) (q p) then n else 0) = if p = s then n else 0 := by
  by_cases hp : p = s
  · subst hp
    rw [if_pos rfl]
    refine Eq.trans ?_ ((meet_one p c n).trans (if_neg hs))
    exact Finset.sum_congr rfl fun d _ => if_congr ⟨fun h => (dcell_eq h).1.symm, fun h => by rw [h]⟩ rfl rfl
  · rw [if_neg hp]
    exact sum_off fun d h => hp (hq _ _ (dcell_eq h).2).symm

theorem owed_bar_at (p c : Dev nD) : O₀ p (barCell c) () = if p = c then 0 else 1 := by
  rw [owed_at, sum_off (k := fun d => dcell (tgt p d) (arcvS p)) fun d => bar_ne_dcell _ _ _,
    sum_off (k := fun d => dcell (tgt p d) (rcvS p)) fun d => bar_ne_dcell _ _ _, Nat.add_zero, Nat.zero_add]
  refine Eq.trans ?_ (meet_one p c 1)
  exact Finset.sum_congr rfl fun d _ => if_congr ⟨fun h => (bar_eq h).symm, fun h => by rw [h]⟩ rfl rfl
theorem owed_rcv_at (p c s : Dev nD) (hs : s ≠ c) : O₀ p (dcell c (rcvS s)) () = if p = s then NX else 0 :=
  (owed_at p _).trans <| by
    refine (congrArg₂ (· + ·) (congrArg₂ (· + ·) (sum_off (k := fun d => dcell (tgt p d) (arcvS p)) fun d h => rcvS_ne_arcvS s p (dcell_eq h).2)
      (paid_one (fun _ _ => rcvS_inj) p c s hs NX)) (sum_off (k := fun d => barCell (tgt p d)) fun d h => bar_ne_dcell _ _ _ h.symm)).trans ?_
    exact (Nat.add_zero _).trans (Nat.zero_add _)
theorem owed_arcv_at (p c s : Dev nD) (hs : s ≠ c) : O₀ p (dcell c (arcvS s)) () = if p = s then NA else 0 :=
  (owed_at p _).trans <| by
    refine (congrArg₂ (· + ·) (congrArg₂ (· + ·) (paid_one (fun _ _ => arcvS_inj) p c s hs NA)
      (sum_off (k := fun d => dcell (tgt p d) (rcvS p)) fun d h => rcvS_ne_arcvS p s (dcell_eq h).2.symm)) (sum_off (k := fun d => barCell (tgt p d)) fun d h => bar_ne_dcell _ _ _ h.symm)).trans ?_
    exact (Nat.add_zero _).trans (Nat.add_zero _)

/-- The launch's credit on a cell is the sum of what all devices owe it. -/
theorem launch_at (g : GSem nD τ sig) {n : ℕ} (h : ∑ p : Dev nD, O₀ p g () = n) (hg : g.1.2 = .tc) :
    tallyOn g (launchCredit (Pipeline.owing O₀) 0 g) = (tallyAt g () n : CellTallies nD τ sig Unit) := by
  obtain ⟨⟨c, k⟩, sm⟩ := g
  cases hg
  unfold tallyAt
  refine congrArg _ (Finsupp.ext fun u => ?_)
  cases u
  rw [Pipeline.launchCredit_owing, Finsupp.single_eq_same]
  exact h

theorem launch_bar (c : Dev nD) : tallyOn (barCell c) (launchCredit (Pipeline.owing O₀) 0 (barCell c)) = (tallyAt (barCell c) () 31 : CellTallies nD τ sig Unit) := by
  refine launch_at _ ?_ rfl
  rw [Finset.sum_congr rfl fun p _ => owed_bar_at p c]
  revert c; decide
theorem launch_rcv (c s : Dev nD) (hs : s ≠ c) :
    tallyOn (dcell c (rcvS s)) (launchCredit (Pipeline.owing O₀) 0 (dcell c (rcvS s))) = (tallyAt (dcell c (rcvS s)) () NX : CellTallies nD τ sig Unit) := by
  refine launch_at _ ?_ rfl
  rw [Finset.sum_congr rfl fun p _ => owed_rcv_at p c s hs, Finset.sum_ite_eq' Finset.univ s fun _ => NX, if_pos (Finset.mem_univ _)]
theorem launch_arcv (c s : Dev nD) (hs : s ≠ c) :
    tallyOn (dcell c (arcvS s)) (launchCredit (Pipeline.owing O₀) 0 (dcell c (arcvS s))) = (tallyAt (dcell c (arcvS s)) () NA : CellTallies nD τ sig Unit) := by
  refine launch_at _ ?_ rfl
  rw [Finset.sum_congr rfl fun p _ => owed_arcv_at p c s hs, Finset.sum_ite_eq' Finset.univ s fun _ => NA, if_pos (Finset.mem_univ _)]

theorem csem_inj : Function.Injective csem := fun i j h => by
  unfold csem at h
  by_cases hi : i.val = 0
  · by_cases hj : j.val = 0
    · exact Fin.ext (hi.trans hj.symm)
    · rw [dif_pos hi, dif_neg hj] at h; exact absurd h reg_ne_dma
  · by_cases hj : j.val = 0
    · rw [dif_neg hi, dif_pos hj] at h; exact absurd h.symm reg_ne_dma
    · rw [dif_neg hi, dif_neg hj] at h
      have := congrArg Fin.val (SemLoc.dma.inj h)
      change i.val + 1 = j.val + 1 at this
      exact Fin.ext (by omega)

/-- Of the launch's credits, those waited by. -/
theorem creds (c : Dev nD) : (Pipeline.launchCred O₀ c : sProp 𝕄) ⊢ startCred c := by
  have e : (Pipeline.launchCred O₀ c : sProp 𝕄)
      ⊢ bigSep Finset.univ fun i : Fin 135 => cred (tallyOn ((c : Thread nD τ), csem i) (launchCredit (Pipeline.owing O₀) 0 ((c : Thread nD τ), csem i))) := by
    unfold Pipeline.launchCred
    have h := bigSep_map (s := Finset.univ) ⟨csem, csem_inj⟩ (Φ := fun sm => (cred (tallyOn ((c : Thread nD τ), sm) (launchCredit (Pipeline.owing O₀) 0 ((c : Thread nD τ), sm))) : sProp 𝕄))
    refine (bigSep_subset (Finset.subset_univ (Finset.univ.map ⟨csem, csem_inj⟩))).trans (Entails.of_eq (h.trans rfl))
  iintro H
  ihave H := e $$ H
  ihave H := (Entails.of_eq (cells_split fun sm => (cred (tallyOn ((c : Thread nD τ), sm) (launchCredit (Pipeline.owing O₀) 0 ((c : Thread nD τ), sm))) : sProp 𝕄))) $$ H
  icases H with ⟨Hb, -, Hr, -, Hv, -⟩
  ihave Hr := (Entails.of_eq ((ring_index fun s => (cred (tallyOn (dcell c (rcvS s)) (launchCredit (Pipeline.owing O₀) 0 (dcell c (rcvS s)))) : sProp 𝕄)).trans (ring_split c _))) $$ Hr
  ihave Hv := (Entails.of_eq ((ring_index fun s => (cred (tallyOn (dcell c (arcvS s)) (launchCredit (Pipeline.owing O₀) 0 (dcell c (arcvS s)))) : sProp 𝕄)).trans (ring_split c _))) $$ Hv
  icases Hr with ⟨-, Hr⟩
  icases Hv with ⟨-, Hv⟩
  have hr : (bigSep (Finset.Ico 1 32) fun d => (cred (tallyOn (dcell c (rcvS (tgt c d))) (launchCredit (Pipeline.owing O₀) 0 (dcell c (rcvS (tgt c d))))) : sProp 𝕄))
      = bigSep (Finset.Ico 1 32) fun d => cred (tallyAt (dcell c (rcvS (tgt c d))) () NX) :=
    bigSep_congr fun d hd => by rw [launch_rcv c _ (tgt_ne c (Finset.mem_Ico.mp hd).1 (Finset.mem_Ico.mp hd).2)]
  have hv : (bigSep (Finset.Ico 1 32) fun d => (cred (tallyOn (dcell c (arcvS (tgt c d))) (launchCredit (Pipeline.owing O₀) 0 (dcell c (arcvS (tgt c d))))) : sProp 𝕄))
      = bigSep (Finset.Ico 1 32) fun d => cred (tallyAt (dcell c (arcvS (tgt c d))) () NA) :=
    bigSep_congr fun d hd => by rw [launch_arcv c _ (tgt_ne c (Finset.mem_Ico.mp hd).1 (Finset.mem_Ico.mp hd).2)]
  unfold startCred
  isplitl [Hb]; · rw [← launch_bar]; iexact Hb
  isplitl [Hr]; · rw [← hr]; iexact Hr
  rw [← hv]; iexact Hv

end Cert.KProof
-- ==== Proof.Launch.lean ====
/-
# The launch

The kernel's pipeline has one grid point and two windows: the device's block of `x` staged in, the result staged out. This
module gives the pipeline's data, allocates every device's cells in one step, and obtains the run of the whole program.
-/
module

public import proofs.«01_k».proof.Proof.Deal
public import Idealize.ShloMosaic.Lib.Pipeline.FrameBody
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-! ## The pipeline's data -/

/-- What the body needs besides its buffers. -/
def begin' (c : Dev nD) : sProp 𝕄 := iprop(know m ρ ∗ startPos c ∗ startCred c ∗ startTok c ∗ wL c ↦{fullShare} wv m c)
/-- The buffers the kernel uses between its start and its end. -/
def scratch (c : Dev nD) : sProp 𝕄 :=
  iprop((∃ f, xbfL c ↦{fullShare} f) ∗ (∃ f, xgL c ↦{fullShare} f) ∗ (∃ f, amL c ↦{fullShare} f) ∗ (∃ f, wbL c ↦{fullShare} f))
def Φ₀ (c : Dev nD) : sProp 𝕄 := iprop(begin' m ρ c ∗ scratch c)
def Φ₁ (ρ : Dev nD → PrngReg) (c : Dev nD) : sProp 𝕄 := iprop((endSem c ∗ wL c ↦{fullShare} wv m c) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem cfg0_N : cfg0.N = 1 := N_0
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m ρ c ∗ (dats m ρ 0 c).owesAt () t₀.succ ∗ stg c cc0_stg0_0 (xin m ρ c) ∗ stg c cc0_stg1_0 (outAt m ρ c))

theorem before_in (c : Dev nD) (d) : (dats m ρ 0 c).before (0 : Fin 2) t₀ d = xin m ρ c := by
  rw [(dats m ρ 0 c).before_in_eq_fetched 0 rfl (fun _ => rfl) (fun _ _ _ => rfl) (fun t => by rw [fin_N t]; rfl) t₀ d]
  rfl

theorem pre_start (c : Dev nD) : bodyPre m ρ c ⊢ Start m ρ c := by
  unfold bodyPre Φ₀ begin' scratch Start startMem OW Dat.owesAt Pipeline.owesWithin
  rw [show (dats m ρ 0 c).owed t₀.castSucc = owed c 1 1 1 from rfl]
  iintro ⟨⟨⟨Hk, Hp, Hc, Ht, Hw⟩, H1, H2, H3, H4⟩, ⟨%W, -, HO⟩, ⟨%d0, %f0, %hf, Hx⟩, ⟨%d1, %f1, -, Ho⟩⟩
  isplitl [Hk]; · iexact Hk
  isplitl [HO]; · iexists W; iexact HO
  isplitl [Hx Ho H1 H2 H3 H4 Hw]
  · isplitl [Hx]
    · rw [hf.trans (before_in m ρ c d0)]; iexact Hx
    isplitl [Ho]; · iexists f1; iexact Ho
    isplitl [H1]; · iexact H1
    isplitl [H2]; · iexact H2
    isplitl [H3]; · iexact H3
    isplitl [H4]; · iexact H4
    iexact Hw
  isplitl [Hp]; · iexact Hp
  isplitl [Hc]; · iexact Hc
  iexact Ht

theorem finish_post (c : Dev nD) : Finish m ρ c ⊢ bodyPost m ρ c := by
  unfold bodyPost Φ₁ scratch Finish endMem OW Dat.owesAt Pipeline.owesWithin
  rw [show (dats m ρ 0 c).owed t₀.succ = 0 from rfl, owed_done]
  iintro ⟨⟨%W, HO⟩, ⟨Hx, Ho, H1, H2, H3, H4, Hw⟩, Hs⟩
  isplitl [Hs Hw H1 H2 H3 H4]
  · isplitl [Hs Hw]
    · isplitl [Hs] <;> iassumption
    isplitl [H1]; · iexact H1
    isplitl [H2]; · iexact H2
    isplitl [H3] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem run_body (c : Dev nD) : bodyPre m ρ c ⊢ WP c (at_ (cc0_body (F := F))) fun _ => bodyPost m ρ c :=
  (pre_start m ρ c).trans ((body m ρ c).trans (Idealize.SL.Sem.wp_mono _ _ _ fun _ => finish_post m ρ c))

set_option maxRecDepth 40000 in
/-- The library's body obligation on one device. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ (at_ (cc0_body (F := F))) (fun _ => bodyPost m ρ c)
  exact run_body m ρ c

/-! ## What the launch deals -/

/-- The kernel's own semaphores. -/
abbrev osem : Fin 134 → SemLoc sig := fun k => .dma (dmaS (k.val + 2) (by omega))

set_option maxRecDepth 40000 in
theorem ownSemFacts : Pipeline.OwnSemFacts cfg0.spec osem := by decide

theorem share_eq (c : Dev nD) (w : Fin cfg0.W) : (dats m ρ 0 c).share w = fullShare := by unfold Dat.share; split <;> rfl

abbrev kcell (x : Dev nD × Fin 135) : GSem nD τ sig := ((x.1 : Thread nD τ), csem x.2)
theorem kcell_injective : Function.Injective kcell := by
  rintro ⟨c, i⟩ ⟨c', i'⟩ h
  have h1 : c = c' := congrArg (fun g : GSem nD τ sig => g.1.1) h
  have h2 : i = i' := csem_inj (congrArg Prod.snd h)
  rw [h1, h2]

def ringCells : Finset (GSem nD τ sig) := Finset.univ.map ⟨kcell, kcell_injective⟩
/-- The tokens minted: per cell, for the first two rounds, one per device. -/
abbrev tokOf (x : (Dev nD × Fin 135) × (Fin 2 × Dev nD)) : GSem nD τ sig × ℕ × Dev nD := (kcell x.1, x.2.1.val, x.2.2)
theorem tokOf_injective : Function.Injective tokOf := by
  rintro ⟨a, r, s⟩ ⟨a', r', s'⟩ h
  have h1 : a = a' := kcell_injective (congrArg Prod.fst h)
  have h2 : r = r' := Fin.ext (congrArg (fun x : GSem nD τ sig × ℕ × Dev nD => x.2.1) h)
  have h3 : s = s' := congrArg (fun x : GSem nD τ sig × ℕ × Dev nD => x.2.2) h
  rw [h1, h2, h3]
def ringToks : Finset (GSem nD τ sig × ℕ × Dev nD) := Finset.univ.map ⟨tokOf, tokOf_injective⟩

def u₀ : UU := (initOf (Pipeline.cells cfgs cellOf_inj) (Pipeline.launchToks cfgs cellOf_inj), initOf ringCells ringToks)

/-- One thing per cell of a device. -/
def each (c : Dev nD) (Φ : GSem nD τ sig → sProp 𝕄) : sProp 𝕄 := bigSep Finset.univ fun i : Fin 135 => Φ ((c : Thread nD τ), csem i)

theorem each_cells (Φ : GSem nD τ sig → sProp 𝕄) : bigSep ringCells Φ = bigSep Finset.univ fun c : Dev nD => each c Φ := by
  unfold ringCells each; rw [bigSep_map, bigSep_univ_prod]; rfl
theorem each_toks : bigSep ringToks (fun x => (dutyTok ER x.1 x.2.1 x.2.2 : sProp 𝕄)) = bigSep Finset.univ fun c : Dev nD => each c cellTok := by
  unfold ringToks each cellTok; rw [bigSep_map, bigSep_univ_prod, bigSep_univ_prod]; rfl

/-- A device's share of the fresh cells. -/
def G (c : Dev nD) : sProp 𝕄 :=
  iprop(each c (fun g => roundState ER (rd m ρ) g 0) ∗ each c (fun g => atPos ER g 0 ∅ 0) ∗ each c (fun g => reached ER g 0) ∗ each c cellTok)

theorem fund_ring : BI.own (ER (initOf ringCells ringToks)) ⊢ (|==> bigSep Finset.univ (G m ρ) : sProp 𝕄) := by
  iintro HX
  imod (Rounds.fund ER (rd m ρ) ringCells ringToks) $$ HX with ⟨Hst, Hr, Hat, Htok⟩
  imodintro
  ihave Hst' := (Entails.of_eq (each_cells fun g => roundState ER (rd m ρ) g 0)) $$ Hst
  ihave Hat' := (Entails.of_eq (each_cells fun g => atPos ER g 0 ∅ 0)) $$ Hat
  ihave Hr' := (Entails.of_eq (each_cells fun g => reached ER g 0)) $$ Hr
  ihave Htok' := (Entails.of_eq (each_toks (F := F))) $$ Htok
  unfold G; simp only [bigSep_pair]
  isplitl [Hst']; · iexact Hst'
  isplitl [Hat']; · iexact Hat'
  isplitl [Hr']; · iexact Hr'
  iexact Htok'

/-- A device's semaphores, as the launch groups them. -/
theorem ownSems0_eq (c : Dev nD) : (Pipeline.ownSems0 (Ix := Unit) (Name := ℕ) (U := UU) (Lvl := ℕ) (Val := Elt F) (τ := τ) osem c : sProp 𝕄)
    = iprop((bigSep (Finset.Ico 0 32) fun d => semVal (dcell c (sq d)) 0) ∗ (bigSep (Finset.Ico 0 32) fun d => semVal (dcell c (rq d)) 0)
      ∗ (bigSep (Finset.Ico 0 32) fun d => semVal (dcell c (asq d)) 0) ∗ (bigSep (Finset.Ico 0 32) fun d => semVal (dcell c (arcvS (dv d))) 0)
      ∗ bigSep (Finset.Ico 0 6) fun k => semVal (dcell c (wq k)) 0) :=
  dma_split fun q => (semVal (dcell c q) 0 : sProp 𝕄)
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems_end (c : Dev nD) : (endSem c : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq]; unfold endSem; iintro H; iexact H
theorem sems_each (c : Dev nD) :
    iprop(Pipeline.ownSems0 (Ix := Unit) (Name := ℕ) (U := UU) (Lvl := ℕ) (Val := Elt F) (τ := τ) osem c ∗ unscopedSems0 c) ⊢ (each c fun g => semVal g 0 : sProp 𝕄) := by
  unfold each
  rw [ownSems0_eq, unscopedSems0_eq, cells_split fun sm => (semVal ((c : Thread nD τ), sm) 0 : sProp 𝕄)]
  iintro ⟨H1, H2⟩
  isplitl [H2]; · iexact H2
  iexact H1
theorem pos_each (c : Dev nD) : (each c (fun g => atPos ER g 0 ∅ 0) : sProp 𝕄) = startPos c := by
  unfold each startPos
  rw [cells_split fun sm => (atPos ER ((c : Thread nD τ), sm) 0 ∅ 0 : sProp 𝕄)]

/-- Every cell of a device allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(each c (fun g => iprop(∃ κ : ℕ, cellInv ER (rd m ρ) κ g)) ∗ each c (fun g => reached ER g 0) ∗ startPos c ∗ ownTok c) := by
  unfold G
  iintro ⟨Hos, Hus, Hst, Hat, Hr, Htok⟩
  ihave Hv := (sems_each (F := F) c) $$ [Hos Hus]
  · isplitl [Hos] <;> iassumption
  imod (show iprop(each c (fun g => semVal g 0) ∗ each c (fun g => roundState ER (rd m ρ) g 0))
      ⊢ (|={Set.univ}=> each c (fun g => iprop(∃ κ : ℕ, cellInv ER (rd m ρ) κ g)) : sProp 𝕄) from by
        unfold each
        rw [← bigSep_pair]
        exact (bigSep_mono fun k _ => (Rounds.body_intro ER (rd m ρ) ((c : Thread nD τ), csem k)).trans inv_alloc).trans (bigSep_fupd _ _)) $$ [Hv Hst] with Hinv
  · isplitl [Hv] <;> iassumption
  imodintro
  isplitl [Hinv]; · iexact Hinv
  isplitl [Hr]; · iexact Hr
  isplitl [Hat]; · rw [← pos_each]; iexact Hat
  unfold each; iapply (tok_keep (F := F) c); iexact Htok

/-- All cells' invariants. -/
def recs : sProp 𝕄 := bigSep (Finset.univ : Finset (Dev nD × Fin 135)) fun x => inv m ρ ((x.1 : Thread nD τ), csem x.2)
instance recs_persistent : BI.Persistent (recs (F := F) m ρ) := by unfold recs; infer_instance

/-- What the common step makes of it for one device. -/
def G' (c : Dev nD) : sProp 𝕄 := iprop(recs m ρ ∗ startPos c ∗ startTok c)

theorem regroup :
    (bigSep Finset.univ fun c : Dev nD => iprop(each c (fun g => iprop(∃ κ : ℕ, cellInv ER (rd m ρ) κ g)) ∗ each c (fun g => reached ER g 0) ∗ startPos c ∗ ownTok c) : sProp 𝕄)
      ⊢ bigSep Finset.univ (G' m ρ) := by
  have er : recs (F := F) m ρ = iprop((bigSep Finset.univ fun c : Dev nD => each c (fun g => iprop(∃ κ : ℕ, cellInv ER (rd m ρ) κ g)))
      ∗ bigSep Finset.univ fun c : Dev nD => each c (fun g => reached ER g 0)) := by
    unfold recs each inv
    rw [bigSep_pair, bigSep_univ_prod, bigSep_univ_prod]
  have eg : bigSep Finset.univ (G' (F := F) m ρ) = iprop((bigSep Finset.univ fun _ : Dev nD => recs m ρ) ∗ (bigSep Finset.univ fun c : Dev nD => startPos c)
      ∗ bigSep Finset.univ fun c : Dev nD => startTok c) := by
    rw [← bigSep_pair, ← bigSep_pair]; rfl
  rw [bigSep_pair, bigSep_pair, bigSep_pair, eg]
  iintro ⟨HI, HR, Hp, Ht⟩
  ihave Hr := (Entails.of_eq er.symm) $$ [HI HR]
  · isplitl [HI] <;> iassumption
  isplitl [Hr]; · iapply (BI.bigSep_of_persistent Finset.univ (recs (F := F) m ρ)); iexact Hr
  isplitl [Hp]; · iexact Hp
  iapply (toks_around (F := F)); iexact Ht

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## In and out of the pipeline -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begin' m ρ c ∗ emp) := by
  rw [Pipeline.unscopedRestP_none, unscopedRest0_eq]
  unfold G' begin' know recs
  iintro ⟨Hw, Hlev, Hcr, -, Hr, Hp, Ht⟩
  ihave Hc := (creds (F := F) c) $$ Hcr
  imodintro
  isplitl
  · isplitl [Hr Hlev]
    · isplitl [Hr] <;> iassumption
    isplitl [Hp]; · iexact Hp
    isplitl [Hc]; · iexact Hc
    isplitl [Ht]; · iexact Ht
    iexact Hw
  · iempintro

theorem phi0_intro (c : Dev nD) :
    iprop(begin' m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, H⟩
  isplitl [Hs]; · iexact Hs
  iexact H

/-- What the end leaves outside the pipeline: the barrier's counter and the device's copy of `w`. -/
def leave (c : Dev nD) : sProp 𝕄 := iprop(unscopedSems0 c ∗ wL c ↦{fullShare} wv m c)

theorem phi1_exit (c : Dev nD) :
    (dats m ρ 0 c).Φ (Fin.last cfg0.N) ⊢ iprop(leave m c ∗ Pipeline.ownSems0 osem c ∗ Pipeline.scopedRest cfg0.spec c) := by
  rw [show (dats m ρ 0 c).Φ (Fin.last cfg0.N) = Φ₁ m ρ c from rfl, scopedRest0_eq]
  unfold Φ₁ scratch leave
  iintro ⟨⟨Hs, Hw⟩, H⟩
  ihave Hs := (sems_end (F := F) c) $$ Hs
  icases Hs with ⟨H1, H2⟩
  isplitl [H1 Hw]
  · isplitl [H1] <;> iassumption
  isplitl [H2]; · iexact H2
  iexact H

theorem leave_read (c : Dev nD) (s' : Phys nD τ sig (Elt F)) :
    iprop(leave m c ∗ emp ∗ SI s') ⊢ (|={Set.univ}=> iprop(⌜(∀ sm : SemLoc sig, sm.isScoped .tc = false → s'.mem.sem ((c.tc : Thread nD τ), sm) = 0)
      ∧ s'.mem.mem (wL c) = wv m c⌝ ∗ SI s') : sProp 𝕄) := by
  unfold leave
  iintro ⟨⟨Hu, Hw⟩, -, HSI⟩
  ihave %hw := (SI_pointsTo_agree (Ix := Unit) (Name := ℕ) (U := UU) (Lvl := ℕ) (st := s') (ℓ := wL c) (I := Finset.univ) (q := fullShare) (f := wv m c)) $$ [HSI Hw]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hw i (Finset.mem_univ i)⟩
  iexact HSI

/-- The staging transfers' waits. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait_low c _ ?_ 1 1 1
      fin_cases w <;> fin_cases s <;> rfl
    · have h := mayWait_done (F := F) c (SemLoc.dma (((cfgs 0).win w).sem s))
      rw [owed_done] at h
      exact h

/-! ## The run -/

/-- A window's array at the end. -/
def finalA (c : Dev nD) (w : Fin cfg0.W) : Buf (Elt F) ((cfg0.win w).arr.view.loc (c : Thread nD τ)) := (dats m ρ 0 c).arrAt w cfg0.N

/-- Each window's array at the computed contents, and `w` as it was. -/
def QC : PUnit × MemSt nD τ sig (Elt F) → Prop := fun r =>
  ∀ c : Dev nD, (∀ w : Fin cfg0.W, r.2.mem ((cfg0.win w).arr.view.loc (c : Thread nD τ)) = finalA m ρ c w) ∧ r.2.mem (wL c) = wv m c

set_option maxRecDepth 40000 in
/-- From any memory with zero counters every fair execution on the 32 devices ends, with each device's arrays at the computed
    contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := begin' m ρ) (Y := leave m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem (wL c) = wv m c)
    (hY := leave_read m)
    (hQ := fun _ h hs => ⟨fun c => ⟨fun w => (h c).1 w, (h c).2.2.2⟩, sem_eq_zero hs fun c => (h c).2.2.1⟩)

/-- The staged array of `x` is unchanged. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KProof
-- ==== Proof.Frames.lean ====
/-
# The programs run and leave their arguments alone

Read off the run of the whole program. The printed program and its idealization are the same text, so one run, at any
float values, serves both.
-/
module

public import proofs.«01_k».proof.Defs
public import proofs.«01_k».proof.Proof.Launch
public import proofs.«01_k».proof.Proof.Gen.Kernel.Frame

@[expose] public section

noncomputable section

namespace Cert.KProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- What a run leaves of the arguments and the counters. -/
def Quiet (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0

/-- The arguments as they were, every counter at zero. -/
theorem quiet_of (r : PUnit × MemSt nD τ sig (Elt F)) (h : QC m ρ r ∧ r.2.sem = fun _ => 0) : Quiet m r :=
  ⟨fun c => ⟨((h.1 c).1 (0 : Fin 2)).trans (finalA_x m ρ c), (h.1 c).2⟩, h.2⟩

theorem quiet_run : θ_run (defs (F := F)) (onTc (τ := τ) (main (F := F))) ⟨m, fun _ => 0, ρ⟩ (Quiet m) :=
  (θ_run (defs (F := F)) _ _).mono (fun r h => quiet_of m ρ r h) (run_main m ρ)

/-- The idealized kernel is quiescent. -/
theorem quiescent_ideal : Cert.quiescent_KernelIdeal (hKernelIdeal := Cert.KernelIdeal.Gen.facts) := fun m g _ => quiet_run (F := Ideal) m g

/-- The printed program's kernel is the idealized one's. -/
theorem defs₀_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | 0, (t, s) => rfl
theorem defs_same : @Cert.Kernel.defs F _ Cert.Kernel.Gen.facts = @Cert.KernelIdeal.defs F _ Cert.KernelIdeal.Gen.facts :=
  congrArg (Pipeline.defs _) defs₀_same

/-- The printed kernel is quiescent. -/
theorem quiescent_printed : Cert.quiescent_Kernel (hKernel := Cert.Kernel.Gen.facts) := fun m g _ =>
  Eq.mpr (congrArg (fun D => θ_run D (onTc (τ := τ) (main (F := Bits))) ⟨m, fun _ => 0, g⟩ (Quiet (F := Bits) m)) (defs_same (F := Bits))) (quiet_run (F := Bits) m g)

end Cert.KProof
-- ==== Proof.Quantise.lean ====
/-
# The quantiser at one element

Over the extended reals the kernel's quantiser, which multiplies by `448 / a`, and the reference's, which divides by
`a / 448`, give one value wherever the element and the maximum are not negative: at a zero maximum both scale by zero,
at an infinite one both codes are zero, and in between the two scales are inverse reals.
-/
module

public import Idealize.ShloMosaic.PureOps.Ideal

@[expose] public section

noncomputable section

namespace Cert.KValue

open Idealize.ShloMosaic

/-- The word of the largest e4m3 number denotes 448. -/
theorem word_top : Ideal.ofBits .f32 0x43E00000#32 = ((448 : ℝ) : EReal) := by
  have h : ((14680064 : ℝ) * (2 ^ 15 : ℝ)⁻¹) = 448 := by norm_num
  simp [Ideal.ofBits, Ideal.ieee]
  rw [← h]; norm_cast

/-- The word of its opposite denotes -448. -/
theorem word_bot : Ideal.ofBits .f32 0xC3E00000#32 = ((-448 : ℝ) : EReal) := by
  have h : ((14680064 : ℝ) * (2 ^ 15 : ℝ)⁻¹) = 448 := by norm_num
  simp [Ideal.ofBits, Ideal.ieee]
  rw [← h]; norm_cast

/-- The word a maximum starts from denotes minus infinity. -/
theorem word_ninf : Ideal.ofBits .f32 0xFF800000#32 = ⊥ := by
  simp [Ideal.ofBits, Ideal.ieee]

/-- The kernel's quantised value of `y` under the maximum `a`. -/
def quantK (a y : EReal) : EReal :=
  min (y * if 0 < a then Ideal.div ((448 : ℝ) : EReal) a else 0) ((448 : ℝ) : EReal) * Ideal.div a ((448 : ℝ) : EReal)

/-- The reference's. -/
def quantR (a y : EReal) : EReal :=
  min ((448 : ℝ) : EReal) (max ((-448 : ℝ) : EReal) (Ideal.div y (Ideal.div a ((448 : ℝ) : EReal)))) * Ideal.div a ((448 : ℝ) : EReal)

theorem div_top_num (a : EReal) : Ideal.div a ((448 : ℝ) : EReal) = a * (((448 : ℝ)⁻¹ : ℝ) : EReal) := by
  unfold Ideal.div
  rw [if_neg (by norm_num), EReal.coe_inv]

/-- The two quantisers agree. -/
theorem quant_eq (a y : EReal) (ha : 0 ≤ a) (hy : 0 ≤ y) : quantK a y = quantR a y := by
  unfold quantK quantR
  rw [div_top_num]
  rcases ha.eq_or_lt with rfl | hpos
  · simp
  · rw [if_pos hpos]
    induction a using EReal.rec with
    | bot => exact absurd hpos (by simp)
    | top =>
      rw [EReal.top_mul_coe_of_pos (by norm_num)]
      simp [Ideal.div]
    | coe r =>
      have hr : 0 < r := by exact_mod_cast hpos
      rw [← EReal.coe_mul]
      have e : y * Ideal.div ((448 : ℝ) : EReal) (r : EReal) = Ideal.div y ((r * (448 : ℝ)⁻¹ : ℝ) : EReal) := by
        unfold Ideal.div
        rw [if_neg (by exact_mod_cast hr.ne'), if_neg (by exact_mod_cast (by positivity : (r * (448 : ℝ)⁻¹) ≠ 0)),
          ← EReal.coe_inv, ← EReal.coe_inv, ← EReal.coe_mul]
        congr 2
        field_simp
      have h0 : 0 ≤ Ideal.div y ((r * (448 : ℝ)⁻¹ : ℝ) : EReal) := by
        unfold Ideal.div
        rw [if_neg (by exact_mod_cast (by positivity : (r * (448 : ℝ)⁻¹) ≠ 0)), ← EReal.coe_inv]
        exact mul_nonneg hy (by exact_mod_cast (by positivity : (0 : ℝ) ≤ (r * (448 : ℝ)⁻¹)⁻¹))
      rw [e, max_eq_right (le_trans (by exact_mod_cast (by norm_num : (-448 : ℝ) ≤ 0)) h0), min_comm]

end Cert.KValue

end
-- ==== Proof.Blocks.lean ====
/-
# What the buffers hold, as parts of the whole arrays

Over the extended reals. When every device's block of `x` is its block of columns of a whole `X`, and its `w` is a whole
`W`, the rows a device gathers are its rows of `X`, its product is its rows of `X W`, and its row of maxima holds the
greatest of those, or zero.
-/
module

public import proofs.«01_k».proof.Proof.Launch
public import proofs.«01_k».proof.Proof.Quantise
public import Idealize.ShloMosaic.Lib.Pointwise
public import Idealize.ShloMosaic.Lib.Layout

@[expose] public section

noncomputable section

namespace Cert.KValue

open Cert.KernelIdeal Cert.KernelIdeal.Gen Cert.KProof
open Idealize.ShloMosaic Idealize.ShloMosaic.TcCoe Idealize.SL.Sem

open scoped BigOperators

/-- The two spellings of an index by its coordinates. -/
theorem pair_ix {a b : ℕ} (r : Fin a) (c : Fin b) : (Shape.pair r c : (⟨2, ![a, b]⟩ : Shape).Idx) = ix2 r c := by
  funext i
  match i with
  | ⟨0, _⟩ => rfl
  | ⟨1, _⟩ => rfl

/-- Row `r` of device `c`'s block, as a row of the whole. -/
def wholeRow (c : Fin 32) (r : Fin 128) : Fin 4096 := ⟨c.val * 128 + r.val, by have := c.isLt; have := r.isLt; omega⟩

/-- The whole product at a row and a column. -/
def prod (X : (⟨2, ![4096, 4096]⟩ : Shape).Idx → EReal) (W : (⟨2, ![4096, 2048]⟩ : Shape).Idx → EReal) (r : Fin 4096)
    (c : Fin 2048) : EReal :=
  ∑ k : Fin 4096, X (ix2 r k) * W (ix2 k c)

/-- A sum over 4096 terms is the sum of its eight consecutive runs of 512. -/
theorem sum_chunks (f : Fin 4096 → EReal) :
    ∑ k, f k = ∑ i : Fin 8, ∑ j : Fin 512, f ⟨i.val * 512 + j.val, by have := i.isLt; have := j.isLt; omega⟩ := by
  rw [← Fintype.sum_prod_type' (f := fun (i : Fin 8) (j : Fin 512) => f ⟨i.val * 512 + j.val, by have := i.isLt; have := j.isLt; omega⟩)]
  refine (Equiv.sum_comp (finProdFinEquiv (m := 8) (n := 512)) f).symm.trans (Finset.sum_congr rfl fun p _ => congrArg f (Fin.ext ?_))
  show p.2.val + 512 * p.1.val = p.1.val * 512 + p.2.val
  omega

/-! ## The payloads at an index -/

/-- Narrowing changes nothing over the extended reals. -/
theorem pay1_apply (v : Vec Ideal S4096x128 .f32) (i : S4096x128.Idx) : k0_pay1 (F := Ideal) v i = v i := by
  idx_vars i
  pointwise [k0_pay1]

/-- The first chunk's product. -/
theorem pay2_apply (a : Vec Ideal S128x512 .bf16) (b : Vec Ideal S1x512x2048 .f32) (r : Fin 128) (c : Fin 2048) :
    k0_pay2 (F := Ideal) a b (ix2 r c) = ∑ k : Fin 512, (a (ix2 r k) : EReal) * b (ix3 0 k c) := by
  pointwise [k0_pay2]

/-- A later chunk's product, added to the sum so far. -/
theorem pay3_apply (v : FVec Ideal S128x2048 .f32) (a : Vec Ideal S128x512 .bf16) (b : Vec Ideal S1x512x2048 .f32)
    (r : Fin 128) (c : Fin 2048) :
    k0_pay3 (F := Ideal) v a b (ix2 r c) = (v (ix2 r c) : EReal) + ∑ k : Fin 512, (a (ix2 r k) : EReal) * b (ix3 0 k c) := by
  pointwise [k0_pay3]

/-- The later chunks' payloads are one function. -/
theorem pays_same : k0_pay4 (F := Ideal) = k0_pay3 ∧ k0_pay5 (F := Ideal) = k0_pay3 ∧ k0_pay6 (F := Ideal) = k0_pay3
    ∧ k0_pay7 (F := Ideal) = k0_pay3 ∧ k0_pay8 (F := Ideal) = k0_pay3 ∧ k0_pay9 (F := Ideal) = k0_pay3 :=
  ⟨rfl, rfl, rfl, rfl, rfl, rfl⟩

/-- A device's row of maxima: the greatest element of its product, or zero. -/
theorem pay10_apply (v : FVec Ideal S128x2048 .f32) (a : Vec Ideal S128x512 .bf16) (b : Vec Ideal S1x512x2048 .f32) (l : Fin 128) :
    k0_pay10 (F := Ideal) v a b (ix2 0 l)
      = max (Finset.univ.fold max (Ideal.ofBits .f32 0xFF800000#32) fun p : Fin 128 × Fin 2048 => (k0_pay9 (F := Ideal) v a b (ix2 p.1 p.2) : EReal)) 0 := by
  pointwise [k0_pay10]

/-- The greatest element of the maxima buffer. -/
def top (a : Vec Ideal S32x128 .f32) : EReal :=
  Finset.univ.fold max (Ideal.ofBits .f32 0xFF800000#32) fun p : Fin 32 × Fin 128 => (a (ix2 p.1 p.2) : EReal)

/-- The kernel's quantised value. -/
theorem pay12_apply (v : FVec Ideal S128x2048 .f32) (a : Vec Ideal S32x128 .f32) (r : Fin 128) (c : Fin 2048) :
    k0_pay12 (F := Ideal) (k0_pay11 v) a (ix2 r c) = quantK (top a) (max (v (ix2 r c)) 0) := by
  unfold quantK top
  rw [← word_top]
  pointwise [k0_pay12, k0_pay11]

section

variable (m : (ℓ : Loc nD τ sig) → Buf (Elt Ideal) ℓ) (ρ : Dev nD → PrngReg)
variable (X : (⟨2, ![4096, 4096]⟩ : Shape).Idx → EReal) (W : (⟨2, ![4096, 2048]⟩ : Shape).Idx → EReal)

/-- What the launch's memory holds of the whole arrays. -/
def Holds : Prop := ∀ c : Dev nD,
  m ((c.tc : Thread nD τ).loc main_arg0) = Layout.block ⟨2, ![4096, 128]⟩ ⟨2, ![4096, 4096]⟩ 1 32 c X
    ∧ m ((c.tc : Thread nD τ).loc main_arg1) = W

/-- The staged block is the device's argument. -/
theorem xin_eq (c : Dev nD) : xin (F := Ideal) m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

variable {m X W} (H : Holds m X W)
include H

/-- The gathered rows of device `c` are its rows of the whole `X`. -/
theorem xg_apply (c : Dev nD) (r : Fin 128) (k : Fin 4096) :
    xgF (F := Ideal) m ρ c (ix2 r k) = X (ix2 (wholeRow c r) k) := by
  have hc : c.val < 32 := c.isLt
  unfold xgF
  show xbf (F := Ideal) m ρ (tgt 0 (k.val / 128)) _ = _
  unfold xbf
  rw [pay1_apply, xin_eq, (H _).1, Layout.block_apply]
  refine congrArg X ?_
  have hv := Layout.idx_cols_pair (k := 32) (dS := ![4096, 128]) (dT := ![4096, 4096]) (by decide) (tgt 0 (k.val / 128))
    (⟨(c.val * 128 + r.val) % 4096, Nat.mod_lt _ (by decide)⟩ : Fin 4096) (⟨k.val % 128, Nat.mod_lt _ (by decide)⟩ : Fin 128)
  refine hv.trans ?_
  funext a
  match a with
  | ⟨0, _⟩ =>
    apply Fin.ext
    show (c.val * 128 + r.val) % 4096 = c.val * 128 + r.val
    have := r.isLt
    omega
  | ⟨1, _⟩ =>
    apply Fin.ext
    show (tgt 0 (k.val / 128)).val * 128 + k.val % 128 = k.val
    rw [tgt_val]
    show (0 + k.val / 128) % 32 * 128 + k.val % 128 = k.val
    have := k.isLt
    omega

/-- One chunk's products, as terms of the whole product's sum. -/
theorem chunk_sum (c : Dev nD) (i : Fin 8) (r : Fin 128) (n : Fin 2048) :
    ∑ k : Fin 512, (xgCh (F := Ideal) m ρ c i.val (ix2 r k) : EReal) * wCh (F := Ideal) m c i.val (ix3 0 k n)
      = ∑ j : Fin 512, (fun k : Fin 4096 => X (ix2 (wholeRow c r) k) * W (ix2 k n))
          ⟨i.val * 512 + j.val, by have := i.isLt; have := j.isLt; omega⟩ := by
  refine Finset.sum_congr rfl fun j _ => ?_
  have hj : (i.val * 512 + j.val) % 4096 = i.val * 512 + j.val := by have := i.isLt; have := j.isLt; omega
  have e : (⟨(i.val * 512 + j.val) % 4096, Nat.mod_lt _ (by decide)⟩ : Fin 4096) = ⟨i.val * 512 + j.val, by have := i.isLt; have := j.isLt; omega⟩ := Fin.ext hj
  have ha : xgCh (F := Ideal) m ρ c i.val (ix2 r j) = X (ix2 (wholeRow c r) ⟨i.val * 512 + j.val, by have := i.isLt; have := j.isLt; omega⟩) := by
    show xgF (F := Ideal) m ρ c (Shape.pair r (⟨(i.val * 512 + j.val) % 4096, Nat.mod_lt _ (by decide)⟩ : Fin 4096)) = _
    rw [e, pair_ix, xg_apply ρ H]
  have hb : wCh (F := Ideal) m c i.val (ix3 0 j n) = W (ix2 ⟨i.val * 512 + j.val, by have := i.isLt; have := j.isLt; omega⟩ n) := by
    show wv (F := Ideal) m c (Shape.pair (⟨(i.val * 512 + j.val) % 4096, Nat.mod_lt _ (by decide)⟩ : Fin 4096) n) = _
    rw [e, pair_ix]
    exact congrFun (H c).2 _
  rw [ha, hb]

/-- Device `c`'s product is its rows of the whole product. -/
theorem y7_apply (c : Dev nD) (r : Fin 128) (n : Fin 2048) :
    y7 (F := Ideal) m ρ c (ix2 r n) = prod X W (wholeRow c r) n := by
  obtain ⟨e4, e5, e6, e7, e8, e9⟩ := pays_same
  unfold y7 y6 y5 y4 y3 y2 y1 y0 prod
  rw [e4, e5, e6, e7, e8, e9]
  rw [pay3_apply, pay3_apply, pay3_apply, pay3_apply, pay3_apply, pay3_apply, pay3_apply, pay2_apply]
  rw [sum_chunks, Fin.sum_univ_eight]
  have h := fun i => chunk_sum ρ H c i r n
  rw [← h 0, ← h 1, ← h 2, ← h 3, ← h 4, ← h 5, ← h 6, ← h 7]
  rfl

/-- The maxima buffer, the same on every device, holds at row `d` the greatest element of device `d`'s rows of the whole product, or zero. -/
theorem am_apply (d : Fin 32) (l : Fin 128) :
    amF (F := Ideal) m ρ (ix2 d l)
      = max (Finset.univ.fold max (⊥ : EReal) fun p : Fin 128 × Fin 2048 => prod X W (wholeRow d p.1) p.2) 0 := by
  show amRowOf (F := Ideal) m ρ (tgt 0 d.val) (Shape.pair (0 : Fin 1) l) = _
  have hd : tgt 0 d.val = d := tgt_zero_left d d.val 0 (by omega)
  rw [hd, pair_ix]
  unfold amRowOf
  rw [pay10_apply, word_ninf]
  refine congrArg (fun f => max (Finset.univ.fold max (⊥ : EReal) f) 0) (funext fun p => ?_)
  exact y7_apply ρ H d p.1 p.2

end

end Cert.KValue

end
-- ==== Proof.Values.lean ====
/-
# The kernel computes the reference

Over the extended reals: every device's maximum over the maxima buffer is the reference's maximum over the whole product,
so the result rows of a device are its rows of the reference's result; and the claim that states this of the two programs.
-/
module

public import proofs.«01_k».proof.Defs
public import proofs.«01_k».proof.Proof.Blocks
public import proofs.«01_k».proof.Proof.Gen.ReferenceIdeal.Value

@[expose] public section

noncomputable section

namespace Cert.KValue

open Cert.KernelIdeal Cert.KernelIdeal.Gen Cert.KProof
open Idealize.ShloMosaic Idealize.ShloMosaic.TcCoe Idealize.SL.Sem

open scoped BigOperators

variable (X : (⟨2, ![4096, 4096]⟩ : Shape).Idx → EReal) (W : (⟨2, ![4096, 2048]⟩ : Shape).Idx → EReal)

/-- A value below one of the terms is below their maximum. -/
theorem le_most {ι : Type} [Fintype ι] (f : ι → EReal) (p : ι) {v : EReal} (h : v ≤ f p) :
    v ≤ Finset.univ.fold max (⊥ : EReal) f :=
  (Finset.le_fold_max _).mpr (Or.inr ⟨p, Finset.mem_univ _, h⟩)

/-- A bound of every term bounds their maximum. -/
theorem most_le {ι : Type} [Fintype ι] (f : ι → EReal) {v : EReal} (h : ∀ p, f p ≤ v) :
    Finset.univ.fold max (⊥ : EReal) f ≤ v :=
  (Finset.fold_max_le _).mpr ⟨bot_le, fun p _ => h p⟩

/-- The reference's maximum of the whole product after the ReLU. -/
def amax : EReal :=
  Finset.univ.fold max (⊥ : EReal) fun p : Fin 4096 × Fin 2048 => max (prod X W p.1 p.2) 0

/-- It is not negative. -/
theorem amax_nonneg : 0 ≤ amax X W :=
  le_most (fun p : Fin 4096 × Fin 2048 => max (prod X W p.1 p.2) 0) (⟨0, by omega⟩, ⟨0, by omega⟩) (le_max_right _ _)

/-- The absolute value of a value that is not negative is that value. -/
theorem abs_relu (y : EReal) : (FloatOps.absf (F := Ideal) (φ := .f32) (max y 0) : EReal) = max y 0 := by
  show max (max y 0) (-(max y 0)) = max y 0
  refine max_eq_left ?_
  have h : (0 : EReal) ≤ max y 0 := le_max_right _ _
  exact le_trans (by simpa using EReal.neg_le_neg_iff.mpr h) h

/-- What the reference's payload holds at an index. -/
theorem ref_apply (r : Fin 4096) (n : Fin 2048) :
    Cert.ReferenceIdeal.Gen.k0_pay1 (F := Ideal) X W (ix2 r n) = quantR (amax X W) (max (prod X W r n) 0) := by
  have h : (Finset.univ.fold max (Ideal.ofBits .f32 0xFF800000#32)
      fun p : Fin 4096 × Fin 2048 => (FloatOps.absf (F := Ideal) (φ := .f32) (max (∑ k, X (ix2 p.1 k) * W (ix2 k p.2)) 0) : EReal)) = amax X W := by
    rw [word_ninf]
    exact congrArg (Finset.univ.fold max (⊥ : EReal)) (funext fun p => abs_relu _)
  unfold quantR
  rw [← h, ← word_top, ← word_bot]
  unfold prod
  pointwise [Cert.ReferenceIdeal.Gen.k0_pay1]

/-- The row of the whole array `r` is row `r % 128` of block `r / 128`. -/
theorem wholeRow_split (r : Fin 4096) :
    wholeRow ⟨r.val / 128, by have := r.isLt; omega⟩ ⟨r.val % 128, Nat.mod_lt _ (by decide)⟩ = r := by
  apply Fin.ext
  show r.val / 128 * 128 + r.val % 128 = r.val
  omega

section

variable {X W}
variable {m : (ℓ : Loc nD τ sig) → Buf (Elt Ideal) ℓ} (ρ : Dev nD → PrngReg) (H : Holds m X W)
include H

/-- The greatest element of the maxima buffer is the reference's maximum. -/
theorem top_eq : top (amF (F := Ideal) m ρ) = amax X W := by
  unfold top
  rw [word_ninf]
  apply le_antisymm
  · refine most_le _ fun p => ?_
    rw [am_apply ρ H p.1 p.2]
    exact max_le (most_le _ fun q => le_most (fun p : Fin 4096 × Fin 2048 => max (prod X W p.1 p.2) 0)
      (wholeRow p.1 q.1, q.2) (le_max_left _ _)) (amax_nonneg X W)
  · refine most_le _ fun p => ?_
    refine le_most (fun q : Fin 32 × Fin 128 => (amF (F := Ideal) m ρ (ix2 q.1 q.2) : EReal))
      (⟨p.1.val / 128, by have := p.1.isLt; omega⟩, ⟨0, by omega⟩) ?_
    show _ ≤ (amF (F := Ideal) m ρ (ix2 _ _) : EReal)
    rw [am_apply ρ H]
    refine max_le_max ?_ le_rfl
    refine le_most (fun q : Fin 128 × Fin 2048 => prod X W (wholeRow ⟨p.1.val / 128, by have := p.1.isLt; omega⟩ q.1) q.2)
      (⟨p.1.val % 128, Nat.mod_lt _ (by decide)⟩, p.2) ?_
    show _ ≤ prod X W (wholeRow _ ⟨p.1.val % 128, _⟩) p.2
    rw [wholeRow_split]

/-- Device `c`'s result rows are its rows of the reference's result. -/
theorem out_apply (c : Dev nD) (r : Fin 128) (n : Fin 2048) :
    outAt (F := Ideal) m ρ c (ix2 r n) = Cert.ReferenceIdeal.Gen.k0_pay1 (F := Ideal) X W (ix2 (wholeRow c r) n) := by
  unfold outAt
  rw [pay12_apply, top_eq ρ H, y7_apply ρ H, ref_apply]
  exact quant_eq _ _ (amax_nonneg X W) (le_max_right _ _)

/-- The same of whole blocks. -/
theorem out_eq (c : Dev nD) :
    outAt (F := Ideal) m ρ c = Layout.block ⟨2, ![128, 2048]⟩ ⟨2, ![4096, 2048]⟩ 0 32 c (Cert.ReferenceIdeal.Gen.k0_pay1 (F := Ideal) X W) := by
  funext i
  obtain ⟨r, n, rfl⟩ : ∃ (r : Fin 128) (n : Fin 2048), i = ix2 r n := ⟨i 0, i 1, by
    funext a
    match a with
    | ⟨0, _⟩ => rfl
    | ⟨1, _⟩ => rfl⟩
  rw [out_apply ρ H, Layout.block_apply]
  refine congrArg _ ?_
  have hv := Layout.idx_rows_val (k := 32) (dS := ![128, 2048]) (dT := ![4096, 2048]) (by decide) c (ix2 r n)
  funext a
  match a with
  | ⟨0, _⟩ => exact Fin.ext hv.1.symm
  | ⟨1, _⟩ => exact Fin.ext hv.2.symm

end

section

variable {F : FTy → Type} [FloatOps F] (m : (ℓ : Loc nD τ sig) → Buf (Elt F) ℓ) (ρ : Dev nD → PrngReg)

/-- The result array ends as the body left its staging buffer. -/
theorem finalA_out (c : Dev nD) : finalA m ρ c (1 : Fin 2) = outAt m ρ c := by
  have hz : (fun a => (win0_1.index (0 : Fin 1)) a * main_v1.ty.shape.size a) = fun _ => 0 :=
    funext fun a => by fin_cases a <;> decide
  refine (Memref.read_access_unit_zero (Elt F) main_v1 hz (fun a => by fin_cases a <;> decide) (finalA m ρ c (1 : Fin 2))).symm.trans ?_
  show (win0_1.blk (0 : Fin 1)).view.read (Elt F) (finalA m ρ c (1 : Fin 2)) = outAt m ρ c
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

end

/-- The kernel on 32 devices, run on the blocks of the whole arrays, leaves on each device its block of what the reference,
    run on the whole arrays, returns; both leave their arguments alone. -/
theorem algebraic : Cert.algebraic_KernelIdeal_ReferenceIdeal (hKernelIdeal := Cert.KernelIdeal.Gen.facts)
    (hReferenceIdeal := Cert.ReferenceIdeal.Gen.facts) := fun m g m' g' _ H =>
  ⟨_, (θ_run (defs (F := Ideal)) _ _).mono (fun r h c =>
      ⟨(((h.1 c).1 (1 : Fin 2)).trans (finalA_out m g c)).trans (out_eq g H c),
        ((h.1 c).1 (0 : Fin 2)).trans (finalA_x m g c), (h.1 c).2⟩) (run_main m g),
    (θ_run (Cert.ReferenceIdeal.defs (F := Ideal)) _ _).mono (fun r h => h 0) (Cert.ReferenceIdeal.Value.run (F := Ideal) m' g')⟩

end Cert.KValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.KProof.quiescent_printed, Cert.KProof.quiescent_ideal,
    fun m ρ _ => Cert.ReferenceIdeal.Gen.frame m ρ, trivial, Cert.KValue.algebraic⟩

end Cert.Proof

end
